-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "q_scale" .f32 0x3E38AA3B#32 (((8 * (Real.log 2))⁻¹ : ℝ) : EReal)
  ∧ IdealRules.named_const.Statement Cert.KernelIdeal.κ "mask" .f32 0xF149F2CA#32 ⊥

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S8x8192x1024 : Shape := ⟨3, ![8, 8192, 1024]⟩
abbrev S1x1024 : Shape := ⟨2, ![1, 1024]⟩
abbrev S1x1024x3072 : Shape := ⟨3, ![1, 1024, 3072]⟩
abbrev S1x4x128x128 : Shape := ⟨4, ![1, 4, 128, 128]⟩
abbrev S1x512 : Shape := ⟨2, ![1, 512]⟩
abbrev S1x8x129 : Shape := ⟨3, ![1, 8, 129]⟩
abbrev S1x1024x1024 : Shape := ⟨3, ![1, 1024, 1024]⟩
abbrev S1024 : Shape := ⟨1, ![1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x3072 : S_.BroadcastsInDim S1x1024x3072 (![] : Fin 0 → Fin S1x1024x3072.rank)
  reducesTo_S1x1024x3072_S_d0_1_2 : S1x1024x3072.ReducesTo [0, 1, 2] S_
  bcast_S_S1x8x129 : S_.BroadcastsInDim S1x8x129 (![] : Fin 0 → Fin S1x8x129.rank)
  reducesTo_S1x8x129_S_d0_1_2 : S1x8x129.ReducesTo [0, 1, 2] S_

variable [Facts]

def fn {F : FTy → Type} [FloatOps F] (main_arg0 : FVec F S8x8192x1024 .f32) (main_arg1 : FVec F S1x1024 .f32) (main_arg2 : FVec F S1x1024x3072 .f32) (main_arg3 : FVec F S1x4x128x128 .f32) (main_arg4 : FVec F S1x512 .f32) (main_arg5 : FVec F S1x8x129 .f32) (main_arg6 : FVec F S1x1024x1024 .f32) (main_arg7 : FVec F S1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x3072 .f32 := Host.absf main_arg2
  let main_cst_0 : FVec F S_ .f32 := constant S_ .f32 0x7F800000#32
  let main_v5 : FVec F S1x1024x3072 .f32 := broadcastInDim S1x1024x3072 ![] bcast_S_S1x1024x3072 main_cst_0
  let main_v6 : IVec S1x1024x3072 1 := cmpf .olt main_v4 main_v5
  let main_c_1 : IVec S_ 1 := constantI S_ 1 1#1
  let main_v7 : IVec S_ 1 := (fun x v => Host.reduce IntOp.andi x v reducesTo_S1x1024x3072_S_d0_1_2 h_S_) main_v6 main_c_1
  let main_v8 : IVec S_ 1 := andi main_v3 main_v7
  let main_v9 : FVec F S1x8x129 .f32 := Host.absf main_arg5
  let main_cst_2 : FVec F S_ .f32 := constant S_ .f32 0x7F800000#32
  let main_v10 : FVec F S1x8x129 .f32 := broadcastInDim S1x8x129 ![] bcast_S_S1x8x129 main_cst_2
  let main_v11 : IVec S1x8x129 1 := cmpf .olt main_v9 main_v10
  let main_c_3 : IVec S_ 1 := constantI S_ 1 1#1
  let main_v12 : IVec S_ 1 := (fun x v => Host.reduce IntOp.andi x v reducesTo_S1x8x129_S_d0_1_2 h_S_) main_v11 main_c_3
  let main_v13 : IVec S_ 1 := andi main_v8 main_v12
  main_v13
-- ==== Kernel.lean ====
abbrev S8x8192x1024 : Shape := ⟨3, ![8, 8192, 1024]⟩
abbrev S1x1024 : Shape := ⟨2, ![1, 1024]⟩
abbrev S1x1024x3072 : Shape := ⟨3, ![1, 1024, 3072]⟩
abbrev S1x4x128x128 : Shape := ⟨4, ![1, 4, 128, 128]⟩
abbrev S1x512 : Shape := ⟨2, ![1, 512]⟩
abbrev S1x8x129 : Shape := ⟨3, ![1, 8, 129]⟩
abbrev S1x1024x1024 : Shape := ⟨3, ![1, 1024, 1024]⟩
abbrev S1024 : Shape := ⟨1, ![1024]⟩
abbrev S1024x3072 : Shape := ⟨2, ![1024, 3072]⟩
abbrev S1024x1024 : Shape := ⟨2, ![1024, 1024]⟩
abbrev S4x128x128 : Shape := ⟨3, ![4, 128, 128]⟩
abbrev S8x129 : Shape := ⟨2, ![8, 129]⟩
abbrev S1024x2048 : Shape := ⟨2, ![1024, 2048]⟩
abbrev S4x192x256 : Shape := ⟨3, ![4, 192, 256]⟩
abbrev S512 : Shape := ⟨1, ![512]⟩
abbrev S128x3072 : Shape := ⟨2, ![128, 3072]⟩
abbrev S128x1024 : Shape := ⟨2, ![128, 1024]⟩
abbrev S128x2048 : Shape := ⟨2, ![128, 2048]⟩
abbrev S1024x128 : Shape := ⟨2, ![1024, 128]⟩
abbrev S128x512 : Shape := ⟨2, ![128, 512]⟩
abbrev S192x128 : Shape := ⟨2, ![192, 128]⟩
abbrev S1x128 : Shape := ⟨2, ![1, 128]⟩
abbrev S1x1 : Shape := ⟨2, ![1, 1]⟩
abbrev S192x128x1 : Shape := ⟨3, ![192, 128, 1]⟩
abbrev S1x192x128 : Shape := ⟨3, ![1, 192, 128]⟩
abbrev S1536x512 : Shape := ⟨2, ![1536, 512]⟩
abbrev S1536x128 : Shape := ⟨2, ![1536, 128]⟩
abbrev S12x512x128 : Shape := ⟨3, ![12, 512, 128]⟩
abbrev S8x4x128x256 : Shape := ⟨4, ![8, 4, 128, 256]⟩
abbrev S1024x512 : Shape := ⟨2, ![1024, 512]⟩
abbrev S1040x512 : Shape := ⟨2, ![1040, 512]⟩
abbrev S4x640x256 : Shape := ⟨3, ![4, 640, 256]⟩
abbrev S4x1x256 : Shape := ⟨3, ![4, 1, 256]⟩
abbrev S16x512 : Shape := ⟨2, ![16, 512]⟩
abbrev S512x512 : Shape := ⟨2, ![512, 512]⟩
abbrev S512x128 : Shape := ⟨2, ![512, 128]⟩
abbrev S1x512x128 : Shape := ⟨3, ![1, 512, 128]⟩
abbrev S1024x1 : Shape := ⟨2, ![1024, 1]⟩
abbrev S256x1024 : Shape := ⟨2, ![256, 1024]⟩
abbrev S256x512 : Shape := ⟨2, ![256, 512]⟩
abbrev S512x1024 : Shape := ⟨2, ![512, 1024]⟩
abbrev S128x128 : Shape := ⟨2, ![128, 128]⟩
abbrev S128x256 : Shape := ⟨2, ![128, 256]⟩
abbrev S1x1x128x256 : Shape := ⟨4, ![1, 1, 128, 256]⟩
abbrev S528x128 : Shape := ⟨2, ![528, 128]⟩
abbrev S16x1 : Shape := ⟨2, ![16, 1]⟩
abbrev S16x128 : Shape := ⟨2, ![16, 128]⟩
abbrev S496x128 : Shape := ⟨2, ![496, 128]⟩
abbrev S1x128x128 : Shape := ⟨3, ![1, 128, 128]⟩
abbrev S64x256 : Shape := ⟨2, ![64, 256]⟩
abbrev S640x128 : Shape := ⟨2, ![640, 128]⟩
abbrev S640x256 : Shape := ⟨2, ![640, 256]⟩
abbrev S256x256 : Shape := ⟨2, ![256, 256]⟩
abbrev S1x192x256 : Shape := ⟨3, ![1, 192, 256]⟩
abbrev S192x256 : Shape := ⟨2, ![192, 256]⟩
abbrev S320x256 : Shape := ⟨2, ![320, 256]⟩
abbrev S1x320x256 : Shape := ⟨3, ![1, 320, 256]⟩
abbrev S256 : Shape := ⟨1, ![256]⟩
abbrev S1x256 : Shape := ⟨2, ![1, 256]⟩
abbrev S1x1x256 : Shape := ⟨3, ![1, 1, 256]⟩
abbrev S1x640x256 : Shape := ⟨3, ![1, 640, 256]⟩
abbrev S128x640 : Shape := ⟨2, ![128, 640]⟩
abbrev S64x128 : Shape := ⟨2, ![64, 128]⟩
abbrev S1x256x256 : Shape := ⟨3, ![1, 256, 256]⟩
abbrev S1024x256 : Shape := ⟨2, ![1024, 256]⟩
abbrev S1x256x1024 : Shape := ⟨3, ![1, 256, 1024]⟩
abbrev S256x1 : Shape := ⟨2, ![256, 1]⟩

abbrev nBuf : Space → Nat
  | .hbm => 23
  | .vmem => 37
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x3072, .f32⟩
  | .hbm, ⟨3, _⟩ => ⟨S1x4x128x128, .f32⟩
  | .hbm, ⟨4, _⟩ => ⟨S1x512, .f32⟩
  | .hbm, ⟨5, _⟩ => ⟨S1x8x129, .f32⟩
  | .hbm, ⟨6, _⟩ => ⟨S1x1024x1024, .f32⟩
  | .hbm, ⟨7, _⟩ => ⟨S1024, .f32⟩
  | .hbm, ⟨8, _⟩ => ⟨S1024x3072, .f32⟩
  | .hbm, ⟨9, _⟩ => ⟨S1024x1024, .f32⟩
  | .hbm, ⟨10, _⟩ => ⟨S4x128x128, .f32⟩
  | .hbm, ⟨11, _⟩ => ⟨S8x129, .f32⟩
  | .hbm, ⟨12, _⟩ => ⟨S1024x2048, .bf16⟩
  | .hbm, ⟨13, _⟩ => ⟨S1024x1024, .bf16⟩
  | .hbm, ⟨14, _⟩ => ⟨S1024x1024, .bf16⟩
  | .hbm, ⟨15, _⟩ => ⟨S4x128x128, .bf16⟩
  | .hbm, ⟨16, _⟩ => ⟨S4x192x256, .f32⟩
  | .hbm, ⟨17, _⟩ => ⟨S1024, .f32⟩
  | .hbm, ⟨18, _⟩ => ⟨S1x1024, .f32⟩
  | .hbm, ⟨19, _⟩ => ⟨S512, .f32⟩
  | .hbm, ⟨20, _⟩ => ⟨S1x512, .f32⟩
  | .hbm, ⟨21, _⟩ => ⟨S1x1024, .f32⟩
  | .hbm, ⟨22, _⟩ => ⟨S8x8192x1024, .f32⟩
  | .local _ .vmem, ⟨0, _⟩ => ⟨S128x3072, .f32⟩
  | .local _ .vmem, ⟨1, _⟩ => ⟨S128x3072, .f32⟩
  | .local _ .vmem, ⟨2, _⟩ => ⟨S128x1024, .f32⟩
  | .local _ .vmem, ⟨3, _⟩ => ⟨S128x1024, .f32⟩
  | .local _ .vmem, ⟨4, _⟩ => ⟨S4x128x128, .f32⟩
  | .local _ .vmem, ⟨5, _⟩ => ⟨S8x129, .f32⟩
  | .local _ .vmem, ⟨6, _⟩ => ⟨S128x2048, .bf16⟩
  | .local _ .vmem, ⟨7, _⟩ => ⟨S128x2048, .bf16⟩
  | .local _ .vmem, ⟨8, _⟩ => ⟨S1024x128, .bf16⟩
  | .local _ .vmem, ⟨9, _⟩ => ⟨S1024x128, .bf16⟩
  | .local _ .vmem, ⟨10, _⟩ => ⟨S128x1024, .bf16⟩
  | .local _ .vmem, ⟨11, _⟩ => ⟨S128x1024, .bf16⟩
  | .local _ .vmem, ⟨12, _⟩ => ⟨S4x128x128, .bf16⟩
  | .local _ .vmem, ⟨13, _⟩ => ⟨S4x192x256, .f32⟩
  | .local _ .vmem, ⟨14, _⟩ => ⟨S1x1024x1024, .f32⟩
  | .local _ .vmem, ⟨15, _⟩ => ⟨S1x1024x1024, .f32⟩
  | .local _ .vmem, ⟨16, _⟩ => ⟨S1x1024, .f32⟩
  | .local _ .vmem, ⟨17, _⟩ => ⟨S1024x2048, .bf16⟩
  | .local _ .vmem, ⟨18, _⟩ => ⟨S1024x1024, .bf16⟩
  | .local _ .vmem, ⟨19, _⟩ => ⟨S4x128x128, .bf16⟩
  | .local _ .vmem, ⟨20, _⟩ => ⟨S1x512, .f32⟩
  | .local _ .vmem, ⟨21, _⟩ => ⟨S4x192x256, .f32⟩
  | .local _ .vmem, ⟨22, _⟩ => ⟨S1024x1024, .bf16⟩
  | .local _ .vmem, ⟨23, _⟩ => ⟨S1x1024, .f32⟩
  | .local _ .vmem, ⟨24, _⟩ => ⟨S1x1024x1024, .f32⟩
  | .local _ .vmem, ⟨25, _⟩ => ⟨S1x1024x1024, .f32⟩
  | .local _ .vmem, ⟨26, _⟩ => ⟨S1024x1024, .bf16⟩
  | .local _ .vmem, ⟨27, _⟩ => ⟨S1536x512, .bf16⟩
  | .local _ .vmem, ⟨28, _⟩ => ⟨S1536x128, .bf16⟩
  | .local _ .vmem, ⟨29, _⟩ => ⟨S12x512x128, .bf16⟩
  | .local _ .vmem, ⟨30, _⟩ => ⟨S8x4x128x256, .bf16⟩
  | .local _ .vmem, ⟨31, _⟩ => ⟨S1024x512, .f32⟩
  | .local _ .vmem, ⟨32, _⟩ => ⟨S1024x512, .f32⟩
  | .local _ .vmem, ⟨33, _⟩ => ⟨S1024x1024, .bf16⟩
  | .local _ .vmem, ⟨34, _⟩ => ⟨S1040x512, .f32⟩
  | .local _ .vmem, ⟨35, _⟩ => ⟨S4x640x256, .f32⟩
  | .local _ .vmem, ⟨36, _⟩ => ⟨S4x1x256, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4_0 : Ref sig .tc := ⟨.hbm, 12, rfl⟩
abbrev main_call0_v4_1 : Ref sig .tc := ⟨.hbm, 13, rfl⟩
abbrev main_call0_v4_2 : Ref sig .tc := ⟨.hbm, 14, rfl⟩
abbrev main_call0_v4_3 : Ref sig .tc := ⟨.hbm, 15, rfl⟩
abbrev main_call0_v4_4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc1_scratch3 : Ref sig .tc := ⟨.vmem, 29, rfl⟩
abbrev cc1_scratch4 : Ref sig .tc := ⟨.vmem, 30, rfl⟩
abbrev cc1_scratch5 : Ref sig .tc := ⟨.vmem, 31, rfl⟩
abbrev cc1_scratch6 : Ref sig .tc := ⟨.vmem, 32, rfl⟩
abbrev cc1_scratch7 : Ref sig .tc := ⟨.vmem, 33, rfl⟩
abbrev cc1_scratch8 : Ref sig .tc := ⟨.vmem, 34, rfl⟩
abbrev cc1_scratch9 : Ref sig .tc := ⟨.vmem, 35, rfl⟩
abbrev cc1_scratch10 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x129 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x192x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4x128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S4x192x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x1024x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "q_scale" => some (((8 * (Real.log 2))⁻¹ : ℝ) : EReal)
  | _ => none
-- ==== ReferenceIdeal.lean ====
abbrev S8x8192x1024 : Shape := ⟨3, ![8, 8192, 1024]⟩
abbrev S1x1024 : Shape := ⟨2, ![1, 1024]⟩
abbrev S1x1024x3072 : Shape := ⟨3, ![1, 1024, 3072]⟩
abbrev S1x4x128x128 : Shape := ⟨4, ![1, 4, 128, 128]⟩
abbrev S1x512 : Shape := ⟨2, ![1, 512]⟩
abbrev S1x8x129 : Shape := ⟨3, ![1, 8, 129]⟩
abbrev S1x1024x1024 : Shape := ⟨3, ![1, 1024, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x3072 : Shape := ⟨2, ![1024, 3072]⟩
abbrev S8x8192x3072 : Shape := ⟨3, ![8, 8192, 3072]⟩
abbrev S8x8192x512 : Shape := ⟨3, ![8, 8192, 512]⟩
abbrev S8x8192x8x64 : Shape := ⟨4, ![8, 8192, 8, 64]⟩
abbrev S4x128x128 : Shape := ⟨3, ![4, 128, 128]⟩
abbrev S512 : Shape := ⟨1, ![512]⟩
abbrev S8192 : Shape := ⟨1, ![8192]⟩
abbrev S8x8192x128 : Shape := ⟨3, ![8, 8192, 128]⟩
abbrev S1x8192x1 : Shape := ⟨3, ![1, 8192, 1]⟩
abbrev S1x128x128 : Shape := ⟨3, ![1, 128, 128]⟩
abbrev S128x128 : Shape := ⟨2, ![128, 128]⟩
abbrev S1x1x512 : Shape := ⟨3, ![1, 1, 512]⟩
abbrev S8x129 : Shape := ⟨2, ![8, 129]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S8x8192x8192 : Shape := ⟨3, ![8, 8192, 8192]⟩
abbrev S8x8x8192x8192 : Shape := ⟨4, ![8, 8, 8192, 8192]⟩
abbrev S1x8x8192x8192 : Shape := ⟨4, ![1, 8, 8192, 8192]⟩
abbrev S1x1x8192x8192 : Shape := ⟨4, ![1, 1, 8192, 8192]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩
abbrev S1024x1024 : Shape := ⟨2, ![1024, 1024]⟩

abbrev nBuf : Space → Nat
  | .hbm => 222
  | .vmem => 0
  | .smem => 0
  | _ => 0

abbrev hbmTy0_0 (i : Nat) : BufTy := match i % 128 with
  | 0 => ⟨S8x8192x1024, .f32⟩
  | 1 => ⟨S1x1024, .f32⟩
  | 2 => ⟨S1x1024x3072, .f32⟩
  | 3 => ⟨S1x4x128x128, .f32⟩
  | 4 => ⟨S1x512, .f32⟩
  | 5 => ⟨S1x8x129, .f32⟩
  | 6 => ⟨S1x1024x1024, .f32⟩
  | 7 => ⟨S1024, .f32⟩
  | 8 => ⟨S1024, .f32⟩
  | 9 => ⟨S8x8192x1024, .f32⟩
  | 10 => ⟨S_, .f32⟩
  | 11 => ⟨S8x8192, .f32⟩
  | 12 => ⟨S8x8192x1, .f32⟩
  | 13 => ⟨S_, .f32⟩
  | 14 => ⟨S8x8192x1, .f32⟩
  | 15 => ⟨S8x8192x1, .f32⟩
  | 16 => ⟨S_, .f32⟩
  | 17 => ⟨S8x8192x1, .f32⟩
  | 18 => ⟨S8x8192x1, .f32⟩
  | 19 => ⟨S8x8192x1, .f32⟩
  | 20 => ⟨S8x8192x1024, .f32⟩
  | 21 => ⟨S8x8192x1024, .f32⟩
  | 22 => ⟨S1x1x1024, .f32⟩
  | 23 => ⟨S8x8192x1024, .f32⟩
  | 24 => ⟨S8x8192x1024, .f32⟩
  | 25 => ⟨S1024x3072, .f32⟩
  | 26 => ⟨S8x8192x3072, .f32⟩
  | 27 => ⟨S8x8192x512, .f32⟩
  | 28 => ⟨S8x8192x512, .f32⟩
  | 29 => ⟨S8x8192x512, .f32⟩
  | 30 => ⟨S8x8192x8x64, .f32⟩
  | 31 => ⟨S8x8192x512, .f32⟩
  | 32 => ⟨S8x8192x8x64, .f32⟩
  | 33 => ⟨S8x8192x512, .f32⟩
  | 34 => ⟨S8x8192x8x64, .f32⟩
  | 35 => ⟨S8x8192x512, .f32⟩
  | 36 => ⟨S4x128x128, .f32⟩
  | 37 => ⟨S512, .f32⟩
  | 38 => ⟨S8192, .i32⟩
  | 39 => ⟨S8x8192x128, .f32⟩
  | 40 => ⟨S_, .f32⟩
  | 41 => ⟨S_, .f32⟩
  | 42 => ⟨S8x8192x128, .f32⟩
  | 43 => ⟨S_, .i32⟩
  | 44 => ⟨S8192, .i32⟩
  | 45 => ⟨S8192, .i32⟩
  | 46 => ⟨S_, .i32⟩
  | 47 => ⟨S8192, .i32⟩
  | 48 => ⟨S8192, .i32⟩
  | 49 => ⟨S8192, .f32⟩
  | 50 => ⟨S1x8192x1, .f32⟩
  | 51 => ⟨S8x8192x128, .f32⟩
  | 52 => ⟨S8x8192x128, .f32⟩
  | 53 => ⟨S8x8192x128, .f32⟩
  | 54 => ⟨S1x128x128, .f32⟩
  | 55 => ⟨S128x128, .f32⟩
  | 56 => ⟨S8x8192x128, .f32⟩
  | 57 => ⟨S8x8192x128, .f32⟩
  | 58 => ⟨S_, .f32⟩
  | 59 => ⟨S_, .f32⟩
  | 60 => ⟨S8x8192x128, .f32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S8192, .f32⟩
  | 68 => ⟨S1x8192x1, .f32⟩
  | 69 => ⟨S8x8192x128, .f32⟩
  | 70 => ⟨S8x8192x128, .f32⟩
  | 71 => ⟨S8x8192x128, .f32⟩
  | 72 => ⟨S1x128x128, .f32⟩
  | 73 => ⟨S128x128, .f32⟩
  | 74 => ⟨S8x8192x128, .f32⟩
  | 75 => ⟨S8x8192x128, .f32⟩
  | 76 => ⟨S_, .f32⟩
  | 77 => ⟨S_, .f32⟩
  | 78 => ⟨S8x8192x128, .f32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S8192, .f32⟩
  | 86 => ⟨S1x8192x1, .f32⟩
  | 87 => ⟨S8x8192x128, .f32⟩
  | 88 => ⟨S8x8192x128, .f32⟩
  | 89 => ⟨S8x8192x128, .f32⟩
  | 90 => ⟨S1x128x128, .f32⟩
  | 91 => ⟨S128x128, .f32⟩
  | 92 => ⟨S8x8192x128, .f32⟩
  | 93 => ⟨S8x8192x128, .f32⟩
  | 94 => ⟨S_, .f32⟩
  | 95 => ⟨S_, .f32⟩
  | 96 => ⟨S8x8192x128, .f32⟩
  | 97 => ⟨S_, .i32⟩
  | 98 => ⟨S8192, .i32⟩
  | 99 => ⟨S8192, .i32⟩
  | 100 => ⟨S_, .i32⟩
  | 101 => ⟨S8192, .i32⟩
  | 102 => ⟨S8192, .i32⟩
  | 103 => ⟨S8192, .f32⟩
  | 104 => ⟨S1x8192x1, .f32⟩
  | 105 => ⟨S8x8192x128, .f32⟩
  | 106 => ⟨S8x8192x128, .f32⟩
  | 107 => ⟨S8x8192x128, .f32⟩
  | 108 => ⟨S1x128x128, .f32⟩
  | 109 => ⟨S128x128, .f32⟩
  | 110 => ⟨S8x8192x128, .f32⟩
  | 111 => ⟨S8x8192x512, .f32⟩
  | 112 => ⟨S1x1x512, .f32⟩
  | 113 => ⟨S8x8192x512, .f32⟩
  | 114 => ⟨S8x8192x512, .f32⟩
  | 115 => ⟨S8x8192x512, .f32⟩
  | 116 => ⟨S8x8192x512, .f32⟩
  | 117 => ⟨S_, .f32⟩
  | 118 => ⟨S8x8192x512, .f32⟩
  | 119 => ⟨S8x8192x512, .f32⟩
  | 120 => ⟨S_, .f32⟩
  | 121 => ⟨S8x8192x512, .f32⟩
  | 122 => ⟨S8x8192x512, .f32⟩
  | 123 => ⟨S8x8192x512, .f32⟩
  | 124 => ⟨S8x8192x512, .f32⟩
  | 125 => ⟨S8x129, .f32⟩
  | 126 => ⟨S8192, .i32⟩
  | 127 => ⟨S8192x1, .i32⟩
  | _ => ⟨S8x8192x1024, .f32⟩

abbrev hbmTy0_1 (i : Nat) : BufTy := match i % 128 with
  | 0 => ⟨S8192, .i32⟩
  | 1 => ⟨S1x8192, .i32⟩
  | 2 => ⟨S8192x8192, .i32⟩
  | 3 => ⟨S8192x8192, .i32⟩
  | 4 => ⟨S8192x8192, .i32⟩
  | 5 => ⟨S_, .i32⟩
  | 6 => ⟨S_, .i32⟩
  | 7 => ⟨S_, .i32⟩
  | 8 => ⟨S8192x8192, .i32⟩
  | 9 => ⟨S8192x8192, .i32⟩
  | 10 => ⟨S_, .i32⟩
  | 11 => ⟨S8192x8192, .i32⟩
  | 12 => ⟨S8192x8192, .i32⟩
  | 13 => ⟨S_, .i32⟩
  | 14 => ⟨S8192x8192, .i32⟩
  | 15 => ⟨S8192x8192, .i32⟩
  | 16 => ⟨S8192x8192x1, .i32⟩
  | 17 => ⟨S8x8192x8192, .f32⟩
  | 18 => ⟨S_, .i32⟩
  | 19 => ⟨S8192x1, .i32⟩
  | 20 => ⟨S8192x1, .i32⟩
  | 21 => ⟨S_, .i32⟩
  | 22 => ⟨S1x8192, .i32⟩
  | 23 => ⟨S1x8192, .i32⟩
  | 24 => ⟨S8192x8192, .i32⟩
  | 25 => ⟨S8192x8192, .i32⟩
  | 26 => ⟨S8192x8192, .i32⟩
  | 27 => ⟨S_, .i32⟩
  | 28 => ⟨S8192x8192, .i32⟩
  | 29 => ⟨S8192x8192, .i1⟩
  | 30 => ⟨S_, .i32⟩
  | 31 => ⟨S8192x8192, .i32⟩
  | 32 => ⟨S8192x8192, .i1⟩
  | 33 => ⟨S8192x8192, .i1⟩
  | 34 => ⟨S8x8x8192x8192, .f32⟩
  | 35 => ⟨S_, .f32⟩
  | 36 => ⟨S8x8x8192x8192, .f32⟩
  | 37 => ⟨S8x8x8192x8192, .f32⟩
  | 38 => ⟨S1x8x8192x8192, .f32⟩
  | 39 => ⟨S8x8x8192x8192, .f32⟩
  | 40 => ⟨S8x8x8192x8192, .f32⟩
  | 41 => ⟨S1x1x8192x8192, .i1⟩
  | 42 => ⟨S_, .f32⟩
  | 43 => ⟨S_, .f32⟩
  | 44 => ⟨S8x8x8192x8192, .i1⟩
  | 45 => ⟨S8x8x8192x8192, .f32⟩
  | 46 => ⟨S8x8x8192x8192, .f32⟩
  | 47 => ⟨S_, .f32⟩
  | 48 => ⟨S8x8x8192, .f32⟩
  | 49 => ⟨S_, .f32⟩
  | 50 => ⟨S8x8x8192, .f32⟩
  | 51 => ⟨S8x8x8192, .f32⟩
  | 52 => ⟨S8x8x8192x1, .f32⟩
  | 53 => ⟨S8x8x8192x8192, .f32⟩
  | 54 => ⟨S8x8x8192x8192, .f32⟩
  | 55 => ⟨S8x8x8192x8192, .f32⟩
  | 56 => ⟨S_, .f32⟩
  | 57 => ⟨S8x8x8192, .f32⟩
  | 58 => ⟨S8x8x8192x1, .f32⟩
  | 59 => ⟨S8x8x8192x8192, .f32⟩
  | 60 => ⟨S8x8x8192x8192, .f32⟩
  | 61 => ⟨S8x8x64x8192, .f32⟩
  | 62 => ⟨S8x8192x8x64, .f32⟩
  | 63 => ⟨S8x8192x512, .f32⟩
  | 64 => ⟨S8x8192x512, .f32⟩
  | 65 => ⟨S8x8192x512, .f32⟩
  | 66 => ⟨S_, .f32⟩
  | 67 => ⟨S8x8192x512, .f32⟩
  | 68 => ⟨S8x8192x512, .f32⟩
  | 69 => ⟨S_, .f32⟩
  | 70 => ⟨S8x8192x512, .f32⟩
  | 71 => ⟨S8x8192x512, .f32⟩
  | 72 => ⟨S8x8192x512, .f32⟩
  | 73 => ⟨S8x8192x512, .f32⟩
  | 74 => ⟨S8x8192x1024, .f32⟩
  | 75 => ⟨S1024x1024, .f32⟩
  | 76 => ⟨S8x8192x1024, .f32⟩
  | 77 => ⟨S8x8192x1024, .f32⟩
  | 78 => ⟨S8x8192x1024, .f32⟩
  | 79 => ⟨S_, .f32⟩
  | 80 => ⟨S8x8192, .f32⟩
  | 81 => ⟨S8x8192x1, .f32⟩
  | 82 => ⟨S_, .f32⟩
  | 83 => ⟨S8x8192x1, .f32⟩
  | 84 => ⟨S8x8192x1, .f32⟩
  | 85 => ⟨S_, .f32⟩
  | 86 => ⟨S8x8192x1, .f32⟩
  | 87 => ⟨S8x8192x1, .f32⟩
  | 88 => ⟨S8x8192x1, .f32⟩
  | 89 => ⟨S8x8192x1024, .f32⟩
  | 90 => ⟨S8x8192x1024, .f32⟩
  | 91 => ⟨S1x1x1024, .f32⟩
  | 92 => ⟨S8x8192x1024, .f32⟩
  | 93 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_c_5 : Ref sig .tc := ⟨.hbm, 61, rfl⟩
abbrev main_v46 : Ref sig .tc := ⟨.hbm, 62, rfl⟩
abbrev main_v47 : Ref sig .tc := ⟨.hbm, 63, rfl⟩
abbrev main_c_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_c_8 : Ref sig .tc := ⟨.hbm, 79, rfl⟩
abbrev main_v61 : Ref sig .tc := ⟨.hbm, 80, rfl⟩
abbrev main_v62 : Ref sig .tc := ⟨.hbm, 81, rfl⟩
abbrev main_c_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_10 : Ref sig .tc := ⟨.hbm, 94, rfl⟩
abbrev main_v74 : Ref sig .tc := ⟨.hbm, 95, rfl⟩
abbrev main_v75 : Ref sig .tc := ⟨.hbm, 96, rfl⟩
abbrev main_c_11 : Ref sig .tc := ⟨.hbm, 97, rfl⟩
abbrev main_v76 : Ref sig .tc := ⟨.hbm, 98, rfl⟩
abbrev main_v77 : Ref sig .tc := ⟨.hbm, 99, rfl⟩
abbrev main_c_12 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_call0_v0 : Ref sig .tc := ⟨.hbm, 115, rfl⟩
abbrev main_call0_v1 : Ref sig .tc := ⟨.hbm, 116, rfl⟩
abbrev main_call0_cst : Ref sig .tc := ⟨.hbm, 117, rfl⟩
abbrev main_call0_v2 : Ref sig .tc := ⟨.hbm, 118, rfl⟩
abbrev main_call0_v3 : Ref sig .tc := ⟨.hbm, 119, rfl⟩
abbrev main_call0_cst_0 : Ref sig .tc := ⟨.hbm, 120, rfl⟩
abbrev main_call0_v4 : Ref sig .tc := ⟨.hbm, 121, rfl⟩
abbrev main_call0_v5 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_13 : Ref sig .tc := ⟨.hbm, 133, rfl⟩
abbrev main_c_14 : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_call1_v3 : Ref sig .tc := ⟨.hbm, 138, rfl⟩
abbrev main_call1_v4 : Ref sig .tc := ⟨.hbm, 139, rfl⟩
abbrev main_v102 : Ref sig .tc := ⟨.hbm, 140, rfl⟩
abbrev main_c_15 : Ref sig .tc := ⟨.hbm, 141, rfl⟩
abbrev main_v103 : Ref sig .tc := ⟨.hbm, 142, rfl⟩
abbrev main_v104 : Ref sig .tc := ⟨.hbm, 143, rfl⟩
abbrev main_call2_v0 : Ref sig .tc := ⟨.hbm, 144, rfl⟩
abbrev main_v105 : Ref sig .tc := ⟨.hbm, 145, rfl⟩
abbrev main_c_16 : Ref sig .tc := ⟨.hbm, 146, rfl⟩
abbrev main_v106 : Ref sig .tc := ⟨.hbm, 147, rfl⟩
abbrev main_v107 : Ref sig .tc := ⟨.hbm, 148, rfl⟩
abbrev main_c_17 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_18 : Ref sig .tc := ⟨.hbm, 155, rfl⟩
abbrev main_v113 : Ref sig .tc := ⟨.hbm, 156, rfl⟩
abbrev main_v114 : Ref sig .tc := ⟨.hbm, 157, rfl⟩
abbrev main_c_19 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_20 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_21 : Ref sig .tc := ⟨.hbm, 170, rfl⟩
abbrev main_call3_v0 : Ref sig .tc := ⟨.hbm, 171, rfl⟩
abbrev main_call3_v1 : Ref sig .tc := ⟨.hbm, 172, rfl⟩
abbrev main_call3_v2 : Ref sig .tc := ⟨.hbm, 173, rfl⟩
abbrev main_v125 : Ref sig .tc := ⟨.hbm, 174, rfl⟩
abbrev main_cst_22 : Ref sig .tc := ⟨.hbm, 175, rfl⟩
abbrev main_v126 : Ref sig .tc := ⟨.hbm, 176, rfl⟩
abbrev main_cst_23 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_24 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_call4_v0 : Ref sig .tc := ⟨.hbm, 192, rfl⟩
abbrev main_call4_v1 : Ref sig .tc := ⟨.hbm, 193, rfl⟩
abbrev main_call4_cst : Ref sig .tc := ⟨.hbm, 194, rfl⟩
abbrev main_call4_v2 : Ref sig .tc := ⟨.hbm, 195, rfl⟩
abbrev main_call4_v3 : Ref sig .tc := ⟨.hbm, 196, rfl⟩
abbrev main_call4_cst_0 : Ref sig .tc := ⟨.hbm, 197, rfl⟩
abbrev main_call4_v4 : Ref sig .tc := ⟨.hbm, 198, rfl⟩
abbrev main_call4_v5 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_25 : Ref sig .tc := ⟨.hbm, 207, rfl⟩
abbrev main_v147 : Ref sig .tc := ⟨.hbm, 208, rfl⟩
abbrev main_v148 : Ref sig .tc := ⟨.hbm, 209, rfl⟩
abbrev main_cst_26 : Ref sig .tc := ⟨.hbm, 210, rfl⟩
abbrev main_v149 : Ref sig .tc := ⟨.hbm, 211, rfl⟩
abbrev main_v150 : Ref sig .tc := ⟨.hbm, 212, rfl⟩
abbrev main_cst_27 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩

abbrev nD : Nat := 1
abbrev τ : Topo := Topo.v7x

variable {F : FTy → Type} [FloatOps F]
-- ==== Proof.Cmd.lean ====
/-
  A small language for the kernel functions: a function that only loads rectangles of the buffers it is given and
  stores rectangles into them is a term of `Cmd`, over a family of buffers known by their shapes and element
  types alone. A term has a meaning as a program over whole memrefs of those shapes (`Cmd.denote`) and one as a
  function of the buffers' contents (`Cmd.run`); owning every memref of the family at the contents before, the
  program ends owning them at the contents after (`Cmd.wp_denote`).
-/
module

public import Idealize.ShloMosaic.Lib.Memref
public import Idealize.ShloMosaic.Lib.Tactic
public import Idealize.ShloMosaic.Lib.Exec

@[expose] public section

noncomputable section

namespace Cert.Hybrid

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {B : Type} {sh : B → Shape} {el : B → EltTy} {Val : EltTy → Type}

/-- The contents of every buffer of the family. -/
abbrev St (sh : B → Shape) (el : B → EltTy) (Val : EltTy → Type) : Type := (b : B) → (sh b).Idx → Val (el b)

/-- Loads and stores of rectangles of the family's buffers, in order. -/
inductive Cmd (sh : B → Shape) (el : B → EltTy) (Val : EltTy → Type) (α : Type) : Type
  | ret (a : α)
  | load (b : B) (r : Rect (sh b)) (hp : 0 < r.shape.numel) (k : (r.shape.Idx → Val (el b)) → Cmd sh el Val α)
  | store (b : B) (r : Rect (sh b)) (hp : 0 < r.shape.numel) (hr : r.PackedRows (el b).packing)
      (w : r.shape.Idx → Val (el b)) (k : Cmd sh el Val α)

namespace Cmd

/-- One command after another. -/
def bind {α β : Type} : Cmd sh el Val α → (α → Cmd sh el Val β) → Cmd sh el Val β
  | .ret a, f => f a
  | .load b r hp k, f => .load b r hp fun v => (k v).bind f
  | .store b r hp hr w k, f => .store b r hp hr w (k.bind f)

instance : Monad (Cmd sh el Val) where
  pure := .ret
  bind := .bind

/-- The program a command is over whole memrefs of the family. -/
def denote {nD : ℕ} {τ : Topo} {sig : RefSig} {Λ : Labels} {α : Type} (m : (b : B) → Memref sig .tc .vmem (sh b) (el b))
    (hm : ∀ b, (m b).IsWhole) : Cmd sh el Val α → Prog (TpuEff nD τ sig Val Λ .tc) α
  | .ret a => .ret a
  | .load b r hp k => .op (.load (m b) r.toLoadRect (View.loadsAt_vmem hp)) fun v => (k v).denote m hm
  | .store b r hp hr w k =>
    .op (.store (m b) r w Finset.univ (View.stores_vmem hp ((hm b).storeExact_slice rfl _ hr) fun _ => rfl) (.inl rfl))
      fun _ => k.denote m hm

variable [DecidableEq B]

/-- What a command leaves, and the value it ends with. -/
def run {α : Type} : Cmd sh el Val α → St sh el Val → α × St sh el Val
  | .ret a, σ => (a, σ)
  | .load b r _ k, σ => (k fun i => σ b (r.emb i)).run σ
  | .store b r _ _ w k, σ => k.run (Function.update σ b (r.overlay (σ b) w))

theorem run_bind {α β : Type} (p : Cmd sh el Val α) (f : α → Cmd sh el Val β) (σ : St sh el Val) :
    (p >>= f).run σ = (f (p.run σ).1).run (p.run σ).2 := by
  show (p.bind f).run σ = _
  induction p generalizing σ with
  | ret a => rfl
  | load b r hp k ih => exact ih _ σ
  | store b r hp hr w k ih => exact ih _

/-! ## The rule -/

section Rule

variable [Fintype B] {nD : ℕ} {τ : Topo} {sig : RefSig} {Λ : Labels}
variable {Ix : Type} [DecidableEq Ix] {Name : Type} [DecidableEq Name] {U : Type} [URA U] {Lvl : Type} [Preorder Lvl]

local notation "𝕄" => MT nD τ sig Ix Val Name U Lvl

/-- A store through a rectangle of a memref leaves the memref reading what it read, the rectangle's part replaced. -/
theorem read_access_write {sp : Space} {s : Shape} {e : EltTy} (m : Memref sig .tc sp s e) (r : Rect s)
    (f : m.view.ty.Contents Val) (w : r.shape.Idx → Val e) :
    m.view.read Val ((m.access r).write Val f w Finset.univ) = r.overlay (m.view.read Val f) w := by
  funext j
  by_cases hj : j ∈ r.set
  · rw [← Rect.map_emb_univ, Finset.mem_map] at hj
    obtain ⟨i, -, rfl⟩ := hj
    rw [Rect.overlay_emb]
    exact View.read_slice_write_emb r f w (Finset.mem_univ i)
  · rw [Rect.overlay_of_not_mem _ _ _ hj]
    exact View.read_slice_write_of_not_mem r f w _ (by rwa [Rect.map_emb_univ])

/-- Every memref of the family owned whole at the contents `σ`. -/
abbrev owned (c : Dev nD) (m : (b : B) → Memref sig .tc .vmem (sh b) (el b)) (σ : St sh el Val) : sProp 𝕄 :=
  bigSep Finset.univ fun b => owns (c : Thread nD τ) (m b) fullShare (σ b)

/-- The family's ownership, one buffer apart. -/
theorem owned_split (c : Dev nD) (m : (b : B) → Memref sig .tc .vmem (sh b) (el b)) (σ : St sh el Val) (b : B) :
    (owned c m σ : sProp 𝕄) = iprop(owns (c : Thread nD τ) (m b) fullShare (σ b)
      ∗ bigSep (Finset.univ.erase b) fun b => owns (c : Thread nD τ) (m b) fullShare (σ b)) :=
  bigSep_univ_split b

/-- The other buffers' ownership does not see a change of this one's contents. -/
theorem owned_update (c : Dev nD) (m : (b : B) → Memref sig .tc .vmem (sh b) (el b)) (σ : St sh el Val) (b : B)
    (X : (sh b).Idx → Val (el b)) :
    (owned c m (Function.update σ b X) : sProp 𝕄) = iprop(owns (c : Thread nD τ) (m b) fullShare X
      ∗ bigSep (Finset.univ.erase b) fun b => owns (c : Thread nD τ) (m b) fullShare (σ b)) := by
  rw [owned_split c m _ b, Function.update_self, bigSep_congr (s := Finset.univ.erase b) fun b' hb' =>
    show owns (c : Thread nD τ) (m b') fullShare (Function.update σ b X b') = owns (c : Thread nD τ) (m b') fullShare (σ b') by
      rw [Function.update_of_ne (Finset.ne_of_mem_erase hb')]]

/-- Owning the family at `σ`, the command's program ends owning it at what the command leaves. -/
theorem wp_denote {α : Type} (defs : Defs nD τ sig Val Λ) (𝒱 : Variants) (c : Dev nD) (E : Set Name)
    (m : (b : B) → Memref sig .tc .vmem (sh b) (el b)) (hm : ∀ b, (m b).IsWhole) (p : Cmd sh el Val α)
    (σ : St sh el Val) (Q : α → sProp 𝕄) :
    iprop(owned c m σ ∗ (owned c m (p.run σ).2 -∗ Q (p.run σ).1))
      ⊢ wp frame (wpE defs 𝒱 (c : Thread nD τ) none) E (p.denote m hm) Q := by
  induction p generalizing σ with
  | ret a =>
    simp only [run, denote]
    iintro ⟨H, Hk⟩
    iapply (le_wp_ret _ _ _ a Q)
    iapply Hk
    iexact H
  | load b r hp k ih =>
    simp only [run, denote]
    rw [owned_split c m σ b]
    unfold owns
    iintro ⟨⟨⟨%f, %hf, Hb⟩, Hr⟩, Hk⟩
    iapply (wp_load_rect (defs := defs) 𝒱 (c : Thread nD τ) none E (m := m b) (r := r) (hl := View.loadsAt_vmem hp) (f := f) (S := (m b).view.set)
      (View.set_slice_subset (m b).view r)) $$ Hb
    iintro Hb
    have hrd : ((m b).access r).read Val f = fun i => σ b (r.emb i) := by rw [← hf]; rfl
    rw [hrd]
    iapply (ih _ σ)
    rw [owned_split c m σ b]
    unfold owns
    isplitl [Hb Hr]
    · isplitl [Hb]
      · iexists f; isplitr; · ipureintro; exact hf
        iexact Hb
      iexact Hr
    iexact Hk
  | store b r hp hr w k ih =>
    simp only [run, denote]
    rw [owned_split c m σ b]
    unfold owns
    iintro ⟨⟨⟨%f, %hf, Hb⟩, Hr⟩, Hk⟩
    iapply (wp_store (defs := defs) 𝒱 (c : Thread nD τ) none E (m := m b) (r := r) (w := w) (f := f) (S := (m b).view.set) (Mk := Finset.univ)
      (hx := View.stores_vmem hp ((hm b).storeExact_slice rfl _ hr) fun _ => rfl) (hm := .inl rfl) (View.set_slice_subset (m b).view r)) $$ Hb
    iintro Hb
    iapply (ih (Function.update σ b (r.overlay (σ b) w)))
    rw [owned_update c m σ b]
    unfold owns
    isplitl [Hb Hr]
    · isplitl [Hb]
      · iexists _; isplitr; swap; · iexact Hb
        ipureintro; rw [← hf]; exact read_access_write (m b) r f w
      iexact Hr
    iexact Hk

end Rule

end Cmd

end Cert.Hybrid

end
-- ==== Proof.Body.lean ====
/-
  The two kernel functions as commands over the buffers they are given (`Cmd`), cut into the pieces the kernel is
  written in: the block's preamble, its projections by half tiles, the pooling heads, the attention pairs in two
  stages (scores, then the softmax and the weighted values), the output projection and the final norm, and the
  carrying of the halos. Everything is over any float interpretation and any value of the three constants the
  program may name (the score mask, the base-two logarithm of e, the query scale).
-/
module

public import proofs.«01_k».proof.Proof.Cmd

@[expose] public section

noncomputable section

namespace Cert.Hybrid

open Idealize.ShloMosaic

variable {F : FTy → Type} [FloatOps F]

abbrev S1 (a : ℕ) : Shape := ⟨1, ![a]⟩
abbrev S2 (a b : ℕ) : Shape := ⟨2, ![a, b]⟩
abbrev S3 (a b c : ℕ) : Shape := ⟨3, ![a, b, c]⟩
abbrev S4 (a b c d : ℕ) : Shape := ⟨4, ![a, b, c, d]⟩

/-- The constants a program may give by name. -/
structure Consts (F : FTy → Type) where
  mask : F .f32
  log2e : F .f32
  qscale : F .f32

/-! ## Rectangles in range -/

theorem in2 {A B o₀ o₁ s₀ s₁ : ℕ} (h₀ : o₀ + s₀ ≤ A) (h₁ : o₁ + s₁ ≤ B) :
    ∀ a, (![o₀, o₁] : Fin 2 → ℕ) a + (S2 s₀ s₁).size a ≤ (S2 A B).size a :=
  Fin.forall_fin_two.2 ⟨h₀, h₁⟩

theorem in3 {A B C o₀ o₁ o₂ s₀ s₁ s₂ : ℕ} (h₀ : o₀ + s₀ ≤ A) (h₁ : o₁ + s₁ ≤ B) (h₂ : o₂ + s₂ ≤ C) :
    ∀ a, (![o₀, o₁, o₂] : Fin 3 → ℕ) a + (S3 s₀ s₁ s₂).size a ≤ (S3 A B C).size a := by
  intro a; fin_cases a; exacts [h₀, h₁, h₂]

theorem in4 {A B C D o₀ o₁ o₂ o₃ s₀ s₁ s₂ s₃ : ℕ} (h₀ : o₀ + s₀ ≤ A) (h₁ : o₁ + s₁ ≤ B) (h₂ : o₂ + s₂ ≤ C) (h₃ : o₃ + s₃ ≤ D) :
    ∀ a, (![o₀, o₁, o₂, o₃] : Fin 4 → ℕ) a + (S4 s₀ s₁ s₂ s₃).size a ≤ (S4 A B C D).size a := by
  intro a; fin_cases a; exacts [h₀, h₁, h₂, h₃]

theorem pk2 {A B o₀ o₁ s₀ s₁ p : ℕ} {h} (h₀ : p ∣ o₀) (h₁ : p ∣ s₀) :
    (Rect.unit (s := S2 A B) ![o₀, o₁] (S2 s₀ s₁).size h).PackedRows p :=
  .inr ⟨le_refl 2, rfl, .inl ⟨h₀, h₁⟩⟩

theorem pk3 {A B C o₀ o₁ o₂ s₀ s₁ s₂ p : ℕ} {h} (h₀ : p ∣ o₁) (h₁ : p ∣ s₁) :
    (Rect.unit (s := S3 A B C) ![o₀, o₁, o₂] (S3 s₀ s₁ s₂).size h).PackedRows p :=
  have h2 : 2 ≤ (S3 A B C).rank := show 2 ≤ 3 by decide
  .inr ⟨h2, rfl, .inl ⟨h₀, h₁⟩⟩

theorem pk4 {A B C D o₀ o₁ o₂ o₃ s₀ s₁ s₂ s₃ p : ℕ} {h} (h₀ : p ∣ o₂) (h₁ : p ∣ s₂) :
    (Rect.unit (s := S4 A B C D) ![o₀, o₁, o₂, o₃] (S4 s₀ s₁ s₂ s₃).size h).PackedRows p :=
  have h2 : 2 ≤ (S4 A B C D).rank := show 2 ≤ 4 by decide
  .inr ⟨h2, rfl, .inl ⟨h₀, h₁⟩⟩

section Access

variable {B : Type} {sh : B → Shape} {el : B → EltTy} {Val : EltTy → Type}

/-- Read the rectangle of a buffer at an offset. -/
def ldAt (b : B) (off size : Fin (sh b).rank → ℕ) (h : ∀ a, off a + size a ≤ (sh b).size a)
    (hp : 0 < (⟨(sh b).rank, size⟩ : Shape).numel := by decide) :
    Cmd sh el Val ((⟨(sh b).rank, size⟩ : Shape).Idx → Val (el b)) :=
  .load b (Rect.unit off size h) hp .ret

/-- Write the rectangle of a buffer at an offset (read first, as the kernel does). -/
def stAt (b : B) (off size : Fin (sh b).rank → ℕ) (h : ∀ a, off a + size a ≤ (sh b).size a)
    (hr : (Rect.unit off size h).PackedRows (el b).packing)
    (w : (⟨(sh b).rank, size⟩ : Shape).Idx → Val (el b))
    (hp : 0 < (⟨(sh b).rank, size⟩ : Shape).numel := by decide) : Cmd sh el Val PUnit :=
  .load b (Rect.unit off size h) hp fun _ => .store b (Rect.unit off size h) hp hr w (.ret ⟨⟩)

end Access

/-! ## Products -/

/-- The plain product of a matrix by a matrix. -/
def dNN (m k n : ℕ) (wf : DotDims.WF (S2 m k) (S2 k n) (S2 m n) [1] [0] [0] [1] [] []) : DotDims (S2 m k) (S2 k n) (S2 m n) where
  lhsContracting := [1]
  rhsContracting := [0]
  lhsNonContracting := [0]
  rhsNonContracting := [1]
  lhsBatch := []
  rhsBatch := []
  wf := wf

/-- The product of a matrix by the transpose of a matrix. -/
def dNT (m k n : ℕ) (wf : DotDims.WF (S2 m k) (S2 n k) (S2 m n) [1] [1] [0] [0] [] []) : DotDims (S2 m k) (S2 n k) (S2 m n) where
  lhsContracting := [1]
  rhsContracting := [1]
  lhsNonContracting := [0]
  rhsNonContracting := [0]
  lhsBatch := []
  rhsBatch := []
  wf := wf

/-- A plain product into zero. -/
def mm {φ ψ : FTy} (m k n : ℕ) (a : FVec F (S2 m k) φ) (b : FVec F (S2 k n) ψ)
    (wf : DotDims.WF (S2 m k) (S2 k n) (S2 m n) [1] [0] [0] [1] [] [] := by decide) : FVec F (S2 m n) .f32 :=
  matmul (dNN m k n wf) none a b (constant (S2 m n) .f32 0x00000000#32)

/-- A product by a transpose into zero. -/
def mmT {φ ψ : FTy} (m k n : ℕ) (a : FVec F (S2 m k) φ) (b : FVec F (S2 n k) ψ)
    (wf : DotDims.WF (S2 m k) (S2 n k) (S2 m n) [1] [1] [0] [0] [] [] := by decide) : FVec F (S2 m n) .f32 :=
  matmul (dNT m k n wf) none a b (constant (S2 m n) .f32 0x00000000#32)

theorem bf_lt : FTy.bits .bf16 < FTy.bits .f32 := by decide

/-! ## The block: its buffers -/

/-- The block kernel's operands, its result and its scratch. -/
inductive Slot
  | x | gIn | wMain | wQvt | poolW | poolScale | bias | wOut | gOut | out
  | h | k | ind | vt | qt | gate | pgate | y | pv | s | m
  deriving DecidableEq

instance : Fintype Slot where
  elems := {.x, .gIn, .wMain, .wQvt, .poolW, .poolScale, .bias, .wOut, .gOut, .out, .h, .k, .ind, .vt, .qt, .gate, .pgate, .y, .pv, .s, .m}
  complete b := by cases b <;> decide

/-- Their shapes. -/
@[reducible] def Slot.sh : Slot → Shape
  | .x => S3 1 1024 1024 | .gIn => S2 1 1024 | .wMain => S2 1024 2048 | .wQvt => S2 1024 1024
  | .poolW => S3 4 128 128 | .poolScale => S2 1 512 | .bias => S3 4 192 256 | .wOut => S2 1024 1024
  | .gOut => S2 1 1024 | .out => S3 1 1024 1024
  | .h => S2 1024 1024 | .k => S2 1536 512 | .ind => S2 1536 128 | .vt => S3 12 512 128
  | .qt => S4 8 4 128 256 | .gate => S2 1024 512 | .pgate => S2 1024 512 | .y => S2 1024 1024
  | .pv => S2 1040 512 | .s => S3 4 640 256 | .m => S3 4 1 256

/-- Their element types. -/
@[reducible] def Slot.el : Slot → EltTy
  | .x => .f32 | .gIn => .f32 | .wMain => .bf16 | .wQvt => .bf16 | .poolW => .bf16 | .poolScale => .f32
  | .bias => .f32 | .wOut => .bf16 | .gOut => .f32 | .out => .f32
  | .h => .bf16 | .k => .bf16 | .ind => .bf16 | .vt => .bf16 | .qt => .bf16 | .gate => .f32 | .pgate => .f32
  | .y => .bf16 | .pv => .f32 | .s => .f32 | .m => .f32

/-- A command over the block's buffers. -/
abbrev BCmd (F : FTy → Type) (α : Type) : Type := Cmd Slot.sh Slot.el (Elt F) α

/-- Read a rectangle of one of the block's buffers. -/
abbrev ld (b : Slot) (off size : Fin b.sh.rank → ℕ) (h : ∀ a, off a + size a ≤ b.sh.size a)
    (hp : 0 < (⟨b.sh.rank, size⟩ : Shape).numel := by decide) : BCmd F ((⟨b.sh.rank, size⟩ : Shape).Idx → Elt F b.el) :=
  ldAt b off size h hp

/-- Write a rectangle of one of the block's buffers. -/
abbrev st (b : Slot) (off size : Fin b.sh.rank → ℕ) (h : ∀ a, off a + size a ≤ b.sh.size a)
    (hr : (Rect.unit off size h).PackedRows b.el.packing) (w : (⟨b.sh.rank, size⟩ : Shape).Idx → Elt F b.el)
    (hp : 0 < (⟨b.sh.rank, size⟩ : Shape).numel := by decide) : BCmd F PUnit :=
  stAt b off size h hr w hp

/-! ## The block: its pure steps -/

/-- Each row over the root of its mean square plus epsilon, times the gain. -/
def rms (n : ℕ) (v : FVec F (S2 n 1024) .f32) (g : FVec F (S2 1 1024) .f32)
    (hr : (S2 n 1024).Reduces [1] (S1 n) := by decide) (hc : (S1 n).ShapeCasts (S2 n 1) := by decide)
    (hb : (S2 n 1).Broadcasts (S2 n 1024) := by decide) (hb' : (S2 1 1024).Broadcasts (S2 n 1024) := by decide) :
    FVec F (S2 n 1024) .f32 :=
  mulf (mulf v (broadcastTo (S2 n 1024)
      (rsqrt (addf (divf (shapeCast (S2 n 1) (multiReduction .add [1] (S1 n) (mulf v v) 0x00000000#32 hr (.inl rfl) rfl) hc)
          (broadcast (S2 n 1) (Scalar.ofBits .f32 0x44800000#32)))
        (broadcast (S2 n 1) (Scalar.ofBits .f32 0x358637BD#32)))) hb))
    (broadcastTo (S2 n 1024) g hb')

/-- `x / (1 + exp (0 - x))`. -/
def silu (x : FVec F (S2 512 512) .f32) : FVec F (S2 512 512) .f32 :=
  divf x (addf (broadcast (S2 512 512) (Scalar.ofBits .f32 0x3F800000#32))
    (exp (subf (broadcast (S2 512 512) (Scalar.ofBits .f32 0x00000000#32)) x)))

/-- A query tile with its two heads' rows apart, each over its own half of the lanes. -/
def splitHeads (q : FVec F (S2 128 128) .bf16) : FVec F (S2 128 256) .bf16 :=
  have lo := cmpi .slt (iota .tc (S2 128 128) 32 [0] (by decide)) (broadcast (S2 128 128) (64#32))
  have z : FVec F (S2 128 128) .bf16 := broadcast (S2 128 128) (Scalar.ofBits .bf16 0x0000#16)
  concatenate (S2 128 256) 1 [⟨S2 128 128, select lo q z⟩, ⟨S2 128 128, select lo z q⟩] (by dsimp only [List.map]; decide)

/-- A window's sum by doubling: the `2 ^ (g + 1)` rows up to each row (rows turning round at the end). -/
def rollAdd (n : ℕ) (v : FVec F (S2 528 128) .f32) : FVec F (S2 528 128) .f32 :=
  addf v (dynamicRotate 0 (BitVec.ofNat 32 n) none v (by decide))

def winSum : ℕ → FVec F (S2 528 128) .f32 → FVec F (S2 528 128) .f32
  | 0, v => rollAdd 1 v
  | g + 1, v => rollAdd (2 ^ (g + 1)) (winSum g v)

/-- One over the window's length. -/
def winInv : ℕ → BitVec 32
  | 0 => 0x3F000000#32
  | 1 => 0x3E800000#32
  | 2 => 0x3E000000#32
  | _ => 0x3D800000#32

/-- The window means, from the window sums: the first rows over the number of rows there are. -/
def winMean (t : BitVec 32) (hf g : ℕ) (w : FVec F (S2 528 128) .f32) : FVec F (S2 512 128) .f32 :=
  have v := extractStridedSlice (S2 512 128) ![16, 0] w (by decide)
  have base := Scalar.addi (Scalar.muli t (1024#32)) (BitVec.ofNat 32 (hf * 512))
  have cnt := sitofp .f32 (minsi (addi (addi (broadcast (S2 16 1) base) (iota .tc (S2 16 1) 32 [0] (by decide)))
    (broadcast (S2 16 1) (1#32))) (broadcast (S2 16 1) (BitVec.ofNat 32 (2 ^ (g + 1)))))
  concatenate (S2 512 128) 0
    [⟨S2 16 128, divf (extractStridedSlice (S2 16 128) ![0, 0] v (by decide)) (broadcastTo (S2 16 128) cnt (by decide))⟩,
     ⟨S2 496 128, mulf (extractStridedSlice (S2 496 128) ![16, 0] v (by decide)) (broadcast (S2 496 128) (Scalar.ofBits .f32 (winInv g)))⟩]
    (by dsimp only [List.map]; decide)

/-- A pooling head's output rows. -/
def poolOut (d : FVec F (S2 512 128) .f32) (w : FVec F (S3 1 128 128) .bf16) (sc : FVec F (S2 1 128) .f32)
    (pg : FVec F (S2 512 128) .f32) : FVec F (S2 512 128) .bf16 :=
  truncf .bf16 (mulf (mulf (mm 512 128 128 (truncf .bf16 d bf_lt) (shapeCast (S2 128 128) w (by decide)))
    (broadcastTo (S2 512 128) (shapeCast (S2 1 128) sc (by decide)) (by decide))) pg) bf_lt

/-- The query positions of a score tile in the upper half of their chunk. -/
def upper : IVec (S2 64 256) 1 :=
  cmpi .sge (andi (iota .tc (S2 64 256) 32 [1] (by decide)) (broadcast (S2 64 256) (127#32))) (broadcast (S2 64 256) (64#32))

/-- The penalty's row: the mask in row 0. -/
def penalty (κ : Consts F) : FVec F (S2 128 256) .bf16 :=
  truncf .bf16 (select (cmpi .eq (iota .tc (S2 128 256) 32 [0] (by decide)) (broadcast (S2 128 256) (0#32)))
    (broadcast (S2 128 256) κ.mask) (broadcast (S2 128 256) (Scalar.ofBits .f32 0x00000000#32))) bf_lt

/-- A score tile's first rows: the oldest chunk masked where the window does not reach. -/
def headRows (κ : Consts F) (sc : FVec F (S2 640 256) .f32) : FVec F (S2 320 256) .f32 :=
  have t := extractStridedSlice (S2 320 256) ![0, 0] sc (by decide)
  concatenate (S2 320 256) 0
    [⟨S2 64 256, select upper (broadcast (S2 64 256) κ.mask) (extractStridedSlice (S2 64 256) ![0, 0] t (by decide))⟩,
     ⟨S2 256 256, extractStridedSlice (S2 256 256) ![64, 0] t (by decide)⟩] (by dsimp only [List.map]; decide)

/-- A score tile's last rows: the bias added, the future masked. -/
def tailRows (κ : Consts F) (sc : FVec F (S2 640 256) .f32) (bias : FVec F (S2 192 256) .f32) : FVec F (S2 320 256) .f32 :=
  have t := extractStridedSlice (S2 320 256) ![320, 0] sc (by decide)
  concatenate (S2 320 256) 0
    [⟨S2 128 256, extractStridedSlice (S2 128 256) ![0, 0] t (by decide)⟩,
     ⟨S2 128 256, addf (extractStridedSlice (S2 128 256) ![128, 0] t (by decide)) (extractStridedSlice (S2 128 256) ![0, 0] bias (by decide))⟩,
     ⟨S2 64 256, select upper (addf (extractStridedSlice (S2 64 256) ![256, 0] t (by decide)) (extractStridedSlice (S2 64 256) ![128, 0] bias (by decide)))
        (broadcast (S2 64 256) κ.mask)⟩] (by dsimp only [List.map]; decide)

/-- The greatest of each column's entries. -/
def colMax (v : FVec F (S2 320 256) .f32) : FVec F (S2 1 256) .f32 :=
  shapeCast (S2 1 256) (multiReduction .maximumf [0] (S1 256) v 0xFF800000#32 (by decide) (.inl rfl) rfl) (by decide)

/-- The weights `2 ^ (s - m)` of a score tile. -/
def weights (s : FVec F (S3 1 640 256) .f32) (m : FVec F (S3 1 1 256) .f32) : FVec F (S2 640 256) .f32 :=
  exp2 (subf (shapeCast (S2 640 256) s (by decide)) (broadcastTo (S2 640 256) (shapeCast (S2 1 256) m (by decide)) (by decide)))

/-- A pair's attention output, normalised, its two heads side by side, rows by query. -/
def attend (e : FVec F (S2 640 256) .f32) (v : FVec F (S2 128 640) .bf16) : FVec F (S2 128 128) .f32 :=
  have l := shapeCast (S2 1 256) (multiReduction .add [0] (S1 256) e 0x00000000#32 (by decide) (.inl rfl) rfl) (by decide)
  have o := mm 128 640 256 v (truncf .bf16 e bf_lt)
  have r := divf (broadcast (S2 1 256) (Scalar.ofBits .f32 0x3F800000#32)) l
  transpose (S2 128 128) [1, 0] (concatenate (S2 128 128) 0
    [⟨S2 64 128, mulf (extractStridedSlice (S2 64 128) ![0, 0] o (by decide)) (broadcastTo (S2 64 128) (extractStridedSlice (S2 1 128) ![0, 0] r (by decide)) (by decide))⟩,
     ⟨S2 64 128, mulf (extractStridedSlice (S2 64 128) ![64, 128] o (by decide)) (broadcastTo (S2 64 128) (extractStridedSlice (S2 1 128) ![0, 128] r (by decide)) (by decide))⟩]
    (by dsimp only [List.map]; decide)) (by decide)

/-! ## The block: its pieces -/

/-- The first tile's preparation: the halos before the sequence. -/
def initHalos : BCmd F PUnit := do
  st .pv ![0, 0] (S2 16 512).size (in2 (by decide) (by decide)) (pk2 (by decide) (by decide))
    (shapeCast (S2 16 512) (broadcast (S2 16 512) (Scalar.ofBits .f32 0x00000000#32)) (by decide))
  st .k ![0, 0] (S2 512 512).size (in2 (by decide) (by decide)) (pk2 (by decide) (by decide))
    (shapeCast (S2 512 512) (broadcast (S2 512 512) (Scalar.ofBits .bf16 0x0000#16)) (by decide))
  st .vt ![0, 0, 0] (S3 1 512 128).size (in3 (by decide) (by decide) (by decide)) (pk3 (by decide) (by decide))
    (shapeCast (S3 1 512 128) (broadcast (S2 512 128) (Scalar.ofBits .bf16 0x0000#16)) (by decide))
  st .vt ![1, 0, 0] (S3 1 512 128).size (in3 (by decide) (by decide) (by decide)) (pk3 (by decide) (by decide))
    (shapeCast (S3 1 512 128) (broadcast (S2 512 128) (Scalar.ofBits .bf16 0x0000#16)) (by decide))
  st .vt ![2, 0, 0] (S3 1 512 128).size (in3 (by decide) (by decide) (by decide)) (pk3 (by decide) (by decide))
    (shapeCast (S3 1 512 128) (broadcast (S2 512 128) (Scalar.ofBits .bf16 0x0000#16)) (by decide))
  st .vt ![3, 0, 0] (S3 1 512 128).size (in3 (by decide) (by decide) (by decide)) (pk3 (by decide) (by decide))
    (shapeCast (S3 1 512 128) (broadcast (S2 512 128) (Scalar.ofBits .bf16 0x0000#16)) (by decide))
  st .ind ![0, 0] (S2 512 128).size (in2 (by decide) (by decide)) (pk2 (by decide) (by decide))
    (shapeCast (S2 512 128) (truncf .bf16 (select (cmpi .eq (iota .tc (S2 512 128) 32 [1] (by decide)) (broadcast (S2 512 128) (0#32)))
      (broadcast (S2 512 128) (Scalar.ofBits .f32 0x3F800000#32)) (broadcast (S2 512 128) (Scalar.ofBits .f32 0x00000000#32))) bf_lt) (by decide))
  st .ind ![512, 0] (S2 1024 128).size (in2 (by decide) (by decide)) (pk2 (by decide) (by decide))
    (shapeCast (S2 1024 128) (broadcast (S2 1024 128) (Scalar.ofBits .bf16 0x0000#16)) (by decide))

/-- The tile's normalised rows. -/
def normIn : BCmd F PUnit := do
  let x ← ld .x ![0, 0, 0] (S3 1 1024 1024).size (in3 (by decide) (by decide) (by decide))
  let g ← ld .gIn ![0, 0] (S2 1 1024).size (in2 (by decide) (by decide))
  st .h ![0, 0] (S2 1024 1024).size (in2 (by decide) (by decide)) (pk2 (by decide) (by decide))
    (shapeCast (S2 1024 1024) (truncf .bf16 (rms 1024 (shapeCast (S2 1024 1024) x (by decide)) (shapeCast (S2 1 1024) g (by decide))) bf_lt) (by decide))

/-- The keys of 256 rows. -/
def keys (r : Fin 4) : BCmd F PUnit := do
  let h ← ld .h ![r.val * 256, 0] (S2 256 1024).size (in2 (by omega) (by decide))
  let w ← ld .wMain ![0, 1024] (S2 1024 512).size (in2 (by decide) (by decide))
  st .k ![512 + r.val * 256, 0] (S2 256 512).size (in2 (by omega) (by decide)) (pk2 (show 2 ∣ _ by omega) (by decide))
    (shapeCast (S2 256 512) (truncf .bf16 (mm 256 1024 512 h (shapeCast (S2 1024 512) w (by decide))) bf_lt) (by decide))

theorem slices_512 (p g : Fin 4) : (S2 512 512).Slices ![p.val * 128, g.val * 128] (S2 128 128) := by
  revert p g; decide

theorem slices_512' (g : Fin 4) : (S2 512 512).Slices ![0, g.val * 128] (S2 512 128) := by
  revert g; decide

/-- One tile of a half's queries stored, its heads apart. -/
def storeQuery (q : FVec F (S2 512 512) .bf16) (hf : Fin 2) (g p : Fin 4) : BCmd F PUnit :=
  st .qt ![hf.val * 4 + g.val, p.val, 0, 0] (S4 1 1 128 256).size (in4 (by omega) (by omega) (by decide) (by decide)) (pk4 (by decide) (by decide))
    (shapeCast (S4 1 1 128 256) (splitHeads (extractStridedSlice (S2 128 128) ![p.val * 128, g.val * 128] q (slices_512 p g))) (by decide))

/-- One after the other for 0, 1, 2, 3. -/
def four (f : Fin 4 → BCmd F PUnit) : BCmd F PUnit := do
  f 0
  f 1
  f 2
  f 3

/-- A half's queries, scaled. -/
def queries (κ : Consts F) (hf : Fin 2) : BCmd F PUnit := do
  let w ← ld .wQvt ![0, 0] (S2 512 1024).size (in2 (by decide) (by decide))
  let h ← ld .h ![hf.val * 512, 0] (S2 512 1024).size (in2 (by omega) (by decide))
  have q := truncf .bf16 (mulf (mmT 512 1024 512 (shapeCast (S2 512 1024) w (by decide)) h) (broadcast (S2 512 512) κ.qscale)) bf_lt
  four fun g => four fun p => storeQuery q hf g p

/-- A half's values, transposed, by groups of 128 rows. -/
def values (hf : Fin 2) : BCmd F PUnit := do
  let w ← ld .wQvt ![512, 0] (S2 512 1024).size (in2 (by decide) (by decide))
  let h ← ld .h ![hf.val * 512, 0] (S2 512 1024).size (in2 (by omega) (by decide))
  have v := mmT 512 1024 512 (shapeCast (S2 512 1024) w (by decide)) h
  four fun g => st .vt ![4 + hf.val * 4 + g.val, 0, 0] (S3 1 512 128).size (in3 (by omega) (by decide) (by decide)) (pk3 (by decide) (by decide))
    (shapeCast (S3 1 512 128) (truncf .bf16 (extractStridedSlice (S2 512 128) ![0, g.val * 128] v (slices_512' g)) bf_lt) (by decide))

/-- A half's rows times four columns' blocks of the main weight. -/
def proj (hf : Fin 2) (c : Fin 4) : BCmd F (FVec F (S2 512 512) .f32) := do
  let h ← ld .h ![hf.val * 512, 0] (S2 512 1024).size (in2 (by omega) (by decide))
  let w ← ld .wMain ![0, c.val * 512] (S2 1024 512).size (in2 (by decide) (by omega))
  return mm 512 1024 512 h (shapeCast (S2 1024 512) w (by decide))

/-- A half's attention gate. -/
def attnGate (hf : Fin 2) : BCmd F PUnit := do
  let v ← proj hf 3
  st .gate ![hf.val * 512, 0] (S2 512 512).size (in2 (by omega) (by decide)) (pk2 (one_dvd _) (one_dvd _))
    (shapeCast (S2 512 512) (silu v) (by decide))

/-- A half's pooled values. -/
def poolV (hf : Fin 2) : BCmd F PUnit := do
  let v ← proj hf 0
  st .pv ![16 + hf.val * 512, 0] (S2 512 512).size (in2 (by omega) (by decide)) (pk2 (one_dvd _) (one_dvd _))
    (shapeCast (S2 512 512) v (by decide))

/-- A half's pooling gate. -/
def poolGate (hf : Fin 2) : BCmd F PUnit := do
  let v ← proj hf 1
  st .pgate ![hf.val * 512, 0] (S2 512 512).size (in2 (by omega) (by decide)) (pk2 (one_dvd _) (one_dvd _))
    (shapeCast (S2 512 512) (silu v) (by decide))

/-- A half of a pooling head. -/
def pool (t : BitVec 32) (hf : Fin 2) (g : Fin 4) : BCmd F PUnit := do
  let v ← ld .pv ![hf.val * 512, g.val * 128] (S2 528 128).size (in2 (by omega) (by omega))
  let cur ← ld .pv ![16 + hf.val * 512, g.val * 128] (S2 512 128).size (in2 (by omega) (by omega))
  let w ← ld .poolW ![g.val, 0, 0] (S3 1 128 128).size (in3 (by omega) (by decide) (by decide))
  let sc ← ld .poolScale ![0, g.val * 128] (S2 1 128).size (in2 (by decide) (by omega))
  let pg ← ld .pgate ![hf.val * 512, g.val * 128] (S2 512 128).size (in2 (by omega) (by omega))
  st .y ![hf.val * 512, g.val * 128] (S2 512 128).size (in2 (by omega) (by omega)) (pk2 (show 2 ∣ _ by omega) (by decide))
    (shapeCast (S2 512 128) (poolOut (subf (winMean t hf.val g.val (winSum g.val v)) cur) w sc pg) (by decide))

/-- The products of a pair's keys and queries; over a tile's first half the keys carry the penalty's indicator. -/
def rawScores (κ : Consts F) (g : Fin 8) (p : Fin 4) : BCmd F (FVec F (S2 640 256) .f32 × FVec F (S2 192 256) .f32) := do
  let k ← ld .k ![g.val * 128, p.val * 128] (S2 640 128).size (in2 (by omega) (by omega))
  let q ← ld .qt ![g.val, p.val, 0, 0] (S4 1 1 128 256).size (in4 (by omega) (by omega) (by decide) (by decide))
  if g.val < 4 then
    let ind ← ld .ind ![g.val * 128, 0] (S2 640 128).size (in2 (by omega) (by decide))
    let b ← ld .bias ![p.val, 0, 0] (S3 1 192 256).size (in3 (by omega) (by decide) (by decide))
    return (mm (φ := .bf16) (ψ := .bf16) 640 256 256
      (concatenate (S2 640 256) 1 [⟨S2 640 128, k⟩, ⟨S2 640 128, ind⟩] (by dsimp only [List.map]; decide))
      (concatenate (S2 256 256) 0 [⟨S2 128 256, shapeCast (S2 128 256) q (by decide)⟩, ⟨S2 128 256, penalty κ⟩] (by dsimp only [List.map]; decide)),
      shapeCast (S2 192 256) b (by decide))
  else
    let b ← ld .bias ![p.val, 0, 0] (S3 1 192 256).size (in3 (by omega) (by decide) (by decide))
    return (mm (φ := .bf16) (ψ := .bf16) 640 128 256 k (shapeCast (S2 128 256) q (by decide)), shapeCast (S2 192 256) b (by decide))

/-- A pair's scores, and their greatest, into its slot. -/
def scores (κ : Consts F) (g : Fin 8) (p : Fin 4) : BCmd F PUnit := do
  let sb ← rawScores κ g p
  have top := headRows κ sb.1
  have bot := tailRows κ sb.1 sb.2
  st .s ![p.val, 0, 0] (S3 1 320 256).size (in3 (by omega) (by decide) (by decide)) (pk3 (one_dvd _) (one_dvd _))
    (shapeCast (S3 1 320 256) top (by decide))
  st .s ![p.val, 320, 0] (S3 1 320 256).size (in3 (by omega) (by decide) (by decide)) (pk3 (one_dvd _) (one_dvd _))
    (shapeCast (S3 1 320 256) bot (by decide))
  st .m ![p.val, 0, 0] (S3 1 1 256).size (in3 (by omega) (by decide) (by decide)) (pk3 (one_dvd _) (one_dvd _))
    (shapeCast (S3 1 1 256) (maximumf (colMax top) (colMax bot)) (by decide))

/-- A pair's block of transposed values. -/
def valueBlock (g : Fin 8) (p : Fin 4) (b : Fin 5) : BCmd F (FVec F (S2 128 128) .bf16) := do
  let v ← ld .vt ![g.val + b.val, p.val * 128, 0] (S3 1 128 128).size (in3 (by omega) (by omega) (by decide))
  return shapeCast (S2 128 128) v (by decide)

/-- A pair's attention, gated, into its place among the heads' outputs. -/
def finish (g : Fin 8) (p : Fin 4) : BCmd F PUnit := do
  let s ← ld .s ![p.val, 0, 0] (S3 1 640 256).size (in3 (by omega) (by decide) (by decide))
  let m ← ld .m ![p.val, 0, 0] (S3 1 1 256).size (in3 (by omega) (by decide) (by decide))
  let v₀ ← valueBlock g p 0
  let v₁ ← valueBlock g p 1
  let v₂ ← valueBlock g p 2
  let v₃ ← valueBlock g p 3
  let v₄ ← valueBlock g p 4
  let gt ← ld .gate ![g.val * 128, p.val * 128] (S2 128 128).size (in2 (by omega) (by omega))
  have v : FVec F (S2 128 640) .bf16 := concatenate (S2 128 640) 1
    [⟨S2 128 128, v₀⟩, ⟨S2 128 128, v₁⟩, ⟨S2 128 128, v₂⟩, ⟨S2 128 128, v₃⟩, ⟨S2 128 128, v₄⟩] (by dsimp only [List.map]; decide)
  st .y ![g.val * 128, 512 + p.val * 128] (S2 128 128).size (in2 (by omega) (by omega)) (pk2 (show 2 ∣ _ by omega) (by decide))
    (shapeCast (S2 128 128) (truncf .bf16 (mulf (attend (weights s m) v) gt) bf_lt) (by decide))

/-- The residual plus a block of the output projection. -/
def project (r c : Fin 4) : BCmd F PUnit := do
  let x ← ld .x ![0, r.val * 256, c.val * 256] (S3 1 256 256).size (in3 (by decide) (by omega) (by omega))
  let y ← ld .y ![r.val * 256, 0] (S2 256 1024).size (in2 (by omega) (by decide))
  let w ← ld .wOut ![0, c.val * 256] (S2 1024 256).size (in2 (by decide) (by omega))
  st .out ![0, r.val * 256, c.val * 256] (S3 1 256 256).size (in3 (by decide) (by omega) (by omega)) (pk3 (one_dvd _) (one_dvd _))
    (shapeCast (S3 1 256 256) (addf (shapeCast (S2 256 256) x (by decide)) (mm 256 1024 256 y (shapeCast (S2 1024 256) w (by decide)))) (by decide))

/-- The final norm of 256 rows. -/
def normOut (r : Fin 4) : BCmd F PUnit := do
  let v ← ld .out ![0, r.val * 256, 0] (S3 1 256 1024).size (in3 (by decide) (by omega) (by decide))
  let g ← ld .gOut ![0, 0] (S2 1 1024).size (in2 (by decide) (by decide))
  st .out ![0, r.val * 256, 0] (S3 1 256 1024).size (in3 (by decide) (by omega) (by decide)) (pk3 (one_dvd _) (one_dvd _))
    (shapeCast (S3 1 256 1024) (rms 256 (shapeCast (S2 256 1024) v (by decide)) (shapeCast (S2 1 1024) g (by decide))) (by decide))

/-- One group of the values' halo. -/
def carryValues (b : Fin 4) : BCmd F PUnit := do
  let v ← ld .vt ![8 + b.val, 0, 0] (S3 1 512 128).size (in3 (by omega) (by decide) (by decide))
  st .vt ![b.val, 0, 0] (S3 1 512 128).size (in3 (by omega) (by decide) (by decide)) (pk3 (by decide) (by decide))
    (shapeCast (S3 1 512 128) (shapeCast (S2 512 128) v (by decide)) (by decide))

/-- The tile's last rows become the next tile's halos. -/
def carry : BCmd F PUnit := do
  let k ← ld .k ![1024, 0] (S2 512 512).size (in2 (by decide) (by decide))
  st .k ![0, 0] (S2 512 512).size (in2 (by decide) (by decide)) (pk2 (by decide) (by decide)) (shapeCast (S2 512 512) k (by decide))
  four carryValues
  let v ← ld .pv ![1024, 0] (S2 16 512).size (in2 (by decide) (by decide))
  st .pv ![0, 0] (S2 16 512).size (in2 (by decide) (by decide)) (pk2 (by decide) (by decide)) (shapeCast (S2 16 512) v (by decide))
  st .ind ![0, 0] (S2 512 128).size (in2 (by decide) (by decide)) (pk2 (by decide) (by decide))
    (shapeCast (S2 512 128) (broadcast (S2 512 128) (Scalar.ofBits .bf16 0x0000#16)) (by decide))

/-! ## The block: the order of its pieces -/

/-- The pieces of the block between its preamble and its carrying. -/
inductive Piece
  | keys (r : Fin 4) | queries (hf : Fin 2) | values (hf : Fin 2) | attnGate (hf : Fin 2) | poolV (hf : Fin 2)
  | poolGate (hf : Fin 2) | pool (hf : Fin 2) (g : Fin 4) | scores (g : Fin 8) (p : Fin 4) | finish (g : Fin 8) (p : Fin 4)
  | project (r c : Fin 4) | normOut (r : Fin 4)
  deriving DecidableEq

/-- What a piece does, in the tile of index `t`. -/
def Piece.cmd (κ : Consts F) (t : BitVec 32) : Piece → BCmd F PUnit
  | .keys r => Hybrid.keys r
  | .queries hf => Hybrid.queries κ hf
  | .values hf => Hybrid.values hf
  | .attnGate hf => Hybrid.attnGate hf
  | .poolV hf => Hybrid.poolV hf
  | .poolGate hf => Hybrid.poolGate hf
  | .pool hf g => Hybrid.pool t hf g
  | .scores g p => Hybrid.scores κ g p
  | .finish g p => Hybrid.finish g p
  | .project r c => Hybrid.project r c
  | .normOut r => Hybrid.normOut r

/-- A half's attention projections, as separate pieces of work. -/
def attnPieces : Fin 2 → List (List Piece)
  | 0 => [[.keys 0, .keys 1], [.queries 0], [.values 0], [.attnGate 0]]
  | 1 => [[.keys 2, .keys 3], [.queries 1], [.values 1], [.attnGate 1]]

/-- A half's pooling. -/
def poolPieces (hf : Fin 2) : List (List Piece) :=
  [[.poolV hf], [.poolGate hf], [.pool hf 0], [.pool hf 1], [.pool hf 2], [.pool hf 3]]

/-- 256 rows' output. -/
def outRows (r : Fin 4) : List (List Piece) :=
  [[.project r 0], [.project r 1], [.project r 2], [.project r 3], [.normOut r]]

/-- The `i`-th of `n` even shares of a list. -/
def share (l : List (List Piece)) (n i : ℕ) : List Piece :=
  ((l.drop (i * l.length / n)).take ((i + 1) * l.length / n - i * l.length / n)).flatten

/-- The work between the pairs' stages. -/
def filler (i : ℕ) : List Piece :=
  if i < 14 then share (attnPieces 1) 14 i
  else if i < 16 then []
  else share (poolPieces 1 ++ (outRows 0 ++ outRows 1)) 16 (i - 16)

/-- The pair of index `i`, at a stage. -/
def pairAt (f : Fin 8 → Fin 4 → Piece) (i : ℕ) : List Piece :=
  if i < 32 then [f (Fin.ofNat 8 (i / 4)) (Fin.ofNat 4 (i % 4))] else []

/-- The pairs from the `i`-th on, `n` of them, with the work between. -/
def pairs : ℕ → ℕ → List Piece
  | 0, _ => []
  | n + 1, i => filler i ++ (pairAt .scores (i + 3) ++ (pairAt .finish i ++ pairs n (i + 1)))

/-- All the pieces in order. -/
def schedule : List Piece :=
  (attnPieces 0 ++ poolPieces 0).flatten
    ++ (pairAt .scores 0 ++ (pairAt .scores 1 ++ (pairAt .scores 2 ++ (pairs 32 0 ++ (outRows 2 ++ outRows 3).flatten))))

/-- The pieces of a list one after the other. -/
def doAll (κ : Consts F) (t : BitVec 32) : List Piece → BCmd F PUnit
  | [] => pure ⟨⟩
  | p :: ps => do
    p.cmd κ t
    doAll κ t ps

/-- The block kernel at tile `t` of its sequence, the first or a later one. -/
def block (κ : Consts F) (first : Bool) (t : BitVec 32) : BCmd F PUnit := do
  cond first initHalos (pure ⟨⟩)
  normIn
  doAll κ t schedule
  carry

/-! ## The preparation of the parameters -/

/-- The preparing kernel's operands and its results. -/
inductive PSlot
  | wIn | wOut | poolW | rel | main | qvt | out | pool | bias
  deriving DecidableEq

instance : Fintype PSlot where
  elems := {.wIn, .wOut, .poolW, .rel, .main, .qvt, .out, .pool, .bias}
  complete b := by cases b <;> decide

/-- Their shapes. -/
@[reducible] def PSlot.sh : PSlot → Shape
  | .wIn => S2 128 3072 | .wOut => S2 128 1024 | .poolW => S3 4 128 128 | .rel => S2 8 129
  | .main => S2 128 2048 | .qvt => S2 1024 128 | .out => S2 128 1024 | .pool => S3 4 128 128 | .bias => S3 4 192 256

/-- Their element types. -/
@[reducible] def PSlot.el : PSlot → EltTy
  | .wIn => .f32 | .wOut => .f32 | .poolW => .f32 | .rel => .f32
  | .main => .bf16 | .qvt => .bf16 | .out => .bf16 | .pool => .bf16 | .bias => .f32

/-- A command over the preparing kernel's buffers. -/
abbrev PCmd (F : FTy → Type) (α : Type) : Type := Cmd PSlot.sh PSlot.el (Elt F) α

/-- Read a rectangle of one of its buffers. -/
abbrev pld (b : PSlot) (off size : Fin b.sh.rank → ℕ) (h : ∀ a, off a + size a ≤ b.sh.size a)
    (hp : 0 < (⟨b.sh.rank, size⟩ : Shape).numel := by decide) : PCmd F ((⟨b.sh.rank, size⟩ : Shape).Idx → Elt F b.el) :=
  ldAt b off size h hp

/-- Write a rectangle of one of its buffers. -/
abbrev pst (b : PSlot) (off size : Fin b.sh.rank → ℕ) (h : ∀ a, off a + size a ≤ b.sh.size a)
    (hr : (Rect.unit off size h).PackedRows b.el.packing) (w : (⟨b.sh.rank, size⟩ : Shape).Idx → Elt F b.el)
    (hp : 0 < (⟨b.sh.rank, size⟩ : Shape).numel := by decide) : PCmd F PUnit :=
  stAt b off size h hr w hp

/-- Six parts of the input weight, by 512 columns. -/
def wInCols (c : Fin 6) : PCmd F (FVec F (S2 128 512) .f32) := do
  let w ← pld .wIn ![0, c.val * 512] (S2 128 512).size (in2 (by decide) (by omega))
  return shapeCast (S2 128 512) w (by decide)

/-- The weights of the values to pool, of the gates and of the keys, side by side. -/
def prepMain : PCmd F PUnit := do
  let a ← wInCols 0
  let b ← wInCols 1
  let c ← wInCols 3
  let d ← wInCols 5
  pst .main ![0, 0] (S2 128 2048).size (in2 (by decide) (by decide)) (pk2 (by decide) (by decide))
    (truncf .bf16 (concatenate (S2 128 2048) 1 [⟨S2 128 512, a⟩, ⟨S2 128 512, b⟩, ⟨S2 128 512, c⟩, ⟨S2 128 512, d⟩]
      (by dsimp only [List.map]; decide)) bf_lt)

/-- The weights of the queries and the values, side by side, transposed. -/
def prepQvt : PCmd F PUnit := do
  let a ← wInCols 2
  let b ← wInCols 4
  pst .qvt ![0, 0] (S2 1024 128).size (in2 (by decide) (by decide)) (pk2 (by decide) (by decide))
    (truncf .bf16 (transpose (S2 1024 128) [1, 0] (concatenate (S2 128 1024) 1 [⟨S2 128 512, a⟩, ⟨S2 128 512, b⟩]
      (by dsimp only [List.map]; decide)) (by decide)) bf_lt)

/-- The output weight. -/
def prepOut : PCmd F PUnit := do
  let a ← pld .wOut ![0, 0] (S2 128 1024).size (in2 (by decide) (by decide))
  pst .out ![0, 0] (S2 128 1024).size (in2 (by decide) (by decide)) (pk2 (by decide) (by decide))
    (truncf .bf16 (shapeCast (S2 128 1024) a (by decide)) bf_lt)

/-- The pooling weights. -/
def prepPool : PCmd F PUnit := do
  let a ← pld .poolW ![0, 0, 0] (S3 4 128 128).size (in3 (by decide) (by decide) (by decide))
  pst .pool ![0, 0, 0] (S3 4 128 128).size (in3 (by decide) (by decide) (by decide)) (pk3 (by decide) (by decide))
    (truncf .bf16 (shapeCast (S3 4 128 128) a (by decide)) bf_lt)

/-- The column of the bias table a score row and a query position read. -/
def relCol : IVec (S2 192 128) 32 :=
  addi (minsi (broadcast (S2 192 128) (64#32)) (maxsi (broadcast (S2 192 128) (4294967232#32))
    (subi (subi (addi (iota .tc (S2 192 128) 32 [0] (by decide)) (broadcast (S2 192 128) (448#32))) (broadcast (S2 192 128) (512#32)))
      (iota .tc (S2 192 128) 32 [1] (by decide))))) (broadcast (S2 192 128) (64#32))

/-- The same, in the table's first 128 columns. -/
def relColLow : IVec (S2 192 128) 32 := minsi relCol (broadcast (S2 192 128) (127#32))

/-- A head's bias over its first entry, in base two. -/
def biasTile (κ : Consts F) (row : FVec F (S2 1 128) .f32) (last first : FVec F (S2 1 1) .f32) : FVec F (S2 192 128) .f32 :=
  have rowB := broadcastTo (S2 192 128) (shapeCast (S2 1 128) (shapeCast (S2 1 128) row (by decide)) (by decide)) (by decide)
  have lastB := broadcastTo (S2 192 128) (shapeCast (S2 1 1) (shapeCast (S2 1 1) last (by decide)) (by decide)) (by decide)
  have firstB := broadcastTo (S2 192 128) (shapeCast (S2 1 1) (shapeCast (S2 1 1) first (by decide)) (by decide)) (by decide)
  have idx := select (cmpi .slt relColLow (broadcast (S2 192 128) (0#32))) (addi relColLow (broadcast (S2 192 128) (128#32))) relColLow
  mulf (subf (select (cmpi .eq relCol (broadcast (S2 192 128) (128#32))) lastB
      (dynamicGather 1 rowB (shapeCast (S2 192 128) (shapeCast (S3 192 128 1) idx (by decide)) (by decide)))) firstB)
    (broadcast (S2 192 128) κ.log2e)

/-- A head's bias into its half of its pair's tile. -/
def prepBias (κ : Consts F) (p : Fin 4) (e : Fin 2) : PCmd F PUnit := do
  let row ← pld .rel ![p.val * 2 + e.val, 0] (S2 1 128).size (in2 (by omega) (by decide))
  let last ← pld .rel ![p.val * 2 + e.val, 128] (S2 1 1).size (in2 (by omega) (by decide))
  let first ← pld .rel ![p.val * 2 + e.val, 0] (S2 1 1).size (in2 (by omega) (by decide))
  pst .bias ![p.val, 0, e.val * 128] (S3 1 192 128).size (in3 (by omega) (by decide) (by omega)) (pk3 (by decide) (by decide))
    (shapeCast (S3 1 192 128) (biasTile κ row last first) (by decide))

/-- A pair's two heads' bias. -/
def prepPair (κ : Consts F) (p : Fin 4) : PCmd F PUnit := do
  prepBias κ p 0
  prepBias κ p 1

/-- What is prepared once. -/
def prepOnce (κ : Consts F) : PCmd F PUnit := do
  prepPool
  prepPair κ 0
  prepPair κ 1
  prepPair κ 2
  prepPair κ 3

/-- The preparing kernel, at its first grid point or a later one. -/
def prep (κ : Consts F) (first : Bool) : PCmd F PUnit := do
  prepMain
  prepQvt
  prepOut
  cond first (prepOnce κ) (pure ⟨⟩)

end Cert.Hybrid

end
-- ==== Proof.Tile.lean ====
/-
  What each piece of the block kernel stores, as a function of what it reads, and from that what one run of the
  block leaves in every buffer: the model of a tile, from the tile's inputs and the halos carried into it.
-/
module

public import proofs.«01_k».proof.Proof.Body
public import Idealize.ShloMosaic.Lib.ValueIdxCore

@[expose] public section

noncomputable section

namespace Cert.Hybrid

open Idealize.ShloMosaic Idealize.ShloMosaic.ValueIdx

variable {F : FTy → Type} [FloatOps F]

/-- The block's buffers' contents. -/
abbrev BSt (F : FTy → Type) : Type := St Slot.sh Slot.el (Elt F)

/-- A rectangle of a buffer, read. -/
def rd (σ : BSt F) (b : Slot) (off size : Fin b.sh.rank → ℕ) (h : ∀ a, off a + size a ≤ b.sh.size a) :
    (⟨b.sh.rank, size⟩ : Shape).Idx → Elt F b.el := fun i => σ b ((Rect.unit off size h).emb i)

/-! ## What the pieces store -/

def normVal (σ : BSt F) : FVec F (S2 1024 1024) .bf16 :=
  shapeCast (S2 1024 1024) (truncf .bf16 (rms 1024
    (shapeCast (S2 1024 1024) (rd σ .x ![0, 0, 0] (S3 1 1024 1024).size (in3 (by decide) (by decide) (by decide))) (by decide))
    (shapeCast (S2 1 1024) (rd σ .gIn ![0, 0] (S2 1 1024).size (in2 (by decide) (by decide))) (by decide))) bf_lt) (by decide)

def keyVal (σ : BSt F) (r : Fin 4) : FVec F (S2 256 512) .bf16 :=
  shapeCast (S2 256 512) (truncf .bf16 (mm (φ := .bf16) (ψ := .bf16) 256 1024 512
    (rd σ .h ![r.val * 256, 0] (S2 256 1024).size (in2 (by omega) (by decide)))
    (shapeCast (S2 1024 512) (rd σ .wMain ![0, 1024] (S2 1024 512).size (in2 (by decide) (by decide))) (by decide))) bf_lt) (by decide)

/-- The rows of half a tile. -/
def halfH (σ : BSt F) (hf : Fin 2) : FVec F (S2 512 1024) .bf16 :=
  rd σ .h ![hf.val * 512, 0] (S2 512 1024).size (in2 (by omega) (by decide))

def queryAll (κ : Consts F) (σ : BSt F) (hf : Fin 2) : FVec F (S2 512 512) .bf16 :=
  truncf .bf16 (mulf (mmT (φ := .bf16) (ψ := .bf16) 512 1024 512
    (shapeCast (S2 512 1024) (rd σ .wQvt ![0, 0] (S2 512 1024).size (in2 (by decide) (by decide))) (by decide)) (halfH σ hf))
    (broadcast (S2 512 512) κ.qscale)) bf_lt

def queryVal (κ : Consts F) (σ : BSt F) (hf : Fin 2) (g p : Fin 4) : FVec F (S4 1 1 128 256) .bf16 :=
  shapeCast (S4 1 1 128 256) (splitHeads (extractStridedSlice (S2 128 128) ![p.val * 128, g.val * 128] (queryAll κ σ hf) (slices_512 p g))) (by decide)

def valueAll (σ : BSt F) (hf : Fin 2) : FVec F (S2 512 512) .f32 :=
  mmT (φ := .bf16) (ψ := .bf16) 512 1024 512
    (shapeCast (S2 512 1024) (rd σ .wQvt ![512, 0] (S2 512 1024).size (in2 (by decide) (by decide))) (by decide)) (halfH σ hf)

def valueVal (σ : BSt F) (hf : Fin 2) (g : Fin 4) : FVec F (S3 1 512 128) .bf16 :=
  shapeCast (S3 1 512 128) (truncf .bf16 (extractStridedSlice (S2 512 128) ![0, g.val * 128] (valueAll σ hf) (slices_512' g)) bf_lt) (by decide)

def projAll (σ : BSt F) (hf : Fin 2) (c : Fin 4) : FVec F (S2 512 512) .f32 :=
  mm (φ := .bf16) (ψ := .bf16) 512 1024 512 (halfH σ hf)
    (shapeCast (S2 1024 512) (rd σ .wMain ![0, c.val * 512] (S2 1024 512).size (in2 (by decide) (by omega))) (by decide))

def gateVal (σ : BSt F) (hf : Fin 2) : FVec F (S2 512 512) .f32 := shapeCast (S2 512 512) (silu (projAll σ hf 3)) (by decide)

def poolVVal (σ : BSt F) (hf : Fin 2) : FVec F (S2 512 512) .f32 := shapeCast (S2 512 512) (projAll σ hf 0) (by decide)

def poolGateVal (σ : BSt F) (hf : Fin 2) : FVec F (S2 512 512) .f32 := shapeCast (S2 512 512) (silu (projAll σ hf 1)) (by decide)

def poolVal (t : BitVec 32) (σ : BSt F) (hf : Fin 2) (g : Fin 4) : FVec F (S2 512 128) .bf16 :=
  shapeCast (S2 512 128) (poolOut (subf
    (winMean t hf.val g.val (winSum g.val (rd σ .pv ![hf.val * 512, g.val * 128] (S2 528 128).size (in2 (by omega) (by omega)))))
    (rd σ .pv ![16 + hf.val * 512, g.val * 128] (S2 512 128).size (in2 (by omega) (by omega))))
    (rd σ .poolW ![g.val, 0, 0] (S3 1 128 128).size (in3 (by omega) (by decide) (by decide)))
    (rd σ .poolScale ![0, g.val * 128] (S2 1 128).size (in2 (by decide) (by omega)))
    (rd σ .pgate ![hf.val * 512, g.val * 128] (S2 512 128).size (in2 (by omega) (by omega)))) (by decide)

def keysOf (σ : BSt F) (g : Fin 8) (p : Fin 4) : FVec F (S2 640 128) .bf16 :=
  rd σ .k ![g.val * 128, p.val * 128] (S2 640 128).size (in2 (by omega) (by omega))

def queriesOf (σ : BSt F) (g : Fin 8) (p : Fin 4) : FVec F (S2 128 256) .bf16 :=
  shapeCast (S2 128 256) (rd σ .qt ![g.val, p.val, 0, 0] (S4 1 1 128 256).size (in4 (by omega) (by omega) (by decide) (by decide))) (by decide)

def indOf (σ : BSt F) (g : Fin 8) (h : g.val < 4) : FVec F (S2 640 128) .bf16 :=
  rd σ .ind ![g.val * 128, 0] (S2 640 128).size (in2 (by omega) (by decide))

/-- A pair's raw scores from its keys and queries, and from the indicator in the tile's first half. -/
def rawFrom (κ : Consts F) (g : Fin 8) (k : FVec F (S2 640 128) .bf16) (q : FVec F (S2 128 256) .bf16)
    (ind : g.val < 4 → FVec F (S2 640 128) .bf16) : FVec F (S2 640 256) .f32 :=
  if h : g.val < 4 then
    mm (φ := .bf16) (ψ := .bf16) 640 256 256
      (concatenate (S2 640 256) 1 [⟨S2 640 128, k⟩, ⟨S2 640 128, ind h⟩] (by dsimp only [List.map]; decide))
      (concatenate (S2 256 256) 0 [⟨S2 128 256, q⟩, ⟨S2 128 256, penalty κ⟩] (by dsimp only [List.map]; decide))
  else mm (φ := .bf16) (ψ := .bf16) 640 128 256 k q

def rawOf (κ : Consts F) (σ : BSt F) (g : Fin 8) (p : Fin 4) : FVec F (S2 640 256) .f32 :=
  rawFrom κ g (keysOf σ g p) (queriesOf σ g p) fun h => indOf σ g h

def biasOf (σ : BSt F) (p : Fin 4) : FVec F (S2 192 256) .f32 :=
  shapeCast (S2 192 256) (rd σ .bias ![p.val, 0, 0] (S3 1 192 256).size (in3 (by omega) (by decide) (by decide))) (by decide)

def topVal (κ : Consts F) (σ : BSt F) (g : Fin 8) (p : Fin 4) : FVec F (S2 320 256) .f32 := headRows κ (rawOf κ σ g p)

def botVal (κ : Consts F) (σ : BSt F) (g : Fin 8) (p : Fin 4) : FVec F (S2 320 256) .f32 := tailRows κ (rawOf κ σ g p) (biasOf σ p)

/-- A pair's scores as stored. -/
def sVal (κ : Consts F) (σ : BSt F) (g : Fin 8) (p : Fin 4) : FVec F (S3 1 640 256) .f32 := fun i =>
  if (i 1).val < 320 then shapeCast (S3 1 320 256) (topVal κ σ g p) (by decide) (ix3 (i 0) (Fin.ofNat 320 (i 1).val) (i 2))
  else shapeCast (S3 1 320 256) (botVal κ σ g p) (by decide) (ix3 (i 0) (Fin.ofNat 320 ((i 1).val - 320)) (i 2))

/-- A pair's greatest scores as stored. -/
def mVal (κ : Consts F) (σ : BSt F) (g : Fin 8) (p : Fin 4) : FVec F (S3 1 1 256) .f32 :=
  shapeCast (S3 1 1 256) (maximumf (colMax (topVal κ σ g p)) (colMax (botVal κ σ g p))) (by decide)

def valueBlockOf (σ : BSt F) (g : Fin 8) (p : Fin 4) (b : Fin 5) : FVec F (S2 128 128) .bf16 :=
  shapeCast (S2 128 128) (rd σ .vt ![g.val + b.val, p.val * 128, 0] (S3 1 128 128).size (in3 (by omega) (by omega) (by decide))) (by decide)

/-- Five blocks of values side by side. -/
def valuesFrom (v : Fin 5 → FVec F (S2 128 128) .bf16) : FVec F (S2 128 640) .bf16 :=
  concatenate (S2 128 640) 1
    [⟨S2 128 128, v 0⟩, ⟨S2 128 128, v 1⟩, ⟨S2 128 128, v 2⟩, ⟨S2 128 128, v 3⟩, ⟨S2 128 128, v 4⟩] (by dsimp only [List.map]; decide)

def valuesOf (σ : BSt F) (g : Fin 8) (p : Fin 4) : FVec F (S2 128 640) .bf16 := valuesFrom fun b => valueBlockOf σ g p b

/-- A pair's output, from its scores and their greatest. -/
def finVal (σ : BSt F) (g : Fin 8) (p : Fin 4) (s : FVec F (S3 1 640 256) .f32) (m : FVec F (S3 1 1 256) .f32) : FVec F (S2 128 128) .bf16 :=
  shapeCast (S2 128 128) (truncf .bf16 (mulf (attend (weights s m) (valuesOf σ g p))
    (rd σ .gate ![g.val * 128, p.val * 128] (S2 128 128).size (in2 (by omega) (by omega)))) bf_lt) (by decide)

def projectVal (σ : BSt F) (r c : Fin 4) : FVec F (S3 1 256 256) .f32 :=
  shapeCast (S3 1 256 256) (addf
    (shapeCast (S2 256 256) (rd σ .x ![0, r.val * 256, c.val * 256] (S3 1 256 256).size (in3 (by decide) (by omega) (by omega))) (by decide))
    (mm (φ := .bf16) (ψ := .bf16) 256 1024 256 (rd σ .y ![r.val * 256, 0] (S2 256 1024).size (in2 (by omega) (by decide)))
      (shapeCast (S2 1024 256) (rd σ .wOut ![0, c.val * 256] (S2 1024 256).size (in2 (by decide) (by omega))) (by decide)))) (by decide)

def normOutVal (σ : BSt F) (r : Fin 4) : FVec F (S3 1 256 1024) .f32 :=
  shapeCast (S3 1 256 1024) (rms 256
    (shapeCast (S2 256 1024) (rd σ .out ![0, r.val * 256, 0] (S3 1 256 1024).size (in3 (by decide) (by omega) (by decide))) (by decide))
    (shapeCast (S2 1 1024) (rd σ .gOut ![0, 0] (S2 1 1024).size (in2 (by decide) (by decide))) (by decide))) (by decide)

/-! ## The model of a tile -/

/-- A buffer tiled by functions of the tile's place, from an offset on. -/
def tile2 {α : Type} {A B s₀ s₁ n m : ℕ} [NeZero s₀] [NeZero s₁] [NeZero n] [NeZero m] (o₀ o₁ : ℕ)
    (f : Fin n → Fin m → (S2 s₀ s₁).Idx → α) (i : (S2 A B).Idx) : α :=
  f (Fin.ofNat n (((i 0).val - o₀) / s₀)) (Fin.ofNat m (((i 1).val - o₁) / s₁))
    (ix2 (Fin.ofNat s₀ (((i 0).val - o₀) % s₀)) (Fin.ofNat s₁ (((i 1).val - o₁) % s₁)))

omit [FloatOps F] in
theorem ofNat_eq {n : ℕ} [NeZero n] {a : ℕ} {r : Fin n} (h : a = r.val) : Fin.ofNat n a = r :=
  Fin.ext (by rw [h]; exact Nat.mod_eq_of_lt r.isLt)

theorem tile2_eq {α : Type} {A B s₀ s₁ n m : ℕ} [NeZero s₀] [NeZero s₁] [NeZero n] [NeZero m] {o₀ o₁ : ℕ}
    {f : Fin n → Fin m → (S2 s₀ s₁).Idx → α} {i : (S2 A B).Idx} (r : Fin n) (c : Fin m) (j : (S2 s₀ s₁).Idx)
    (h₀ : (i 0).val = o₀ + r.val * s₀ + (j 0).val) (h₁ : (i 1).val = o₁ + c.val * s₁ + (j 1).val) :
    tile2 o₀ o₁ f i = f r c j := by
  have l₀ : (j 0).val < s₀ := (j 0).isLt
  have l₁ : (j 1).val < s₁ := (j 1).isLt
  have d (a s x : ℕ) (h : x < s) : (a * s + x) / s = a ∧ (a * s + x) % s = x := by
    have hs : 0 < s := by omega
    rw [Nat.add_comm]
    exact ⟨by rw [Nat.add_mul_div_right _ _ hs, Nat.div_eq_of_lt h, Nat.zero_add], by rw [Nat.add_mul_mod_self_right, Nat.mod_eq_of_lt h]⟩
  have e₀ : (i 0).val - o₀ = r.val * s₀ + (j 0).val := by omega
  have e₁ : (i 1).val - o₁ = c.val * s₁ + (j 1).val := by omega
  unfold tile2
  rw [e₀, e₁, (d _ _ _ l₀).1, (d _ _ _ l₀).2, (d _ _ _ l₁).1, (d _ _ _ l₁).2, ofNat_eq (r := r) rfl, ofNat_eq (r := c) rfl,
    ofNat_eq (n := s₀) (r := j 0) rfl, ofNat_eq (n := s₁) (r := j 1) rfl]
  exact congrArg (f r c) (eq_ix2 j).symm

/-- The tile's inputs, and its normalised rows. -/
def lay1 (I : BSt F) : BSt F
  | .h => normVal I
  | b => I b

/-- With the projections. -/
def lay2 (κ : Consts F) (I : BSt F) : BSt F
  | .k => fun (i : (S2 1536 512).Idx) =>
    if (i 0).val < 512 then I .k i else tile2 512 0 (fun (r : Fin 4) (_ : Fin 1) => keyVal (lay1 I) r) i
  | .vt => fun (i : (S3 12 512 128).Idx) =>
    if (i 0).val < 4 then I .vt i
    else valueVal (lay1 I) (Fin.ofNat 2 (((i 0).val - 4) / 4)) (Fin.ofNat 4 (((i 0).val - 4) % 4)) (ix3 0 (i 1) (i 2))
  | .qt => fun (i : (S4 8 4 128 256).Idx) =>
    queryVal κ (lay1 I) (Fin.ofNat 2 ((i 0).val / 4)) (Fin.ofNat 4 ((i 0).val % 4)) (i 1) (ix4 0 0 (i 2) (i 3))
  | .gate => tile2 (A := 1024) (B := 512) 0 0 fun (hf : Fin 2) (_ : Fin 1) => gateVal (lay1 I) hf
  | .pgate => tile2 (A := 1024) (B := 512) 0 0 fun (hf : Fin 2) (_ : Fin 1) => poolGateVal (lay1 I) hf
  | .pv => fun (i : (S2 1040 512).Idx) =>
    if (i 0).val < 16 then I .pv i else tile2 16 0 (fun (hf : Fin 2) (_ : Fin 1) => poolVVal (lay1 I) hf) i
  | b => lay1 I b

/-- With the heads' outputs. -/
def lay3 (κ : Consts F) (t : BitVec 32) (I : BSt F) : BSt F
  | .y => fun (i : (S2 1024 1024).Idx) =>
    if (i 1).val < 512 then tile2 0 0 (fun (hf : Fin 2) (g : Fin 4) => poolVal t (lay2 κ I) hf g) i
    else tile2 0 512 (fun (g : Fin 8) (p : Fin 4) => finVal (lay2 κ I) g p (sVal κ (lay2 κ I) g p) (mVal κ (lay2 κ I) g p)) i
  | b => lay2 κ I b

/-- With the residual and the output projection. -/
def lay4 (κ : Consts F) (t : BitVec 32) (I : BSt F) : BSt F
  | .out => fun (i : (S3 1 1024 1024).Idx) =>
    projectVal (lay3 κ t I) (Fin.ofNat 4 ((i 1).val / 256)) (Fin.ofNat 4 ((i 2).val / 256))
      (ix3 0 (Fin.ofNat 256 ((i 1).val % 256)) (Fin.ofNat 256 ((i 2).val % 256)))
  | b => lay3 κ t I b

/-- Every buffer as the tile's work leaves it: the scores of the group `w.1`, the output before (`false`) or after
    (`true`) its norm. -/
def model (κ : Consts F) (t : BitVec 32) (I : BSt F) (w : Fin 8 × Bool) : BSt F
  | .s => fun (i : (S3 4 640 256).Idx) => sVal κ (lay2 κ I) w.1 (i 0) (ix3 0 (i 1) (i 2))
  | .m => fun (i : (S3 4 1 256).Idx) => mVal κ (lay2 κ I) w.1 (i 0) (ix3 0 (i 1) (i 2))
  | .out => cond w.2
      (fun (i : (S3 1 1024 1024).Idx) => normOutVal (lay4 κ t I) (Fin.ofNat 4 ((i 1).val / 256)) (ix3 0 (Fin.ofNat 256 ((i 1).val % 256)) (i 2)))
      (lay4 κ t I .out)
  | b => lay4 κ t I b

/-! ## The pieces run -/

theorem keys_run (r : Fin 4) (σ : BSt F) : ((keys r).run σ).2 = Function.update σ .k
    ((Rect.unit (s := Slot.sh .k) ![512 + r.val * 256, 0] (S2 256 512).size (in2 (by omega) (by decide))).overlay (σ .k) (keyVal σ r)) := rfl

theorem attnGate_run (hf : Fin 2) (σ : BSt F) : ((attnGate hf).run σ).2 = Function.update σ .gate
    ((Rect.unit (s := Slot.sh .gate) ![hf.val * 512, 0] (S2 512 512).size (in2 (by omega) (by decide))).overlay (σ .gate) (gateVal σ hf)) := rfl

theorem poolV_run (hf : Fin 2) (σ : BSt F) : ((poolV hf).run σ).2 = Function.update σ .pv
    ((Rect.unit (s := Slot.sh .pv) ![16 + hf.val * 512, 0] (S2 512 512).size (in2 (by omega) (by decide))).overlay (σ .pv) (poolVVal σ hf)) := rfl

theorem poolGate_run (hf : Fin 2) (σ : BSt F) : ((poolGate hf).run σ).2 = Function.update σ .pgate
    ((Rect.unit (s := Slot.sh .pgate) ![hf.val * 512, 0] (S2 512 512).size (in2 (by omega) (by decide))).overlay (σ .pgate) (poolGateVal σ hf)) := rfl

theorem pool_run (t : BitVec 32) (hf : Fin 2) (g : Fin 4) (σ : BSt F) : ((pool t hf g).run σ).2 = Function.update σ .y
    ((Rect.unit (s := Slot.sh .y) ![hf.val * 512, g.val * 128] (S2 512 128).size (in2 (by omega) (by omega))).overlay (σ .y) (poolVal t σ hf g)) := rfl

theorem project_run (r c : Fin 4) (σ : BSt F) : ((project r c).run σ).2 = Function.update σ .out
    ((Rect.unit (s := Slot.sh .out) ![0, r.val * 256, c.val * 256] (S3 1 256 256).size (in3 (by decide) (by omega) (by omega))).overlay (σ .out) (projectVal σ r c)) := rfl

theorem normOut_run (r : Fin 4) (σ : BSt F) : ((normOut r).run σ).2 = Function.update σ .out
    ((Rect.unit (s := Slot.sh .out) ![0, r.val * 256, 0] (S3 1 256 1024).size (in3 (by decide) (by omega) (by decide))).overlay (σ .out) (normOutVal σ r)) := rfl

theorem normIn_run (σ : BSt F) : (normIn.run σ).2 = Function.update σ .h
    ((Rect.unit (s := Slot.sh .h) ![0, 0] (S2 1024 1024).size (in2 (by decide) (by decide))).overlay (σ .h) (normVal σ)) := rfl

theorem finish_run (g : Fin 8) (p : Fin 4) (σ : BSt F) : ((finish g p).run σ).2 = Function.update σ .y
    ((Rect.unit (s := Slot.sh .y) ![g.val * 128, 512 + p.val * 128] (S2 128 128).size (in2 (by omega) (by omega))).overlay (σ .y)
      (finVal σ g p (rd σ .s ![p.val, 0, 0] (S3 1 640 256).size (in3 (by omega) (by decide) (by decide)))
        (rd σ .m ![p.val, 0, 0] (S3 1 1 256).size (in3 (by omega) (by decide) (by decide))))) := rfl

theorem storeQuery_run (κ : Consts F) (σ₀ : BSt F) (hf : Fin 2) (g p : Fin 4) (σ : BSt F) :
    ((storeQuery (queryAll κ σ₀ hf) hf g p).run σ).2 = Function.update σ .qt
      ((Rect.unit (s := Slot.sh .qt) ![hf.val * 4 + g.val, p.val, 0, 0] (S4 1 1 128 256).size (in4 (by omega) (by omega) (by decide) (by decide))).overlay
        (σ .qt) (queryVal κ σ₀ hf g p)) := rfl

theorem rawScores_run (κ : Consts F) (g : Fin 8) (p : Fin 4) (σ : BSt F) :
    (rawScores κ g p).run σ = ((rawOf κ σ g p, biasOf σ p), σ) := by
  unfold rawScores rawOf rawFrom
  split <;> rename_i h
  · simp only [dif_pos h, Cmd.run_bind, h, if_true]; rfl
  · simp only [dif_neg h, Cmd.run_bind, h, if_false]; rfl

end Cert.Hybrid

end
-- ==== Proof.Sched.lean ====
/-
  The block kernel's schedule against the model of its tile: which entries each piece writes, which pieces it needs
  done before it, and which it undoes; a piece run where its needs hold leaves the model's values in its entries and
  nothing else changed; and the schedule, checked, leaves every buffer as the model has it.
-/
module

public import proofs.«01_k».proof.Proof.Tile

@[expose] public section

noncomputable section

namespace Cert.Hybrid

open Idealize.ShloMosaic Idealize.ShloMosaic.ValueIdx

variable {F : FTy → Type} [FloatOps F]

/-- Entries of the block's buffers. -/
abbrev Entries : Type := (b : Slot) → b.sh.Idx → Prop

/-- Entries of one buffer. -/
def reg (b : Slot) (P : b.sh.Idx → Prop) : Entries := Function.update (fun _ _ => False) b P

theorem reg_self (b : Slot) (P : b.sh.Idx → Prop) (i : b.sh.Idx) : reg b P b i ↔ P i := by unfold reg; rw [Function.update_self]

theorem reg_ne {b b' : Slot} (P : b.sh.Idx → Prop) (i : b'.sh.Idx) (h : b' ≠ b) : ¬ reg b P b' i := by
  unfold reg; rw [Function.update_of_ne h]; exact id

/-- The second state is the first with `T`'s values at the entries `R`. -/
def Into (T : BSt F) (R : Entries) (σ σ' : BSt F) : Prop :=
  ∀ b i, (R b i → σ' b i = T b i) ∧ (¬ R b i → σ' b i = σ b i)

theorem Into.congr {T : BSt F} {R R' : Entries} {σ σ' : BSt F} (h : Into T R σ σ') (e : ∀ b i, R' b i ↔ R b i) : Into T R' σ σ' :=
  fun b i => ⟨fun hr => (h b i).1 ((e b i).1 hr), fun hr => (h b i).2 fun h' => hr ((e b i).2 h')⟩

theorem Into.trans {T : BSt F} {R R' : Entries} {σ σ' σ'' : BSt F} (h : Into T R σ σ') (h' : Into T R' σ' σ'') :
    Into T (fun b i => R b i ∨ R' b i) σ σ'' := fun b i =>
  ⟨fun hr => by
      by_cases h₂ : R' b i
      · exact (h' b i).1 h₂
      · rw [(h' b i).2 h₂]; exact (h b i).1 (hr.resolve_right h₂),
   fun hr => by rw [(h' b i).2 fun x => hr (.inr x), (h b i).2 fun x => hr (.inl x)]⟩

omit [FloatOps F] in
theorem emb_val {s : Shape} (off size : Fin s.rank → ℕ) (h : ∀ a, off a + size a ≤ s.size a) (j : (Rect.unit off size h).shape.Idx)
    (a : Fin s.rank) : ((Rect.unit off size h).emb j a).val = off a + (j a).val := by
  rw [Rect.emb_apply]; simp

/-- One store. -/
theorem Into.store {T : BSt F} {σ : BSt F} {b : Slot} {P : b.sh.Idx → Prop} {off size : Fin b.sh.rank → ℕ}
    {h : ∀ a, off a + size a ≤ b.sh.size a} {w : (Rect.unit off size h).shape.Idx → Elt F b.el}
    (hP : ∀ i, P i ↔ ∀ a, off a ≤ (i a).val ∧ (i a).val < off a + size a)
    (hw : ∀ (i : b.sh.Idx) (j : (Rect.unit off size h).shape.Idx), (∀ a, (i a).val = off a + (j a).val) → w j = T b i) :
    Into T (reg b P) σ (Function.update σ b ((Rect.unit off size h).overlay (σ b) w)) := by
  intro b' i
  by_cases hb : b' = b
  · subst hb
    rw [reg_self, hP, ← Rect.mem_set_unit (inb := h), Function.update_self]
    refine ⟨fun hi => ?_, fun hi => Rect.overlay_of_not_mem _ _ _ hi⟩
    rw [← Rect.map_emb_univ, Finset.mem_map] at hi
    obtain ⟨j, -, rfl⟩ := hi
    rw [Rect.overlay_emb, hw _ _ (emb_val off size h j)]
  · rw [Function.update_of_ne hb]
    exact ⟨fun hr => absurd hr (reg_ne P i hb), fun _ => rfl⟩

theorem run_seq {α β : Type} (p : BCmd F α) (f : α → BCmd F β) (σ : BSt F) : (p >>= f).run σ = (f (p.run σ).1).run (p.run σ).2 :=
  Cmd.run_bind p f σ

theorem Into.four {T : BSt F} {f : Fin 4 → BCmd F PUnit} {R : Fin 4 → Entries} (h : ∀ x σ, Into T (R x) σ ((f x).run σ).2) (σ : BSt F) :
    Into T (fun b i => ∃ x, R x b i) σ ((Hybrid.four f).run σ).2 := by
  have e : ((Hybrid.four f).run σ).2 = ((f 3).run ((f 2).run ((f 1).run ((f 0).run σ).2).2).2).2 := by
    unfold Hybrid.four; rw [run_seq, run_seq, run_seq]
  rw [e]
  refine ((((h 0 _).trans (h 1 _)).trans (h 2 _)).trans (h 3 _)).congr fun b i => ?_
  rw [Fin.exists_fin_succ, Fin.exists_fin_succ, Fin.exists_fin_succ, Fin.exists_fin_one, or_assoc, or_assoc]; rfl

theorem st_run (b : Slot) (off size : Fin b.sh.rank → ℕ) (h : ∀ a, off a + size a ≤ b.sh.size a)
    (hr : (Rect.unit off size h).PackedRows b.el.packing) (w : (⟨b.sh.rank, size⟩ : Shape).Idx → Elt F b.el)
    (hp : 0 < (⟨b.sh.rank, size⟩ : Shape).numel) (σ : BSt F) :
    ((st b off size h hr w hp).run σ).2 = Function.update σ b ((Rect.unit off size h).overlay (σ b) w) := rfl

theorem rd_eq {σ σ' : BSt F} {b : Slot} {off size : Fin b.sh.rank → ℕ} {h : ∀ a, off a + size a ≤ b.sh.size a}
    (e : ∀ i : b.sh.Idx, (∀ a, off a ≤ (i a).val ∧ (i a).val < off a + size a) → σ b i = σ' b i) : rd σ b off size h = rd σ' b off size h := by
  funext j
  exact e _ fun a => by rw [emb_val]; exact ⟨by omega, by have := (j a).isLt; change (j a).val < size a at this; omega⟩

/-! ## The pieces' entries, needs and conflicts -/

/-- The entries a piece writes. -/
def Piece.region : Piece → Entries
  | .keys r => reg .k fun (i : (S2 1536 512).Idx) => 512 + r.val * 256 ≤ (i 0).val ∧ (i 0).val < 512 + r.val * 256 + 256
  | .queries hf => reg .qt fun (i : (S4 8 4 128 256).Idx) => hf.val * 4 ≤ (i 0).val ∧ (i 0).val < hf.val * 4 + 4
  | .values hf => reg .vt fun (i : (S3 12 512 128).Idx) => 4 + hf.val * 4 ≤ (i 0).val ∧ (i 0).val < 4 + hf.val * 4 + 4
  | .attnGate hf => reg .gate fun (i : (S2 1024 512).Idx) => hf.val * 512 ≤ (i 0).val ∧ (i 0).val < hf.val * 512 + 512
  | .poolV hf => reg .pv fun (i : (S2 1040 512).Idx) => 16 + hf.val * 512 ≤ (i 0).val ∧ (i 0).val < 16 + hf.val * 512 + 512
  | .poolGate hf => reg .pgate fun (i : (S2 1024 512).Idx) => hf.val * 512 ≤ (i 0).val ∧ (i 0).val < hf.val * 512 + 512
  | .pool hf g => reg .y fun (i : (S2 1024 1024).Idx) =>
      (hf.val * 512 ≤ (i 0).val ∧ (i 0).val < hf.val * 512 + 512) ∧ g.val * 128 ≤ (i 1).val ∧ (i 1).val < g.val * 128 + 128
  | .scores _ p => fun b i => reg .s (fun (i : (S3 4 640 256).Idx) => (i 0).val = p.val) b i ∨ reg .m (fun (i : (S3 4 1 256).Idx) => (i 0).val = p.val) b i
  | .finish g p => reg .y fun (i : (S2 1024 1024).Idx) =>
      (g.val * 128 ≤ (i 0).val ∧ (i 0).val < g.val * 128 + 128) ∧ 512 + p.val * 128 ≤ (i 1).val ∧ (i 1).val < 512 + p.val * 128 + 128
  | .project r c => reg .out fun (i : (S3 1 1024 1024).Idx) =>
      (r.val * 256 ≤ (i 1).val ∧ (i 1).val < r.val * 256 + 256) ∧ c.val * 256 ≤ (i 2).val ∧ (i 2).val < c.val * 256 + 256
  | .normOut r => reg .out fun (i : (S3 1 1024 1024).Idx) => r.val * 256 ≤ (i 1).val ∧ (i 1).val < r.val * 256 + 256

/-- Which of the model's states a piece leaves. -/
def Piece.which : Piece → Fin 8 × Bool
  | .scores g _ => (g, false)
  | .normOut _ => (0, true)
  | _ => (0, false)

/-- The pieces a piece needs done. -/
def Piece.needs : Piece → List Piece
  | .pool hf _ => .poolGate hf :: ((List.finRange 2).filter fun x => x.val ≤ hf.val).map .poolV
  | .scores g _ => .queries (Fin.ofNat 2 (g.val / 4)) :: ((List.finRange 4).filter fun r => r.val * 2 < g.val + 1).map .keys
  | .finish g p => .scores g p :: .attnGate (Fin.ofNat 2 (g.val / 4)) :: ((List.finRange 2).filter fun x => x.val * 4 < g.val + 1).map .values
  | .project r _ => (List.finRange 4).map (.pool (Fin.ofNat 2 (r.val / 2)))
      ++ ((List.finRange 8).filter fun g => g.val / 2 = r.val).flatMap fun g => (List.finRange 4).map (.finish g)
  | .normOut r => (List.finRange 4).map (.project r)
  | _ => []

/-- Whether the first piece undoes the second. -/
def Piece.undoes : Piece → Piece → Bool
  | .scores g p, .scores g' p' => p == p' && g != g'
  | .normOut r, .project r' _ => r == r'
  | .project r _, .normOut r' => r == r'
  | _, _ => false

/-- A piece's work stands. -/
def Done (κ : Consts F) (t : BitVec 32) (I : BSt F) (σ : BSt F) (q : Piece) : Prop :=
  ∀ b i, q.region b i → σ b i = model κ t I q.which b i

/-- The entries that stand before any piece. -/
def baseEntries : Entries
  | .k, i => ((i : (S2 1536 512).Idx) 0).val < 512
  | .vt, i => ((i : (S3 12 512 128).Idx) 0).val < 4
  | .pv, i => ((i : (S2 1040 512).Idx) 0).val < 16
  | .out, _ | .qt, _ | .gate, _ | .pgate, _ | .y, _ | .s, _ | .m, _ => False
  | _, _ => True

/-- They stand. -/
def Base (κ : Consts F) (t : BitVec 32) (I : BSt F) (σ : BSt F) : Prop :=
  ∀ b i, baseEntries b i → σ b i = model κ t I (0, false) b i

/-! ## A piece run -/

section Run

variable {κ : Consts F} {t : BitVec 32} {I : BSt F} {σ : BSt F}

theorem Base.h (hB : Base κ t I σ) : σ .h = lay1 I .h := funext fun i => hB .h i trivial

theorem Base.halfH (hB : Base κ t I σ) (hf : Fin 2) : halfH σ hf = Hybrid.halfH (lay1 I) hf := rd_eq fun i _ => hB .h i trivial

theorem Base.projAll (hB : Base κ t I σ) (hf : Fin 2) (c : Fin 4) : projAll σ hf c = Hybrid.projAll (lay1 I) hf c := by
  unfold Hybrid.projAll; rw [hB.halfH, rd_eq fun i _ => hB .wMain i trivial]; rfl

theorem two_axes {f : Fin 2 → Prop} {P : Prop} (h₀ : f 0 ↔ P) (h₁ : f 1) : P ↔ ∀ a, f a := by
  rw [Fin.forall_fin_two]; exact ⟨fun h => ⟨h₀.2 h, h₁⟩, fun h => h₀.1 h.1⟩

theorem both_axes {f : Fin 2 → Prop} {P Q : Prop} (h₀ : f 0 ↔ P) (h₁ : f 1 ↔ Q) : (P ∧ Q) ↔ ∀ a, f a := by
  rw [Fin.forall_fin_two, h₀, h₁]

theorem keys_into (hB : Base κ t I σ) (r : Fin 4) : Into (model κ t I (0, false)) (Piece.region (.keys r)) σ ((keys r).run σ).2 := by
  have e : keyVal σ r = keyVal (lay1 I) r := by
    unfold keyVal; rw [rd_eq fun i _ => hB .h i trivial, rd_eq fun i _ => hB .wMain i trivial]; rfl
  rw [keys_run, e]
  refine Into.store (fun i => two_axes Iff.rfl ⟨Nat.zero_le _, (i 1).isLt⟩) fun i j e => ?_
  have e₀ : (i 0).val = 512 + r.val * 256 + (j 0).val := e 0
  have e₁ : (i 1).val = 0 + (j 1).val := e 1
  change keyVal (lay1 I) r j = ite _ _ _
  rw [if_neg (by omega)]
  exact (tile2_eq (f := fun (r : Fin 4) (_ : Fin 1) => keyVal (lay1 I) r) (o₁ := 0) r 0 j e₀ (e₁.trans (by simp))).symm

theorem halves_of {A : ℕ} {f : Fin 2 → FVec F (S2 512 512) .f32} (o : ℕ) (hf : Fin 2) (i : (S2 A 512).Idx) (j : (S2 512 512).Idx)
    (e₀ : (i 0).val = o + hf.val * 512 + (j 0).val) (e₁ : (i 1).val = 0 + (j 1).val) :
    f hf j = tile2 o 0 (fun (x : Fin 2) (_ : Fin 1) => f x) i :=
  (tile2_eq (f := fun (x : Fin 2) (_ : Fin 1) => f x) hf 0 j e₀ e₁).symm

theorem attnGate_into (hB : Base κ t I σ) (hf : Fin 2) :
    Into (model κ t I (0, false)) (Piece.region (.attnGate hf)) σ ((attnGate hf).run σ).2 := by
  have e : gateVal σ hf = gateVal (lay1 I) hf := by unfold gateVal; rw [hB.projAll]
  rw [attnGate_run, e]
  refine Into.store (fun i => two_axes Iff.rfl ⟨Nat.zero_le _, (i 1).isLt⟩) fun i j e => ?_
  exact halves_of (f := gateVal (lay1 I)) 0 hf i j ((e 0).trans (by simp)) ((e 1).trans (by simp))

theorem poolGate_into (hB : Base κ t I σ) (hf : Fin 2) :
    Into (model κ t I (0, false)) (Piece.region (.poolGate hf)) σ ((poolGate hf).run σ).2 := by
  have e : poolGateVal σ hf = poolGateVal (lay1 I) hf := by unfold poolGateVal; rw [hB.projAll]
  rw [poolGate_run, e]
  refine Into.store (fun i => two_axes Iff.rfl ⟨Nat.zero_le _, (i 1).isLt⟩) fun i j e => ?_
  exact halves_of (f := poolGateVal (lay1 I)) 0 hf i j ((e 0).trans (by simp)) ((e 1).trans (by simp))

theorem poolV_into (hB : Base κ t I σ) (hf : Fin 2) :
    Into (model κ t I (0, false)) (Piece.region (.poolV hf)) σ ((poolV hf).run σ).2 := by
  have e : poolVVal σ hf = poolVVal (lay1 I) hf := by unfold poolVVal; rw [hB.projAll]
  rw [poolV_run, e]
  refine Into.store (fun i => two_axes Iff.rfl ⟨Nat.zero_le _, (i 1).isLt⟩) fun i j e => ?_
  have e₀ : (i 0).val = 16 + hf.val * 512 + (j 0).val := e 0
  change poolVVal (lay1 I) hf j = ite _ _ _
  rw [if_neg (by omega)]
  exact halves_of (f := poolVVal (lay1 I)) 16 hf i j e₀ ((e 1).trans (by simp))

theorem ofNat_div {n : ℕ} [NeZero n] (s : ℕ) (hs : 0 < s) (r : Fin n) (a x : ℕ) (h : a = r.val * s + x) (hx : x < s) :
    Fin.ofNat n (a / s) = r :=
  ofNat_eq (by rw [h, Nat.add_comm, Nat.add_mul_div_right _ _ hs, Nat.div_eq_of_lt hx, Nat.zero_add])

theorem ofNat_mod {n : ℕ} [NeZero n] (r : ℕ) (x : Fin n) (a : ℕ) (h : a = r * n + x.val) : Fin.ofNat n (a % n) = x :=
  ofNat_eq (by rw [h, Nat.add_comm, Nat.add_mul_mod_self_right]; exact Nat.mod_eq_of_lt x.isLt)

theorem queries_into (hB : Base κ t I σ) (hf : Fin 2) :
    Into (model κ t I (0, false)) (Piece.region (.queries hf)) σ ((queries κ hf).run σ).2 := by
  have e : queryAll κ σ hf = queryAll κ (lay1 I) hf := by
    unfold queryAll; rw [hB.halfH, rd_eq fun i _ => hB .wQvt i trivial]; rfl
  have er : ((queries κ hf).run σ).2 = ((four fun g => four fun p => storeQuery (queryAll κ σ hf) hf g p).run σ).2 := rfl
  rw [er, e]
  refine (Into.four (R := fun g b i => ∃ p : Fin 4, reg .qt (fun (i : (S4 8 4 128 256).Idx) => (i 0).val = hf.val * 4 + g.val ∧ (i 1).val = p.val) b i)
    (fun g σ => Into.four (fun p σ => ?_) σ) σ).congr fun b i => ?_
  · rw [storeQuery_run]
    refine Into.store (fun i => ?_) fun i j e => ?_
    · constructor
      · rintro ⟨h₀, h₁⟩ a
        fin_cases a
        · change hf.val * 4 + g.val ≤ (i 0).val ∧ (i 0).val < hf.val * 4 + g.val + 1; omega
        · change p.val ≤ (i 1).val ∧ (i 1).val < p.val + 1; omega
        · exact ⟨Nat.zero_le _, (i 2).isLt⟩
        · exact ⟨Nat.zero_le _, (i 3).isLt⟩
      · intro h
        have h₀ : hf.val * 4 + g.val ≤ (i 0).val ∧ (i 0).val < hf.val * 4 + g.val + 1 := h 0
        have h₁ : p.val ≤ (i 1).val ∧ (i 1).val < p.val + 1 := h 1
        omega
    · have j₀ : (j 0).val < 1 := (j 0).isLt
      have j₁ : (j 1).val < 1 := (j 1).isLt
      have e₀ : (i 0).val = hf.val * 4 + g.val + (j 0).val := e 0
      have e₁ : (i 1).val = p.val + (j 1).val := e 1
      change _ = queryVal κ (lay1 I) (Fin.ofNat 2 ((i 0).val / 4)) (Fin.ofNat 4 ((i 0).val % 4)) (i 1) (ix4 0 0 (i 2) (i 3))
      rw [ofNat_div 4 (by decide) hf (i 0).val g.val (by omega) g.isLt, ofNat_mod hf.val g (i 0).val (by omega),
        show i 1 = p from Fin.ext (by omega)]
      refine congrArg _ ?_
      funext a
      fin_cases a
      · exact Fin.ext (by change (j 0).val = 0; omega)
      · exact Fin.ext (by change (j 1).val = 0; omega)
      · exact Fin.ext (((e 2).trans (by simp)).symm)
      · exact Fin.ext (((e 3).trans (by simp)).symm)
  · by_cases hb : b = .qt
    · subst hb
      unfold Piece.region
      simp only [reg_self]
      constructor
      · rintro ⟨h₀, h₁⟩
        exact ⟨⟨(i 0).val - hf.val * 4, by omega⟩, i 1, by show (i 0).val = hf.val * 4 + ((i 0).val - hf.val * 4); omega, rfl⟩
      · rintro ⟨g, p, h₀, -⟩
        have := g.isLt
        omega
    · exact ⟨fun h => absurd h (reg_ne _ _ hb), fun ⟨_, _, h⟩ => absurd h (reg_ne _ _ hb)⟩

theorem values_into (hB : Base κ t I σ) (hf : Fin 2) :
    Into (model κ t I (0, false)) (Piece.region (.values hf)) σ ((values hf).run σ).2 := by
  have e : valueVal σ hf = valueVal (lay1 I) hf := by
    unfold valueVal valueAll; rw [hB.halfH, rd_eq fun i _ => hB .wQvt i trivial]; rfl
  have er : ((values hf).run σ).2 = ((four fun g => st .vt ![4 + hf.val * 4 + g.val, 0, 0] (S3 1 512 128).size
    (in3 (by omega) (by decide) (by decide)) (pk3 (by decide) (by decide)) (valueVal σ hf g)).run σ).2 := rfl
  rw [er, e]
  refine (Into.four (R := fun g => reg .vt fun (i : (S3 12 512 128).Idx) => (i 0).val = 4 + hf.val * 4 + g.val)
    (fun g σ => ?_) σ).congr fun b i => ?_
  · rw [st_run]
    refine Into.store (fun i => ?_) fun i j e => ?_
    · constructor
      · intro h₀ a
        fin_cases a
        · change 4 + hf.val * 4 + g.val ≤ (i 0).val ∧ (i 0).val < 4 + hf.val * 4 + g.val + 1; omega
        · exact ⟨Nat.zero_le _, (i 1).isLt⟩
        · exact ⟨Nat.zero_le _, (i 2).isLt⟩
      · intro h
        have h₀ : 4 + hf.val * 4 + g.val ≤ (i 0).val ∧ (i 0).val < 4 + hf.val * 4 + g.val + 1 := h 0
        omega
    · have j₀ : (j 0).val < 1 := (j 0).isLt
      have e₀ : (i 0).val = 4 + hf.val * 4 + g.val + (j 0).val := e 0
      change _ = ite _ _ _
      rw [if_neg (by omega), ofNat_div 4 (by decide) hf ((i 0).val - 4) g.val (by omega) g.isLt, ofNat_mod hf.val g ((i 0).val - 4) (by omega)]
      refine congrArg _ ?_
      funext a
      fin_cases a
      · exact Fin.ext (by change (j 0).val = 0; omega)
      · exact Fin.ext (((e 1).trans (by simp)).symm)
      · exact Fin.ext (((e 2).trans (by simp)).symm)
  · by_cases hb : b = .vt
    · subst hb
      unfold Piece.region
      simp only [reg_self]
      constructor
      · rintro ⟨h₀, h₁⟩
        exact ⟨⟨(i 0).val - 4 - hf.val * 4, by omega⟩, by show (i 0).val = 4 + hf.val * 4 + ((i 0).val - 4 - hf.val * 4); omega⟩
      · rintro ⟨g, h₀⟩
        have := g.isLt
        omega
    · exact ⟨fun h => absurd h (reg_ne _ _ hb), fun ⟨_, h⟩ => absurd h (reg_ne _ _ hb)⟩

end Run

end Cert.Hybrid

end
-- ==== Proof.Pieces.lean ====
/-
  The pieces that need others done: a pooling head, a pair's scores and its output, a block of the output projection,
  the final norm. Then any piece of the schedule, and the whole schedule.
-/
module

public import proofs.«01_k».proof.Proof.Sched

@[expose] public section

noncomputable section

namespace Cert.Hybrid

open Idealize.ShloMosaic Idealize.ShloMosaic.ValueIdx

variable {F : FTy → Type} [FloatOps F]

section Run

variable {κ : Consts F} {t : BitVec 32} {I : BSt F} {σ : BSt F}

/-! ## What a piece reads, from its needs -/

theorem pv_read (hB : Base κ t I σ) (n : ℕ) (hn : n ≤ 2) (hd : ∀ hf : Fin 2, hf.val < n → Done κ t I σ (.poolV hf)) (i : (S2 1040 512).Idx)
    (hi : (i 0).val < 16 + n * 512) : σ .pv i = lay2 κ I .pv i := by
  by_cases h : (i 0).val < 16
  · exact hB .pv i h
  · refine hd ⟨((i 0).val - 16) / 512, by omega⟩ (by show ((i 0).val - 16) / 512 < n; omega) .pv i ?_
    refine (reg_self ..).2 ?_
    show 16 + ((i 0).val - 16) / 512 * 512 ≤ (i 0).val ∧ (i 0).val < 16 + ((i 0).val - 16) / 512 * 512 + 512
    omega

theorem k_read (hB : Base κ t I σ) (n : ℕ) (hn : n ≤ 4) (hd : ∀ r : Fin 4, r.val < n → Done κ t I σ (.keys r)) (i : (S2 1536 512).Idx)
    (hi : (i 0).val < 512 + n * 256) : σ .k i = lay2 κ I .k i := by
  by_cases h : (i 0).val < 512
  · exact hB .k i h
  · refine hd ⟨((i 0).val - 512) / 256, by omega⟩ (by show ((i 0).val - 512) / 256 < n; omega) .k i ?_
    refine (reg_self ..).2 ?_
    show 512 + ((i 0).val - 512) / 256 * 256 ≤ (i 0).val ∧ (i 0).val < 512 + ((i 0).val - 512) / 256 * 256 + 256
    omega

theorem vt_read (hB : Base κ t I σ) (n : ℕ) (hn : n ≤ 2) (hd : ∀ r : Fin 2, r.val < n → Done κ t I σ (.values r)) (i : (S3 12 512 128).Idx)
    (hi : (i 0).val < 4 + n * 4) : σ .vt i = lay2 κ I .vt i := by
  by_cases h : (i 0).val < 4
  · exact hB .vt i h
  · refine hd ⟨((i 0).val - 4) / 4, by omega⟩ (by show ((i 0).val - 4) / 4 < n; omega) .vt i ?_
    refine (reg_self ..).2 ?_
    show 4 + ((i 0).val - 4) / 4 * 4 ≤ (i 0).val ∧ (i 0).val < 4 + ((i 0).val - 4) / 4 * 4 + 4
    omega

/-! ## Pooling -/

theorem pool_into (hB : Base κ t I σ) (hf : Fin 2) (g : Fin 4) (hn : ∀ q ∈ (Piece.pool hf g).needs, Done κ t I σ q) :
    Into (model κ t I (0, false)) (Piece.region (.pool hf g)) σ ((pool t hf g).run σ).2 := by
  have hpg : Done κ t I σ (.poolGate hf) := hn _ (List.mem_cons_self ..)
  have hpv (x : Fin 2) (hx : x.val < hf.val + 1) : Done κ t I σ (.poolV x) :=
    hn _ (List.mem_cons_of_mem _ (List.mem_map_of_mem (List.mem_filter.2 ⟨List.mem_finRange _, by simpa using Nat.le_of_lt_succ hx⟩)))
  have e : poolVal t σ hf g = poolVal t (lay2 κ I) hf g := by
    unfold poolVal
    rw [rd_eq (σ := σ) (σ' := lay2 κ I) (b := .pv) (off := ![hf.val * 512, g.val * 128]) fun i hi => ?_,
      rd_eq (σ := σ) (σ' := lay2 κ I) (b := .pv) (off := ![16 + hf.val * 512, g.val * 128]) fun i hi => ?_,
      rd_eq (σ := σ) (σ' := lay2 κ I) fun i _ => hB .poolW i trivial, rd_eq (σ := σ) (σ' := lay2 κ I) fun i _ => hB .poolScale i trivial,
      rd_eq (σ := σ) (σ' := lay2 κ I) (b := .pgate) fun i hi => ?_]
    · have h₀ : hf.val * 512 ≤ (i 0).val ∧ (i 0).val < hf.val * 512 + 512 := hi 0
      refine hpg .pgate i ?_
      refine (reg_self ..).2 ?_
      exact h₀
    · have h₀ : 16 + hf.val * 512 ≤ (i 0).val ∧ (i 0).val < 16 + hf.val * 512 + 512 := hi 0
      exact pv_read hB (hf.val + 1) hf.isLt hpv i (by omega)
    · have h₀ : hf.val * 512 ≤ (i 0).val ∧ (i 0).val < hf.val * 512 + 528 := hi 0
      exact pv_read hB (hf.val + 1) hf.isLt hpv i (by omega)
  rw [pool_run, e]
  refine Into.store (fun i => both_axes Iff.rfl Iff.rfl) fun i j e => ?_
  have e₀ : (i 0).val = hf.val * 512 + (j 0).val := e 0
  have e₁ : (i 1).val = g.val * 128 + (j 1).val := e 1
  have j₁ : (j 1).val < 128 := (j 1).isLt
  change poolVal t (lay2 κ I) hf g j = ite _ _ _
  rw [if_pos (by omega)]
  exact (tile2_eq (f := fun (hf : Fin 2) (g : Fin 4) => poolVal t (lay2 κ I) hf g) (o₀ := 0) (o₁ := 0) hf g j (e₀.trans (by simp)) (e₁.trans (by simp))).symm

/-! ## A pair -/

theorem scores_vals (hB : Base κ t I σ) (g : Fin 8) (p : Fin 4) (hn : ∀ q ∈ (Piece.scores g p).needs, Done κ t I σ q) :
    rawOf κ σ g p = rawOf κ (lay2 κ I) g p ∧ biasOf σ p = biasOf (lay2 κ I) p := by
  have hq : Done κ t I σ (.queries (Fin.ofNat 2 (g.val / 4))) := hn _ (List.mem_cons_self ..)
  have hk (x : Fin 4) (hx : x.val < g.val / 2 + 1) : Done κ t I σ (.keys x) :=
    hn _ (List.mem_cons_of_mem _ (List.mem_map_of_mem (List.mem_filter.2 ⟨List.mem_finRange _, by simp; omega⟩)))
  have ek : keysOf σ g p = keysOf (lay2 κ I) g p := by
    refine rd_eq fun i hi => ?_
    have h₀ : g.val * 128 ≤ (i 0).val ∧ (i 0).val < g.val * 128 + 640 := hi 0
    exact k_read hB (g.val / 2 + 1) (by omega) hk i (by omega)
  have eq : queriesOf σ g p = queriesOf (lay2 κ I) g p := by
    unfold queriesOf
    rw [rd_eq (σ := σ) (σ' := lay2 κ I) fun i hi => ?_]
    have h₀ : g.val ≤ (i 0).val ∧ (i 0).val < g.val + 1 := hi 0
    refine hq .qt i ?_
    refine (reg_self ..).2 ?_
    show g.val / 4 % 2 * 4 ≤ (i 0).val ∧ (i 0).val < g.val / 4 % 2 * 4 + 4
    omega
  refine ⟨?_, ?_⟩
  · unfold rawOf
    rw [ek, eq, show (fun h => indOf σ g h) = fun h => indOf (lay2 κ I) g h from funext fun h => rd_eq fun i _ => hB .ind i trivial]
  · unfold biasOf
    rw [rd_eq (σ := σ) (σ' := lay2 κ I) fun i _ => hB .bias i trivial]

theorem scores_into (hB : Base κ t I σ) (g : Fin 8) (p : Fin 4) (hn : ∀ q ∈ (Piece.scores g p).needs, Done κ t I σ q) :
    Into (model κ t I (g, false)) (Piece.region (.scores g p)) σ ((scores κ g p).run σ).2 := by
  obtain ⟨e₁, e₂⟩ := scores_vals hB g p hn
  have er : ((scores κ g p).run σ).2 = ((do
      st (F := F) .s ![p.val, 0, 0] (S3 1 320 256).size (in3 (by omega) (by decide) (by decide)) (pk3 (one_dvd _) (one_dvd _))
        (shapeCast (S3 1 320 256) (topVal κ (lay2 κ I) g p) (by decide))
      st (F := F) .s ![p.val, 320, 0] (S3 1 320 256).size (in3 (by omega) (by decide) (by decide)) (pk3 (one_dvd _) (one_dvd _))
        (shapeCast (S3 1 320 256) (botVal κ (lay2 κ I) g p) (by decide))
      st (F := F) .m ![p.val, 0, 0] (S3 1 1 256).size (in3 (by omega) (by decide) (by decide)) (pk3 (one_dvd _) (one_dvd _))
        (mVal κ (lay2 κ I) g p) : BCmd F PUnit).run σ).2 := by
    unfold scores
    rw [run_seq, rawScores_run, e₁, e₂]
    rfl
  rw [er, run_seq, run_seq, st_run, st_run, st_run]
  refine (((Into.store (T := model κ t I (g, false)) (b := .s) (P := fun (i : (S3 4 640 256).Idx) => (i 0).val = p.val ∧ (i 1).val < 320) (fun i => ?_) fun i j e => ?_).trans
    (Into.store (b := .s) (P := fun (i : (S3 4 640 256).Idx) => (i 0).val = p.val ∧ 320 ≤ (i 1).val) (fun i => ?_) fun i j e => ?_)).trans
    (Into.store (b := .m) (P := fun (i : (S3 4 1 256).Idx) => (i 0).val = p.val) (fun i => ?_) fun i j e => ?_)).congr fun b i => ?_
  · constructor
    · rintro ⟨h₀, h₁⟩ a
      fin_cases a
      · change p.val ≤ (i 0).val ∧ (i 0).val < p.val + 1; omega
      · exact ⟨Nat.zero_le _, by simpa using h₁⟩
      · exact ⟨Nat.zero_le _, (i 2).isLt⟩
    · intro h
      have h₀ : p.val ≤ (i 0).val ∧ (i 0).val < p.val + 1 := h 0
      have h₁ : 0 ≤ (i 1).val ∧ (i 1).val < 0 + 320 := h 1
      omega
  · have j₀ : (j 0).val < 1 := (j 0).isLt
    have j₁ : (j 1).val < 320 := (j 1).isLt
    have e₀ : (i 0).val = p.val + (j 0).val := e 0
    have e₁ : (i 1).val = 0 + (j 1).val := e 1
    have e₂ : (i 2).val = 0 + (j 2).val := e 2
    change _ = sVal κ (lay2 κ I) g (i 0) (ix3 0 (i 1) (i 2))
    rw [show i 0 = p from Fin.ext (by omega)]
    change _ = ite _ _ _
    rw [if_pos (by show (i 1).val < 320; omega)]
    refine congrArg _ ?_
    funext a
    fin_cases a
    · exact Fin.ext (by change (j 0).val = 0; omega)
    · exact Fin.ext (by change (j 1).val = (i 1).val % 320; omega)
    · exact Fin.ext (by change (j 2).val = (i 2).val; omega)
  · constructor
    · rintro ⟨h₀, h₁⟩ a
      fin_cases a
      · change p.val ≤ (i 0).val ∧ (i 0).val < p.val + 1; omega
      · exact ⟨h₁, (i 1).isLt⟩
      · exact ⟨Nat.zero_le _, (i 2).isLt⟩
    · intro h
      have h₀ : p.val ≤ (i 0).val ∧ (i 0).val < p.val + 1 := h 0
      have h₁ : 320 ≤ (i 1).val ∧ (i 1).val < 320 + 320 := h 1
      omega
  · have j₀ : (j 0).val < 1 := (j 0).isLt
    have j₁ : (j 1).val < 320 := (j 1).isLt
    have e₀ : (i 0).val = p.val + (j 0).val := e 0
    have e₁ : (i 1).val = 320 + (j 1).val := e 1
    have e₂ : (i 2).val = 0 + (j 2).val := e 2
    change _ = sVal κ (lay2 κ I) g (i 0) (ix3 0 (i 1) (i 2))
    rw [show i 0 = p from Fin.ext (by omega)]
    change _ = ite _ _ _
    rw [if_neg (by show ¬ (i 1).val < 320; omega)]
    refine congrArg _ ?_
    funext a
    fin_cases a
    · exact Fin.ext (by change (j 0).val = 0; omega)
    · exact Fin.ext (by change (j 1).val = ((i 1).val - 320) % 320; omega)
    · exact Fin.ext (by change (j 2).val = (i 2).val; omega)
  · constructor
    · intro h₀ a
      fin_cases a
      · change p.val ≤ (i 0).val ∧ (i 0).val < p.val + 1; omega
      · exact ⟨Nat.zero_le _, (i 1).isLt⟩
      · exact ⟨Nat.zero_le _, (i 2).isLt⟩
    · intro h
      have h₀ : p.val ≤ (i 0).val ∧ (i 0).val < p.val + 1 := h 0
      omega
  · have j₀ : (j 0).val < 1 := (j 0).isLt
    have e₀ : (i 0).val = p.val + (j 0).val := e 0
    have e₁ : (i 1).val = 0 + (j 1).val := e 1
    have e₂ : (i 2).val = 0 + (j 2).val := e 2
    change _ = mVal κ (lay2 κ I) g (i 0) (ix3 0 (i 1) (i 2))
    rw [show i 0 = p from Fin.ext (by omega)]
    refine congrArg _ ?_
    funext a
    fin_cases a
    · exact Fin.ext (by change (j 0).val = 0; omega)
    · exact Fin.ext (by change (j 1).val = (i 1).val; omega)
    · exact Fin.ext (by change (j 2).val = (i 2).val; omega)
  · unfold Piece.region
    refine or_congr ?_ Iff.rfl
    by_cases hb : b = .s
    · subst hb
      simp only [reg_self]
      constructor
      · intro h₀
        by_cases h : ((i : (S3 4 640 256).Idx) 1).val < 320
        · exact .inl ⟨h₀, h⟩
        · exact .inr ⟨h₀, Nat.le_of_not_lt h⟩
      · rintro (h | h) <;> exact h.1
    · exact ⟨fun h => absurd h (reg_ne _ _ hb), fun h => h.elim (fun h => absurd h (reg_ne _ _ hb)) fun h => absurd h (reg_ne _ _ hb)⟩

theorem finish_into (hB : Base κ t I σ) (g : Fin 8) (p : Fin 4) (hn : ∀ q ∈ (Piece.finish g p).needs, Done κ t I σ q) :
    Into (model κ t I (0, false)) (Piece.region (.finish g p)) σ ((finish g p).run σ).2 := by
  have hs : Done κ t I σ (.scores g p) := hn _ (List.mem_cons_self ..)
  have hg : Done κ t I σ (.attnGate (Fin.ofNat 2 (g.val / 4))) := hn _ (List.mem_cons_of_mem _ (List.mem_cons_self ..))
  have hv (x : Fin 2) (hx : x.val < g.val / 4 + 1) : Done κ t I σ (.values x) :=
    hn _ (List.mem_cons_of_mem _ (List.mem_cons_of_mem _ (List.mem_map_of_mem (List.mem_filter.2 ⟨List.mem_finRange _, by simp; omega⟩))))
  have evb (b : Fin 5) : valueBlockOf σ g p b = valueBlockOf (lay2 κ I) g p b := by
    unfold valueBlockOf
    rw [rd_eq (σ := σ) (σ' := lay2 κ I) fun i hi => ?_]
    have h₀ : g.val + b.val ≤ (i 0).val ∧ (i 0).val < g.val + b.val + 1 := hi 0
    exact vt_read hB (g.val / 4 + 1) (by omega) hv i (by omega)
  have ev : valuesOf σ g p = valuesOf (lay2 κ I) g p := by unfold valuesOf; exact congrArg _ (funext evb)
  have eg : rd σ .gate ![g.val * 128, p.val * 128] (S2 128 128).size (in2 (by omega) (by omega))
      = rd (lay2 κ I) .gate ![g.val * 128, p.val * 128] (S2 128 128).size (in2 (by omega) (by omega)) := rd_eq fun i hi => by
    have h₀ : g.val * 128 ≤ (i 0).val ∧ (i 0).val < g.val * 128 + 128 := hi 0
    refine hg .gate i ?_
    refine (reg_self ..).2 ?_
    show g.val / 4 % 2 * 512 ≤ (i 0).val ∧ (i 0).val < g.val / 4 % 2 * 512 + 512
    omega
  have es : rd σ .s ![p.val, 0, 0] (S3 1 640 256).size (in3 (by omega) (by decide) (by decide)) = sVal κ (lay2 κ I) g p := by
    funext j
    have j₀ : (j 0).val < 1 := (j 0).isLt
    have em := emb_val (s := Slot.sh .s) ![p.val, 0, 0] (S3 1 640 256).size (in3 (by omega) (by decide) (by decide)) j
    generalize hi : (Rect.unit (s := Slot.sh .s) ![p.val, 0, 0] (S3 1 640 256).size (in3 (by omega) (by decide) (by decide))).emb j = i at em
    have e₀ : (i 0).val = p.val + (j 0).val := em 0
    have e₁ : (i 1).val = 0 + (j 1).val := em 1
    have e₂ : (i 2).val = 0 + (j 2).val := em 2
    have := hs .s i (.inl ((reg_self ..).2 (by show (i 0).val = p.val; omega)))
    unfold rd
    rw [hi, this]
    change sVal κ (lay2 κ I) g (i 0) (ix3 0 (i 1) (i 2)) = _
    rw [show i 0 = p from Fin.ext (by omega)]
    refine congrArg _ ?_
    funext a
    fin_cases a
    · exact Fin.ext (by change 0 = (j 0).val; omega)
    · exact Fin.ext (by change (i 1).val = (j 1).val; omega)
    · exact Fin.ext (by change (i 2).val = (j 2).val; omega)
  have em : rd σ .m ![p.val, 0, 0] (S3 1 1 256).size (in3 (by omega) (by decide) (by decide)) = mVal κ (lay2 κ I) g p := by
    funext j
    have j₀ : (j 0).val < 1 := (j 0).isLt
    have em := emb_val (s := Slot.sh .m) ![p.val, 0, 0] (S3 1 1 256).size (in3 (by omega) (by decide) (by decide)) j
    generalize hi : (Rect.unit (s := Slot.sh .m) ![p.val, 0, 0] (S3 1 1 256).size (in3 (by omega) (by decide) (by decide))).emb j = i at em
    have e₀ : (i 0).val = p.val + (j 0).val := em 0
    have e₁ : (i 1).val = 0 + (j 1).val := em 1
    have e₂ : (i 2).val = 0 + (j 2).val := em 2
    have := hs .m i (.inr ((reg_self ..).2 (by show (i 0).val = p.val; omega)))
    unfold rd
    rw [hi, this]
    change mVal κ (lay2 κ I) g (i 0) (ix3 0 (i 1) (i 2)) = _
    rw [show i 0 = p from Fin.ext (by omega)]
    refine congrArg _ ?_
    funext a
    fin_cases a
    · exact Fin.ext (by change 0 = (j 0).val; omega)
    · exact Fin.ext (by change (i 1).val = (j 1).val; omega)
    · exact Fin.ext (by change (i 2).val = (j 2).val; omega)
  have e : ∀ s m, finVal σ g p s m = finVal (lay2 κ I) g p s m := fun s m => by unfold finVal; rw [ev, eg]
  rw [finish_run, es, em, e]
  refine Into.store (fun i => both_axes Iff.rfl Iff.rfl) fun i j e => ?_
  have e₀ : (i 0).val = g.val * 128 + (j 0).val := e 0
  have e₁ : (i 1).val = 512 + p.val * 128 + (j 1).val := e 1
  change _ = ite _ _ _
  rw [if_neg (by omega)]
  exact (tile2_eq (f := fun (g : Fin 8) (p : Fin 4) => finVal (lay2 κ I) g p (sVal κ (lay2 κ I) g p) (mVal κ (lay2 κ I) g p)) (o₀ := 0) (o₁ := 512)
    g p j (e₀.trans (by simp)) e₁).symm

/-! ## The output -/

theorem project_into (hB : Base κ t I σ) (r c : Fin 4) (hn : ∀ q ∈ (Piece.project r c).needs, Done κ t I σ q) :
    Into (model κ t I (0, false)) (Piece.region (.project r c)) σ ((project r c).run σ).2 := by
  have hp (g : Fin 4) : Done κ t I σ (.pool (Fin.ofNat 2 (r.val / 2)) g) :=
    hn _ (List.mem_append_left _ (List.mem_map_of_mem (List.mem_finRange _)))
  have ha (g : Fin 8) (p : Fin 4) (h : g.val / 2 = r.val) : Done κ t I σ (.finish g p) :=
    hn _ (List.mem_append_right _ (List.mem_flatMap.2 ⟨g, List.mem_filter.2 ⟨List.mem_finRange _, by simpa using h⟩, List.mem_map_of_mem (List.mem_finRange _)⟩))
  have e : projectVal σ r c = projectVal (lay3 κ t I) r c := by
    unfold projectVal
    rw [rd_eq (σ := σ) (σ' := lay3 κ t I) (b := .x) fun i _ => hB .x i trivial, rd_eq (σ := σ) (σ' := lay3 κ t I) (b := .wOut) fun i _ => hB .wOut i trivial,
      rd_eq (σ := σ) (σ' := lay3 κ t I) (b := .y) fun i hi => ?_]
    have h₀ : r.val * 256 ≤ (i 0).val ∧ (i 0).val < r.val * 256 + 256 := hi 0
    have h₁ : (i 1).val < 1024 := (i 1).isLt
    by_cases h : (i 1).val < 512
    · refine hp ⟨(i 1).val / 128, by omega⟩ .y i ?_
      refine (reg_self ..).2 ?_
      show (r.val / 2 % 2 * 512 ≤ (i 0).val ∧ (i 0).val < r.val / 2 % 2 * 512 + 512) ∧ (i 1).val / 128 * 128 ≤ (i 1).val ∧ (i 1).val < (i 1).val / 128 * 128 + 128
      omega
    · refine ha ⟨(i 0).val / 128, by omega⟩ ⟨((i 1).val - 512) / 128, by omega⟩ (by show (i 0).val / 128 / 2 = r.val; omega) .y i ?_
      refine (reg_self ..).2 ?_
      show ((i 0).val / 128 * 128 ≤ (i 0).val ∧ (i 0).val < (i 0).val / 128 * 128 + 128)
        ∧ 512 + ((i 1).val - 512) / 128 * 128 ≤ (i 1).val ∧ (i 1).val < 512 + ((i 1).val - 512) / 128 * 128 + 128
      omega
  rw [project_run, e]
  refine Into.store (fun i => ?_) fun i j e => ?_
  · constructor
    · rintro ⟨h₁, h₂⟩ a
      fin_cases a
      · exact ⟨Nat.zero_le _, (i 0).isLt⟩
      · exact h₁
      · exact h₂
    · exact fun h => ⟨h 1, h 2⟩
  · have j₀ : (j 0).val < 1 := (j 0).isLt
    have j₁ : (j 1).val < 256 := (j 1).isLt
    have j₂ : (j 2).val < 256 := (j 2).isLt
    have e₁ : (i 1).val = r.val * 256 + (j 1).val := e 1
    have e₂ : (i 2).val = c.val * 256 + (j 2).val := e 2
    change _ = projectVal (lay3 κ t I) (Fin.ofNat 4 ((i 1).val / 256)) (Fin.ofNat 4 ((i 2).val / 256)) _
    rw [ofNat_div 256 (by decide) r (i 1).val (j 1).val e₁ j₁, ofNat_div 256 (by decide) c (i 2).val (j 2).val e₂ j₂]
    refine congrArg _ ?_
    funext a
    fin_cases a
    · exact Fin.ext (by change (j 0).val = 0; omega)
    · exact Fin.ext (by change (j 1).val = (i 1).val % 256 % 256; omega)
    · exact Fin.ext (by change (j 2).val = (i 2).val % 256 % 256; omega)

theorem normOut_into (hB : Base κ t I σ) (r : Fin 4) (hn : ∀ q ∈ (Piece.normOut r).needs, Done κ t I σ q) :
    Into (model κ t I (0, true)) (Piece.region (.normOut r)) σ ((normOut r).run σ).2 := by
  have e : normOutVal σ r = normOutVal (lay4 κ t I) r := by
    unfold normOutVal
    rw [rd_eq (σ := σ) (σ' := lay4 κ t I) (b := .gOut) fun i _ => hB .gOut i trivial, rd_eq (σ := σ) (σ' := lay4 κ t I) (b := .out) fun i hi => ?_]
    have h₁ : r.val * 256 ≤ (i 1).val ∧ (i 1).val < r.val * 256 + 256 := hi 1
    have h₂ : (i 2).val < 1024 := (i 2).isLt
    refine hn (.project r ⟨(i 2).val / 256, by omega⟩) (List.mem_map_of_mem (List.mem_finRange _)) .out i ?_
    refine (reg_self ..).2 ?_
    show (r.val * 256 ≤ (i 1).val ∧ (i 1).val < r.val * 256 + 256) ∧ (i 2).val / 256 * 256 ≤ (i 2).val ∧ (i 2).val < (i 2).val / 256 * 256 + 256
    omega
  rw [normOut_run, e]
  refine Into.store (fun i => ?_) fun i j e => ?_
  · constructor
    · intro h₁ a
      fin_cases a
      · exact ⟨Nat.zero_le _, (i 0).isLt⟩
      · exact h₁
      · exact ⟨Nat.zero_le _, (i 2).isLt⟩
    · exact fun h => h 1
  · have j₀ : (j 0).val < 1 := (j 0).isLt
    have j₁ : (j 1).val < 256 := (j 1).isLt
    have e₁ : (i 1).val = r.val * 256 + (j 1).val := e 1
    have e₂ : (i 2).val = 0 + (j 2).val := e 2
    change _ = normOutVal (lay4 κ t I) (Fin.ofNat 4 ((i 1).val / 256)) _
    rw [ofNat_div 256 (by decide) r (i 1).val (j 1).val e₁ j₁]
    refine congrArg _ ?_
    funext a
    fin_cases a
    · exact Fin.ext (by change (j 0).val = 0; omega)
    · exact Fin.ext (by change (j 1).val = (i 1).val % 256 % 256; omega)
    · exact Fin.ext (by change (j 2).val = (i 2).val; omega)

/-! ## Any piece, and the schedule -/

theorem piece_into (hB : Base κ t I σ) (p : Piece) (hn : ∀ q ∈ p.needs, Done κ t I σ q) :
    Into (model κ t I p.which) p.region σ ((p.cmd κ t).run σ).2 := by
  cases p with
  | keys r => exact keys_into hB r
  | queries hf => exact queries_into hB hf
  | values hf => exact values_into hB hf
  | attnGate hf => exact attnGate_into hB hf
  | poolV hf => exact poolV_into hB hf
  | poolGate hf => exact poolGate_into hB hf
  | pool hf g => exact pool_into hB hf g hn
  | scores g p => exact scores_into hB g p hn
  | finish g p => exact finish_into hB g p hn
  | project r c => exact project_into hB r c hn
  | normOut r => exact normOut_into hB r hn

end Run

end Cert.Hybrid

end
-- ==== Proof.Sweep.lean ====
/-
  The whole of a tile's run. What stands keeps standing through the pieces that do not undo it, so the schedule,
  checked by evaluation, leaves the model's values; before it the first tile's halos are prepared, after it the
  tile's last rows are carried into the halos.
-/
module

public import proofs.«01_k».proof.Proof.Pieces

@[expose] public section

noncomputable section

namespace Cert.Hybrid

open Idealize.ShloMosaic Idealize.ShloMosaic.ValueIdx

variable {F : FTy → Type} [FloatOps F]

section Keep

variable {κ : Consts F} {t : BitVec 32} {I : BSt F} {σ σ' : BSt F}

theorem region_s (p : Piece) (i : Slot.s.sh.Idx) (h : p.region .s i) : ∃ g q, p = .scores g q ∧ (i 0).val = q.val := by
  cases p with
  | scores g q => exact ⟨g, q, rfl, h.elim (fun h => (reg_self ..).1 h) fun h => absurd h (reg_ne _ _ (by decide))⟩
  | _ => exact absurd h (reg_ne _ _ (by decide))

theorem region_m (p : Piece) (i : Slot.m.sh.Idx) (h : p.region .m i) : ∃ g q, p = .scores g q ∧ (i 0).val = q.val := by
  cases p with
  | scores g q => exact ⟨g, q, rfl, h.elim (fun h => absurd h (reg_ne _ _ (by decide))) fun h => (reg_self ..).1 h⟩
  | _ => exact absurd h (reg_ne _ _ (by decide))

theorem region_out (p : Piece) (i : Slot.out.sh.Idx) (h : p.region .out i) :
    (∃ r c, p = .project r c ∧ r.val * 256 ≤ (i 1).val ∧ (i 1).val < r.val * 256 + 256)
      ∨ ∃ r, p = .normOut r ∧ r.val * 256 ≤ (i 1).val ∧ (i 1).val < r.val * 256 + 256 := by
  cases p with
  | project r c => exact .inl ⟨r, c, rfl, ((reg_self ..).1 h).1⟩
  | normOut r => exact .inr ⟨r, rfl, (reg_self ..).1 h⟩
  | scores g q => exact h.elim (fun h => absurd h (reg_ne _ _ (by decide))) fun h => absurd h (reg_ne _ _ (by decide))
  | _ => exact absurd h (reg_ne _ _ (by decide))

theorem agree_scores {g g' : Fin 8} {q q' : Fin 4} (h : (Piece.scores g q).undoes (.scores g' q') = false) (e : q.val = q'.val) : g = g' := by
  have e' : q = q' := Fin.ext e
  by_contra hg
  simp [Piece.undoes, e', hg] at h

theorem agree (p q : Piece) (hu : p.undoes q = false) (b : Slot) (i : b.sh.Idx) (hp : p.region b i) (hq : q.region b i) :
    model κ t I p.which b i = model κ t I q.which b i := by
  cases b with
  | s =>
    obtain ⟨g, x, rfl, h⟩ := region_s p i hp
    obtain ⟨g', x', rfl, h'⟩ := region_s q i hq
    rw [agree_scores hu (h.symm.trans h')]; rfl
  | m =>
    obtain ⟨g, x, rfl, h⟩ := region_m p i hp
    obtain ⟨g', x', rfl, h'⟩ := region_m q i hq
    rw [agree_scores hu (h.symm.trans h')]; rfl
  | out =>
    obtain ⟨r, c, rfl, h⟩ | ⟨r, rfl, h⟩ := region_out p i hp <;> obtain ⟨r', c', rfl, h'⟩ | ⟨r', rfl, h'⟩ := region_out q i hq
    · rfl
    · have : r = r' := Fin.ext (by omega)
      simp [Piece.undoes, this] at hu
    · have : r = r' := Fin.ext (by omega)
      simp [Piece.undoes, this] at hu
    · rfl
  | _ => rfl

theorem Done.keep {p q : Piece} (hq : Done κ t I σ q) (hi : Into (model κ t I p.which) p.region σ σ') (hu : p.undoes q = false) :
    Done κ t I σ' q := by
  intro b i hr
  by_cases hp : p.region b i
  · rw [(hi b i).1 hp]; exact agree p q hu b i hp hr
  · rw [(hi b i).2 hp]; exact hq b i hr

theorem Base.keep {p : Piece} (hB : Base κ t I σ) (hi : Into (model κ t I p.which) p.region σ σ') : Base κ t I σ' := by
  intro b i hr
  by_cases hp : p.region b i
  · rw [(hi b i).1 hp]
    cases b with
    | s => exact hr.elim
    | m => exact hr.elim
    | out => exact hr.elim
    | _ => rfl
  · rw [(hi b i).2 hp]; exact hB b i hr

end Keep

/-! ## The schedule -/

/-- What stands after a list of pieces, where each piece's needs stand before it. -/
def sweep : List Piece → List Piece → Option (List Piece)
  | K, [] => some K
  | K, p :: ps => if p.needs.all (fun q => K.contains q) then sweep (p :: K.filter fun q => !p.undoes q) ps else none

theorem sweep_run {κ : Consts F} {t : BitVec 32} {I : BSt F} (ps : List Piece) : ∀ (K K' : List Piece) (σ : BSt F), sweep K ps = some K' →
    Base κ t I σ → (∀ q ∈ K, Done κ t I σ q) →
    Base κ t I ((doAll κ t ps).run σ).2 ∧ ∀ q ∈ K', Done κ t I ((doAll κ t ps).run σ).2 q := by
  induction ps with
  | nil =>
    intro K K' σ h hB hK
    obtain rfl : K = K' := Option.some.inj h
    exact ⟨hB, hK⟩
  | cons p ps ih =>
    intro K K' σ h hB hK
    unfold sweep at h
    split at h
    · rename_i hn
      have hn' : ∀ q ∈ p.needs, Done κ t I σ q := fun q hq => hK q (by simpa using List.all_eq_true.1 hn q hq)
      have hi := piece_into (t := t) hB p hn'
      have e : ((doAll κ t (p :: ps)).run σ).2 = ((doAll κ t ps).run ((p.cmd κ t).run σ).2).2 := by
        conv_lhs => unfold doAll
        rw [run_seq]
      rw [e]
      refine ih _ _ _ h (hB.keep hi) fun q hq => ?_
      rcases List.mem_cons.1 hq with rfl | hq
      · exact fun b i hr => (hi b i).1 hr
      · obtain ⟨h₁, h₂⟩ := List.mem_filter.1 hq
        exact (hK q h₁).keep hi (by simpa using h₂)
    · exact absurd h (by simp)

/-- What must stand at the end. -/
def ends : List Piece :=
  [.normOut 0, .normOut 1, .normOut 2, .normOut 3, .keys 0, .keys 1, .keys 2, .keys 3, .values 0, .values 1, .poolV 0, .poolV 1]

/-- Whether the schedule can run and leaves it. -/
def scheduleGood : Bool := match sweep [] schedule with
  | some K => ends.all fun q => K.contains q
  | none => false

theorem schedule_good : scheduleGood = true := by decide +kernel

theorem schedule_run {κ : Consts F} {t : BitVec 32} {I : BSt F} (σ : BSt F) (hB : Base κ t I σ) :
    Base κ t I ((doAll κ t schedule).run σ).2 ∧ ∀ q ∈ ends, Done κ t I ((doAll κ t schedule).run σ).2 q := by
  have h := schedule_good
  unfold scheduleGood at h
  split at h
  · rename_i K hK
    obtain ⟨h₁, h₂⟩ := sweep_run (κ := κ) (t := t) (I := I) schedule [] K σ hK hB (fun q hq => absurd hq (by simp))
    exact ⟨h₁, fun q hq => h₂ q (by simpa using List.all_eq_true.1 h q hq)⟩
  · exact absurd h (by simp)

end Cert.Hybrid

end
-- ==== Proof.Halo.lean ====
/-
  The halos: prepared at a sequence's first tile, carried from each tile into the next; and the whole block kernel run.
-/
module

public import proofs.«01_k».proof.Proof.Sweep
public import Idealize.ShloMosaic.Lib.Pipeline.Value

@[expose] public section

noncomputable section

namespace Cert.Hybrid

open Idealize.ShloMosaic Idealize.ShloMosaic.ValueIdx

variable {F : FTy → Type} [FloatOps F]

/-- The entries that pass from a tile to the next. -/
def haloEntries : Entries
  | .k, i => ((i : (S2 1536 512).Idx) 0).val < 512
  | .vt, i => ((i : (S3 12 512 128).Idx) 0).val < 4
  | .pv, i => ((i : (S2 1040 512).Idx) 0).val < 16
  | .ind, _ => True
  | _, _ => False

/-- The indicator of column 0. -/
def indicator : FVec F (S2 512 128) .bf16 :=
  truncf .bf16 (select (cmpi .eq (iota .tc (S2 512 128) 32 [1] (by decide)) (broadcast (S2 512 128) (0#32)))
    (broadcast (S2 512 128) (Scalar.ofBits .f32 0x3F800000#32)) (broadcast (S2 512 128) (Scalar.ofBits .f32 0x00000000#32))) bf_lt

/-- The halos before a sequence: zeros, and the indicator over the rows that are not there. -/
def halo0 (I : BSt F) : BSt F
  | .k => fun _ => (Scalar.ofBits .bf16 0x0000#16 : F .bf16)
  | .vt => fun _ => (Scalar.ofBits .bf16 0x0000#16 : F .bf16)
  | .pv => fun _ => (Scalar.ofBits .f32 0x00000000#32 : F .f32)
  | .ind => fun (i : (S2 1536 128).Idx) =>
    if (i 0).val < 512 then indicator (ix2 (Fin.ofNat 512 (i 0).val) (i 1)) else (Scalar.ofBits .bf16 0x0000#16 : F .bf16)
  | b => I b

/-- The halos after a tile: its last rows. -/
def next (T : BSt F) : BSt F
  | .k => fun (i : (S2 1536 512).Idx) => T .k (ix2 (Fin.ofNat 1536 ((i 0).val + 1024)) (i 1))
  | .vt => fun (i : (S3 12 512 128).Idx) => T .vt (ix3 (Fin.ofNat 12 ((i 0).val + 8)) (i 1) (i 2))
  | .pv => fun (i : (S2 1040 512).Idx) => T .pv (ix2 (Fin.ofNat 1040 ((i 0).val + 1024)) (i 1))
  | .ind => fun (i : (S2 1536 128).Idx) => if (i 0).val < 512 then (Scalar.ofBits .bf16 0x0000#16 : F .bf16) else T .ind i
  | b => T b

theorem Into.four_keep {T M : BSt F} {K : Entries} {f : Fin 4 → BCmd F PUnit} {R : Fin 4 → Entries}
    (hd : ∀ x b i, R x b i → ¬ K b i)
    (h : ∀ x σ, (∀ b i, K b i → σ b i = M b i) → Into T (R x) σ ((f x).run σ).2) (σ : BSt F) (hσ : ∀ b i, K b i → σ b i = M b i) :
    Into T (fun b i => ∃ x, R x b i) σ ((Hybrid.four f).run σ).2 := by
  have e : ((Hybrid.four f).run σ).2 = ((f 3).run ((f 2).run ((f 1).run ((f 0).run σ).2).2).2).2 := by
    unfold Hybrid.four; rw [run_seq, run_seq, run_seq]
  have k (x : Fin 4) (τ : BSt F) (hτ : ∀ b i, K b i → τ b i = M b i) : ∀ b i, K b i → ((f x).run τ).2 b i = M b i :=
    fun b i hk => ((h x τ hτ b i).2 fun hr => hd x b i hr hk).trans (hτ b i hk)
  have s₀ := k 0 _ hσ
  have s₁ := k 1 _ s₀
  have s₂ := k 2 _ s₁
  rw [e]
  refine ((((h 0 _ hσ).trans (h 1 _ s₀)).trans (h 2 _ s₁)).trans (h 3 _ s₂)).congr fun b i => ?_
  rw [Fin.exists_fin_succ, Fin.exists_fin_succ, Fin.exists_fin_succ, Fin.exists_fin_one, or_assoc, or_assoc]; rfl

/-- One store of a constant at the top rows of a two-axis buffer, and such. -/
theorem vt_axes (o : ℕ) (i : (S3 12 512 128).Idx) :
    (i 0).val = o ↔ ∀ a, (![o, 0, 0] : Fin 3 → ℕ) a ≤ (i a).val ∧ (i a).val < (![o, 0, 0] : Fin 3 → ℕ) a + (S3 1 512 128).size a := by
  constructor
  · intro h₀ a
    fin_cases a
    · change o ≤ (i 0).val ∧ (i 0).val < o + 1; omega
    · exact ⟨Nat.zero_le _, (i 1).isLt⟩
    · exact ⟨Nat.zero_le _, (i 2).isLt⟩
  · intro h
    have h₀ : o ≤ (i 0).val ∧ (i 0).val < o + 1 := h 0
    omega

theorem top_axes {A B n : ℕ} (i : (S2 A B).Idx) :
    (i 0).val < n ↔ ∀ a, (![0, 0] : Fin 2 → ℕ) a ≤ (i a).val ∧ (i a).val < (![0, 0] : Fin 2 → ℕ) a + (S2 n B).size a := by
  refine two_axes ?_ ⟨Nat.zero_le _, by simpa using (i 1).isLt⟩
  exact ⟨fun h => by simpa using h.2, fun h => ⟨Nat.zero_le _, by simpa using h⟩⟩

theorem init_into (I σ : BSt F) : Into (halo0 I) haloEntries σ (initHalos.run σ).2 := by
  have er : (initHalos.run σ).2 = ((do
      st (F := F) .pv ![0, 0] (S2 16 512).size (in2 (by decide) (by decide)) (pk2 (by decide) (by decide)) (fun _ => (Scalar.ofBits .f32 0x00000000#32 : F .f32))
      st (F := F) .k ![0, 0] (S2 512 512).size (in2 (by decide) (by decide)) (pk2 (by decide) (by decide)) (fun _ => (Scalar.ofBits .bf16 0x0000#16 : F .bf16))
      four fun b => st (F := F) .vt ![b.val, 0, 0] (S3 1 512 128).size (in3 (by omega) (by decide) (by decide)) (pk3 (by decide) (by decide))
        (fun _ => (Scalar.ofBits .bf16 0x0000#16 : F .bf16))
      st (F := F) .ind ![0, 0] (S2 512 128).size (in2 (by decide) (by decide)) (pk2 (by decide) (by decide)) (shapeCast (S2 512 128) (indicator (F := F)) (by decide))
      st (F := F) .ind ![512, 0] (S2 1024 128).size (in2 (by decide) (by decide)) (pk2 (by decide) (by decide)) (fun _ => (Scalar.ofBits .bf16 0x0000#16 : F .bf16))
      : BCmd F PUnit).run σ).2 := rfl
  rw [er, run_seq, run_seq, run_seq, run_seq, st_run, st_run, st_run, st_run]
  refine ((((Into.store (T := halo0 I) (b := .pv) (P := fun (i : (S2 1040 512).Idx) => (i 0).val < 16) (fun i => top_axes i) fun i j e => rfl).trans
    (Into.store (b := .k) (P := fun (i : (S2 1536 512).Idx) => (i 0).val < 512) (fun i => top_axes i) fun i j e => rfl)).trans
    (Into.four (R := fun x => reg .vt fun (i : (S3 12 512 128).Idx) => (i 0).val = x.val)
      (fun x σ => by rw [st_run]; exact Into.store (fun i => vt_axes x.val i) fun i j e => rfl) _)).trans
    ((Into.store (b := .ind) (P := fun (i : (S2 1536 128).Idx) => (i 0).val < 512) (fun i => top_axes i) fun i j e => ?_).trans
    (Into.store (b := .ind) (P := fun (i : (S2 1536 128).Idx) => 512 ≤ (i 0).val) (fun i => ?_) fun i j e => ?_))).congr fun b i => ?_
  · have j₀ : (j 0).val < 512 := (j 0).isLt
    have e₀ : (i 0).val = 0 + (j 0).val := e 0
    have e₁ : (i 1).val = 0 + (j 1).val := e 1
    change shapeCast (S2 512 128) indicator _ j = ite _ _ _
    rw [shapeCast_self, if_pos (by omega)]
    refine congrArg _ ?_
    funext a
    fin_cases a
    · exact Fin.ext (by change (j 0).val = (i 0).val % 512; omega)
    · exact Fin.ext (by change (j 1).val = (i 1).val; omega)
  · refine two_axes ?_ ⟨Nat.zero_le _, (i 1).isLt⟩
    exact ⟨fun h => h.1, fun h => ⟨h, (i 0).isLt⟩⟩
  · have e₀ : (i 0).val = 512 + (j 0).val := e 0
    change _ = ite _ _ _
    rw [if_neg (by omega)]
  · cases b with
    | k =>
      change (_ : Prop) ↔ (((_ ∨ _) ∨ _) ∨ _ ∨ _)
      simp only [reg_self]
      exact ⟨fun h => .inl (.inl (.inr h)), fun h => h.elim (fun h => h.elim (fun h => h.elim (fun h => absurd h (reg_ne _ _ (by decide))) id)
        fun ⟨_, h⟩ => absurd h (reg_ne _ _ (by decide))) fun h => h.elim (fun h => absurd h (reg_ne _ _ (by decide))) fun h => absurd h (reg_ne _ _ (by decide))⟩
    | pv =>
      change (_ : Prop) ↔ (((_ ∨ _) ∨ _) ∨ _ ∨ _)
      simp only [reg_self]
      exact ⟨fun h => .inl (.inl (.inl h)), fun h => h.elim (fun h => h.elim (fun h => h.elim id fun h => absurd h (reg_ne _ _ (by decide)))
        fun ⟨_, h⟩ => absurd h (reg_ne _ _ (by decide))) fun h => h.elim (fun h => absurd h (reg_ne _ _ (by decide))) fun h => absurd h (reg_ne _ _ (by decide))⟩
    | vt =>
      change (_ : Prop) ↔ (((_ ∨ _) ∨ _) ∨ _ ∨ _)
      simp only [reg_self]
      exact ⟨fun h => .inl (.inr ⟨⟨_, h⟩, rfl⟩), fun h => h.elim (fun h => h.elim (fun h => h.elim (fun h => absurd h (reg_ne _ _ (by decide))) fun h => absurd h (reg_ne _ _ (by decide)))
        fun ⟨x, h⟩ => by have := x.isLt; show ((i : (S3 12 512 128).Idx) 0).val < 4; omega) fun h => h.elim (fun h => absurd h (reg_ne _ _ (by decide))) fun h => absurd h (reg_ne _ _ (by decide))⟩
    | ind =>
      change (_ : Prop) ↔ (((_ ∨ _) ∨ _) ∨ _ ∨ _)
      simp only [reg_self]
      exact ⟨fun _ => .inr (by show ((i : (S2 1536 128).Idx) 0).val < 512 ∨ 512 ≤ ((i : (S2 1536 128).Idx) 0).val; omega), fun _ => trivial⟩
    | _ =>
      exact ⟨fun h => h.elim, fun h => h.elim (fun h => h.elim (fun h => h.elim (fun h => absurd h (reg_ne _ _ (by decide))) fun h => absurd h (reg_ne _ _ (by decide)))
        fun ⟨_, h⟩ => absurd h (reg_ne _ _ (by decide))) fun h => h.elim (fun h => absurd h (reg_ne _ _ (by decide))) fun h => absurd h (reg_ne _ _ (by decide))⟩

/-- The entries the carrying writes. -/
def carryEntries : Entries := fun b i =>
  ((reg .k (fun (i : (S2 1536 512).Idx) => (i 0).val < 512) b i ∨ ∃ x : Fin 4, reg .vt (fun (i : (S3 12 512 128).Idx) => (i 0).val = x.val) b i)
    ∨ reg .pv (fun (i : (S2 1040 512).Idx) => (i 0).val < 16) b i) ∨ reg .ind (fun (i : (S2 1536 128).Idx) => (i 0).val < 512) b i

theorem carryValues_run (b : Fin 4) (σ : BSt F) : ((carryValues b).run σ).2 = Function.update σ .vt
    ((Rect.unit (s := Slot.sh .vt) ![b.val, 0, 0] (S3 1 512 128).size (in3 (by omega) (by decide) (by decide))).overlay (σ .vt)
      (shapeCast (S3 1 512 128) (shapeCast (S2 512 128) (rd σ .vt ![8 + b.val, 0, 0] (S3 1 512 128).size (in3 (by omega) (by decide) (by decide))) (by decide)) (by decide))) := rfl

theorem carry_into (σ : BSt F) : Into (next σ) carryEntries σ (carry.run σ).2 := by
  have er : (carry.run σ).2 = ((do
      st (F := F) .k ![0, 0] (S2 512 512).size (in2 (by decide) (by decide)) (pk2 (by decide) (by decide))
        (shapeCast (S2 512 512) (rd σ .k ![1024, 0] (S2 512 512).size (in2 (by decide) (by decide))) (by decide))
      four carryValues
      st (F := F) .pv ![0, 0] (S2 16 512).size (in2 (by decide) (by decide)) (pk2 (by decide) (by decide))
        (shapeCast (S2 16 512) (rd σ .pv ![1024, 0] (S2 16 512).size (in2 (by decide) (by decide))) (by decide))
      st (F := F) .ind ![0, 0] (S2 512 128).size (in2 (by decide) (by decide)) (pk2 (by decide) (by decide)) (fun _ => (Scalar.ofBits .bf16 0x0000#16 : F .bf16))
      : BCmd F PUnit).run σ).2 := rfl
  rw [er, run_seq, run_seq, run_seq, st_run, st_run, st_run]
  refine (((Into.store (T := next σ) (b := .k) (P := fun (i : (S2 1536 512).Idx) => (i 0).val < 512) (fun i => top_axes i) fun i j e => ?_).trans
    (Into.four_keep (M := σ) (K := reg .vt fun (i : (S3 12 512 128).Idx) => 8 ≤ (i 0).val)
      (R := fun x => reg .vt fun (i : (S3 12 512 128).Idx) => (i 0).val = x.val) ?_ (fun x τ hτ => ?_) _ ?_)).trans
    (Into.store (b := .pv) (P := fun (i : (S2 1040 512).Idx) => (i 0).val < 16) (fun i => top_axes i) fun i j e => ?_)).trans
    (Into.store (b := .ind) (P := fun (i : (S2 1536 128).Idx) => (i 0).val < 512) (fun i => top_axes i) fun i j e => ?_)
  · have e₀ : (i 0).val = 0 + (j 0).val := e 0
    have e₁ : (i 1).val = 0 + (j 1).val := e 1
    have j₀ : (j 0).val < 512 := (j 0).isLt
    rw [shapeCast_self]
    refine congrArg (σ .k) ?_
    funext a
    have em := emb_val (s := Slot.sh .k) ![1024, 0] (S2 512 512).size (in2 (by decide) (by decide)) j a
    refine Fin.ext (em.trans ?_)
    fin_cases a
    · change 1024 + (j 0).val = ((i 0).val + 1024) % 1536; omega
    · change 0 + (j 1).val = (i 1).val; omega
  · intro x b i hr hk
    by_cases hb : b = .vt
    · subst hb
      have h₀ : (i 0).val = x.val := (reg_self ..).1 hr
      have h₁ : 8 ≤ (i 0).val := (reg_self ..).1 hk
      have := x.isLt
      omega
    · exact reg_ne _ _ hb hr
  · rw [carryValues_run]
    refine Into.store (fun i => vt_axes x.val i) fun i j e => ?_
    have e₀ : (i 0).val = x.val + (j 0).val := e 0
    have e₁ : (i 1).val = 0 + (j 1).val := e 1
    have e₂ : (i 2).val = 0 + (j 2).val := e 2
    have j₀ : (j 0).val < 1 := (j 0).isLt
    rw [shapeCast_shapeCast]
    have em := emb_val (s := Slot.sh .vt) ![8 + x.val, 0, 0] (S3 1 512 128).size (in3 (by omega) (by decide) (by decide)) j
    unfold rd
    generalize (Rect.unit (s := Slot.sh .vt) ![8 + x.val, 0, 0] (S3 1 512 128).size (in3 (by omega) (by decide) (by decide))).emb j = i' at em ⊢
    have m₀ : (i' 0).val = 8 + x.val + (j 0).val := em 0
    have m₁ : (i' 1).val = 0 + (j 1).val := em 1
    have m₂ : (i' 2).val = 0 + (j 2).val := em 2
    rw [hτ .vt i' ((reg_self ..).2 (by show 8 ≤ (i' 0).val; omega))]
    refine congrArg (σ .vt) ?_
    funext a
    refine Fin.ext ?_
    fin_cases a
    · change (i' 0).val = ((i 0).val + 8) % 12; omega
    · change (i' 1).val = (i 1).val; omega
    · change (i' 2).val = (i 2).val; omega
  · intro b i hk
    by_cases hb : b = .vt
    · subst hb
      rw [Function.update_of_ne (by decide)]
    · exact absurd hk (reg_ne _ _ hb)
  · have e₀ : (i 0).val = 0 + (j 0).val := e 0
    have e₁ : (i 1).val = 0 + (j 1).val := e 1
    have j₀ : (j 0).val < 16 := (j 0).isLt
    rw [shapeCast_self]
    refine congrArg (σ .pv) ?_
    funext a
    have em := emb_val (s := Slot.sh .pv) ![1024, 0] (S2 16 512).size (in2 (by decide) (by decide)) j a
    refine Fin.ext (em.trans ?_)
    fin_cases a
    · change 1024 + (j 0).val = ((i 0).val + 1024) % 1040; omega
    · change 0 + (j 1).val = (i 1).val; omega
  · have e₀ : (i 0).val = 0 + (j 0).val := e 0
    have j₀ : (j 0).val < 512 := (j 0).isLt
    change _ = ite _ _ _
    rw [if_pos (by omega)]

/-! ## The block kernel run -/

/-- The block kernel's inputs. -/
def Slot.isIn : Slot → Bool
  | .x | .gIn | .wMain | .wQvt | .poolW | .poolScale | .bias | .wOut | .gOut => true
  | _ => false

theorem carry_keeps (σ : BSt F) (b : Slot) (hb : b.isIn = true ∨ b = .out) : (carry.run σ).2 b = σ b := by
  funext i
  refine (carry_into σ b i).2 ?_
  rintro (((h | ⟨_, h⟩) | h) | h) <;> refine reg_ne _ _ ?_ h <;> rintro rfl <;> revert hb <;> decide

theorem norm_into (σ : BSt F) : Into (fun b => Function.update σ .h (normVal σ) b) (reg .h fun _ => True) σ (normIn.run σ).2 := by
  rw [normIn_run]
  refine Into.store (fun i => ⟨fun _ => Fin.forall_fin_two.2 ⟨⟨Nat.zero_le _, (i 0).isLt⟩, Nat.zero_le _, (i 1).isLt⟩, fun _ => trivial⟩) fun i j e => ?_
  rw [Function.update_self]
  refine congrArg _ ?_
  funext a
  fin_cases a
  · exact Fin.ext (((e 0).trans (by simp)).symm)
  · exact Fin.ext (((e 1).trans (by simp)).symm)

/-- A tile's run: from a state whose inputs, and whose halos where the tile is not its sequence's first, are `I`'s
    (`I`'s halos being the empty ones at a first tile), the inputs stay, the output is the model's, and the halos are the
    model's last rows. -/
theorem block_run (κ : Consts F) (first : Bool) (t : BitVec 32) (I σ : BSt F) (hin : ∀ b, b.isIn = true → σ b = I b)
    (h₀ : first = true → ∀ b i, haloEntries b i → I b i = halo0 I b i) (h₁ : first = false → ∀ b i, haloEntries b i → σ b i = I b i) :
    (∀ b, b.isIn = true → ((block κ first t).run σ).2 b = I b)
      ∧ ((block κ first t).run σ).2 .out = model κ t I (0, true) .out
      ∧ ∀ b i, haloEntries b i → ((block κ first t).run σ).2 b i = next (model κ t I (0, true)) b i := by
  obtain ⟨σ₁, hσ₁, hin₁, hh₁⟩ : ∃ σ₁, (((cond first initHalos (pure ⟨⟩) : BCmd F PUnit)).run σ).2 = σ₁ ∧ (∀ b, b.isIn = true → σ₁ b = I b)
      ∧ ∀ b i, haloEntries b i → σ₁ b i = I b i := by
    cases first with
    | true =>
      refine ⟨_, rfl, fun b hb => ?_, fun b i hi => ?_⟩
      · rw [← hin b hb]
        funext i
        refine (init_into I σ b i).2 fun h => ?_
        cases b <;> first | exact h.elim | exact absurd hb (by decide)
      · exact ((init_into I σ b i).1 hi).trans (h₀ rfl b i hi).symm
    | false => exact ⟨σ, rfl, hin, h₁ rfl⟩
  have hn := norm_into σ₁
  have e : ((block κ first t).run σ).2 = (carry.run ((doAll κ t schedule).run (normIn.run σ₁).2).2).2 := by
    unfold block
    rw [run_seq, run_seq, run_seq, hσ₁]
  have hnv : normVal σ₁ = normVal I := by
    unfold normVal
    rw [rd_eq (σ := σ₁) (σ' := I) (b := .x) fun i _ => congrFun (hin₁ .x rfl) i, rd_eq (σ := σ₁) (σ' := I) (b := .gIn) fun i _ => congrFun (hin₁ .gIn rfl) i]
  have hB : Base κ t I (normIn.run σ₁).2 := by
    intro b i hi
    by_cases hb : b = .h
    · subst hb
      rw [(hn .h i).1 ((reg_self ..).2 trivial)]
      dsimp only
      rw [Function.update_self, hnv]; rfl
    · rw [(hn b i).2 (reg_ne _ _ hb)]
      cases b with
      | h => exact absurd rfl hb
      | k => exact (hh₁ .k i hi).trans (if_pos (show ((i : (S2 1536 512).Idx) 0).val < 512 from hi)).symm
      | vt => exact (hh₁ .vt i hi).trans (if_pos (show ((i : (S3 12 512 128).Idx) 0).val < 4 from hi)).symm
      | pv => exact (hh₁ .pv i hi).trans (if_pos (show ((i : (S2 1040 512).Idx) 0).val < 16 from hi)).symm
      | ind => exact hh₁ .ind i trivial
      | _ => first | exact hi.elim | exact congrFun (hin₁ _ rfl) i
  obtain ⟨hB', hd⟩ := schedule_run (κ := κ) (t := t) (I := I) _ hB
  rw [e]
  generalize ((doAll κ t schedule).run (normIn.run σ₁).2).2 = τ at hB' hd ⊢
  have hout : τ .out = model κ t I (0, true) .out := by
    funext i
    have i₁ : ((i : (S3 1 1024 1024).Idx) 1).val < 1024 := ((i : (S3 1 1024 1024).Idx) 1).isLt
    have hm : Piece.normOut ⟨((i : (S3 1 1024 1024).Idx) 1).val / 256, by omega⟩ ∈ ends := by
      generalize (⟨_, _⟩ : Fin 4) = r
      revert r; decide
    refine hd _ hm .out i ((reg_self ..).2 ?_)
    show ((i : (S3 1 1024 1024).Idx) 1).val / 256 * 256 ≤ ((i : (S3 1 1024 1024).Idx) 1).val ∧ ((i : (S3 1 1024 1024).Idx) 1).val < ((i : (S3 1 1024 1024).Idx) 1).val / 256 * 256 + 256
    omega
  refine ⟨fun b hb => ?_, ?_, fun b i hi => ?_⟩
  · rw [carry_keeps τ b (.inl hb)]
    funext i
    cases b <;> first | exact absurd hb (by decide) | exact hB' _ i trivial
  · rw [carry_keeps τ .out (.inr rfl), hout]
  · have hc := carry_into τ b i
    cases b with
    | k =>
      rw [hc.1 (.inl (.inl (.inl ((reg_self ..).2 hi))))]
      exact k_read hB' 4 (by decide) (fun r _ => hd _ (by revert r; decide)) _ (by
        have : ((i : (S2 1536 512).Idx) 0).val < 512 := hi
        show (((i : (S2 1536 512).Idx) 0).val + 1024) % 1536 < _; omega)
    | vt =>
      have hi' : ((i : (S3 12 512 128).Idx) 0).val < 4 := hi
      rw [hc.1 (.inl (.inl (.inr ⟨⟨_, hi'⟩, (reg_self ..).2 rfl⟩)))]
      exact vt_read hB' 2 (by decide) (fun r _ => hd _ (by revert r; decide)) _ (by
        show (((i : (S3 12 512 128).Idx) 0).val + 8) % 12 < _; omega)
    | pv =>
      rw [hc.1 (.inl (.inr ((reg_self ..).2 hi)))]
      exact pv_read hB' 2 (by decide) (fun r _ => hd _ (by revert r; decide)) _ (by
        have : ((i : (S2 1040 512).Idx) 0).val < 16 := hi
        show (((i : (S2 1040 512).Idx) 0).val + 1024) % 1040 < _; omega)
    | ind =>
      by_cases h : ((i : (S2 1536 128).Idx) 0).val < 512
      · rw [hc.1 (.inr ((reg_self ..).2 h))]
        exact (if_pos h).trans (if_pos h).symm
      · rw [hc.2 ?_]
        · exact (hB' .ind i trivial).trans (if_neg h).symm
        · rintro (((h' | ⟨_, h'⟩) | h') | h')
          · exact reg_ne _ _ (by decide) h'
          · exact reg_ne _ _ (by decide) h'
          · exact reg_ne _ _ (by decide) h'
          · exact h ((reg_self ..).1 h')
    | _ => exact hi.elim

end Cert.Hybrid

end
-- ==== Proof.Softmax.lean ====
/-
  Softmax-weighted means over the extended reals where the scores are real or minus infinity and the values are
  real: both ways of computing one are the real mean by the exponentials' weights.
-/
module

public import Idealize.ShloMosaic.PureOps.Ideal.Laws
public import Idealize.ShloMosaic.Lib.ValueIdxCore
public import Mathlib.Analysis.SpecialFunctions.Pow.Real

@[expose] public section

noncomputable section

namespace Cert.Soft

open Idealize.ShloMosaic

variable {ι : Type} [Fintype ι]

theorem coe_sum {κ : Type} (S : Finset κ) (f : κ → ℝ) : ((∑ j ∈ S, f j : ℝ) : EReal) = ∑ j ∈ S, (f j : EReal) := by
  classical
  induction S using Finset.induction_on with
  | empty => simp
  | insert a S h ih => rw [Finset.sum_insert h, Finset.sum_insert h, EReal.coe_add, ih]

/-- A score: real where it counts, minus infinity elsewhere. -/
def score (p : Prop) [Decidable p] (a : ℝ) : EReal := if p then (a : EReal) else ⊥

/-- A weight: the exponential where it counts, zero elsewhere. -/
def wt (p : Prop) [Decidable p] (a : ℝ) : ℝ := if p then Real.exp a else 0

/-- The greatest of some scores is real if one of them counts. -/
theorem fold_max_real (p : ι → Prop) [DecidablePred p] (a : ι → ℝ) (j₀ : ι) (h₀ : p j₀) :
    ∃ μ : ℝ, Finset.univ.fold max ⊥ (fun j => score (p j) (a j)) = (μ : EReal) := by
  have hb : (⊥ : EReal) < Finset.univ.fold max ⊥ (fun j => score (p j) (a j)) := by
    rw [Finset.lt_fold_max]
    exact .inr ⟨j₀, Finset.mem_univ _, by rw [score, if_pos h₀]; exact EReal.bot_lt_coe _⟩
  have ht : Finset.univ.fold max ⊥ (fun j => score (p j) (a j)) < (⊤ : EReal) := by
    rw [Finset.fold_max_lt]
    refine ⟨bot_lt_top, fun j _ => ?_⟩
    unfold score; split
    · exact EReal.coe_lt_top _
    · exact bot_lt_top
  exact ⟨_, (EReal.coe_toReal ht.ne hb.ne').symm⟩

theorem exp_score (p : Prop) [Decidable p] (a μ : ℝ) : Ideal.exp (score p a - μ) = ((Real.exp (-μ) * wt p a : ℝ) : EReal) := by
  unfold score wt; split
  · rw [← EReal.coe_sub, Ideal.exp_coe, sub_eq_neg_add, Real.exp_add]
  · rw [sub_eq_add_neg, EReal.bot_add]; simp

theorem exp2_score (p : Prop) [Decidable p] (a μ : ℝ) :
    Ideal.exp2 (score p a - μ) = ((Real.exp (-μ * Real.log 2) * wt p (a * Real.log 2) : ℝ) : EReal) := by
  unfold score wt; split
  · rw [← EReal.coe_sub, Ideal.exp2_coe, ← Real.exp_add]
    refine congrArg _ ?_
    show (2 : ℝ) ^ (a - μ) = _
    rw [Real.rpow_def_of_pos (by norm_num)]; congr 1; ring
  · rw [sub_eq_add_neg, EReal.bot_add]; simp

theorem wt_nonneg (p : Prop) [Decidable p] (a : ℝ) : 0 ≤ wt p a := by
  unfold wt; split
  · exact (Real.exp_pos _).le
  · exact le_rfl

theorem wt_sum_pos (p : ι → Prop) [DecidablePred p] (a : ι → ℝ) (j₀ : ι) (h₀ : p j₀) : 0 < ∑ j, wt (p j) (a j) :=
  Finset.sum_pos' (fun j _ => wt_nonneg _ _) ⟨j₀, Finset.mem_univ _, by rw [wt, if_pos h₀]; exact Real.exp_pos _⟩

/-- The mean by the weights. -/
def mean (p : ι → Prop) [DecidablePred p] (a v : ι → ℝ) : ℝ := (∑ j, wt (p j) (a j) * v j) / ∑ j, wt (p j) (a j)

/-- A mean does not see its scores shifted. -/
theorem mean_shift (p : ι → Prop) [DecidablePred p] (a v : ι → ℝ) (c : ℝ) : mean p (fun j => a j + c) v = mean p a v := by
  have h : ∀ j, wt (p j) (a j + c) = Real.exp c * wt (p j) (a j) := fun j => by
    unfold wt; split
    · rw [Real.exp_add, mul_comm]
    · rw [mul_zero]
  unfold mean
  simp only [h, mul_assoc, ← Finset.mul_sum]
  exact mul_div_mul_left _ _ (Real.exp_pos c).ne'

/-- Weights in base two, the normaliser's reciprocal multiplied in last. -/
theorem exp2_mean (p : ι → Prop) [DecidablePred p] (a v : ι → ℝ) (j₀ : ι) (h₀ : p j₀) (μ : ℝ) :
    (∑ j, (v j : EReal) * Ideal.exp2 (score (p j) (a j) - μ)) * Ideal.div 1 (∑ j, Ideal.exp2 (score (p j) (a j) - μ))
      = ((mean p (fun j => a j * Real.log 2) v : ℝ) : EReal) := by
  have hw := wt_sum_pos p (fun j => a j * Real.log 2) j₀ h₀
  have hc := Real.exp_pos (-μ * Real.log 2)
  have hD : (∑ j, Real.exp (-μ * Real.log 2) * wt (p j) (a j * Real.log 2)) ≠ 0 := by
    rw [← Finset.mul_sum]; exact (mul_pos hc hw).ne'
  simp only [exp2_score, ← EReal.coe_mul, ← coe_sum]
  rw [Ideal.div_coe hD, one_mul, ← EReal.coe_mul]
  refine congrArg _ ?_
  unfold mean
  rw [mul_one_div, ← Finset.mul_sum, ← mul_div_mul_left (∑ j, wt (p j) (a j * Real.log 2) * v j) _ hc.ne']
  congr 1
  rw [Finset.mul_sum]
  exact Finset.sum_congr rfl fun j _ => by ring

/-- Weights normalised first. -/
theorem exp_mean (p : ι → Prop) [DecidablePred p] (a v : ι → ℝ) (j₀ : ι) (h₀ : p j₀) (μ : ℝ) :
    (∑ j, Ideal.div (Ideal.exp (score (p j) (a j) - μ)) (∑ i, Ideal.exp (score (p i) (a i) - μ)) * (v j : EReal))
      = ((mean p a v : ℝ) : EReal) := by
  have hw := wt_sum_pos p a j₀ h₀
  have hc := Real.exp_pos (-μ)
  have hD : (∑ j, Real.exp (-μ) * wt (p j) (a j)) ≠ 0 := by
    rw [← Finset.mul_sum]; exact (mul_pos hc hw).ne'
  simp only [exp_score, ← coe_sum]
  simp only [Ideal.div_coe hD, ← EReal.coe_mul, ← coe_sum]
  refine congrArg _ ?_
  unfold mean
  rw [← Finset.mul_sum, Finset.sum_div]
  refine Finset.sum_congr rfl fun j _ => ?_
  field_simp

/-- A mean over a window of a larger family whose other members do not count. -/
theorem mean_window {κ : Type} [Fintype κ] (p : ι → Prop) [DecidablePred p] (q : κ → Prop) [DecidablePred q] (a v : ι → ℝ) (a' v' : κ → ℝ)
    (f : (j : ι) → p j → κ) (hq : ∀ j h, q (f j h)) (ha : ∀ j h, a' (f j h) = a j) (hv : ∀ j h, v' (f j h) = v j)
    (hinj : ∀ j₁ h₁ j₂ h₂, f j₁ h₁ = f j₂ h₂ → j₁ = j₂) (hsurj : ∀ k, q k → ∃ j h, f j h = k) : mean p a v = mean q a' v' := by
  have key : ∀ (x : ι → ℝ) (y : κ → ℝ), (∀ j h, y (f j h) = x j) → ∑ j, wt (p j) (a j) * x j = ∑ k, wt (q k) (a' k) * y k := by
    intro x y hxy
    have hp : ∀ j, wt (p j) (a j) * x j ≠ 0 → p j := fun j hne => by
      by_contra hn; exact hne (by rw [wt, if_neg hn, zero_mul])
    refine Finset.sum_bij_ne_zero (fun j _ hne => f j (hp j hne)) (fun _ _ _ => Finset.mem_univ _) (fun _ _ _ _ _ _ h => hinj _ _ _ _ h) ?_ ?_
    · intro k _ hne
      have hk : q k := by by_contra hn; exact hne (by rw [wt, if_neg hn, zero_mul])
      obtain ⟨j, h, rfl⟩ := hsurj k hk
      have e : wt (p j) (a j) * x j = wt (q (f j h)) (a' (f j h)) * y (f j h) := by
        rw [wt, wt, if_pos h, if_pos hk, ha, hxy]
      exact ⟨j, Finset.mem_univ _, e ▸ hne, rfl⟩
    · intro j _ hne
      rw [wt, wt, if_pos (hp j hne), if_pos (hq _ _), ha, hxy]
  have h1 := key v v' hv
  have h2 := key (fun _ => 1) (fun _ => 1) fun _ _ => rfl
  simp only [mul_one] at h2
  unfold mean; rw [h1, h2]

end Cert.Soft

end
-- ==== Proof.Spec.lean ====
/-
  The layer over the extended reals, as a function of its arguments read at natural numbers: what both programs
  compute at every row and column.
-/
module

public import proofs.«01_k».proof.Proof.Softmax

@[expose] public section

noncomputable section

namespace Cert.Spec

open Idealize.ShloMosaic

/-- The layer's arguments. -/
structure Args where
  x : ℕ → ℕ → ℕ → EReal
  gIn : ℕ → EReal
  w : ℕ → ℕ → EReal
  pw : ℕ → ℕ → ℕ → EReal
  ps : ℕ → EReal
  rb : ℕ → ℕ → EReal
  wo : ℕ → ℕ → EReal
  gOut : ℕ → EReal

/-- A real value. -/
def Real' (v : EReal) : Prop := ∃ r : ℝ, v = (r : EReal)

/-- The weights the attention's scores and values come from are real. -/
structure Args.Finite (A : Args) : Prop where
  gIn : ∀ d, Real' (A.gIn d)
  w : ∀ d e, Real' (A.w d e)
  rb : ∀ h r, Real' (A.rb h r)

/-- A row's entry over the root of its mean square plus epsilon, times the gain. -/
def rmsS (f : ℕ → EReal) (g : ℕ → EReal) (d : ℕ) : EReal :=
  f d * Ideal.rsqrt (Ideal.div (∑ k : Fin 1024, f k.val * f k.val) (Ideal.ofBits .f32 0x44800000#32) + Ideal.ofBits .f32 0x358637BD#32) * g d

def siluS (v : EReal) : EReal := Ideal.div v (1 + Ideal.exp (0 - v))

/-- A pooling head's window: 2, 4, 8, 16. -/
def windowOf (g : ℕ) : ℕ := 2 ^ (g + 1)

variable (A : Args)

def hS (b s d : ℕ) : EReal := rmsS (A.x b s) A.gIn d

/-- A row's projection. -/
def pS (b s e : ℕ) : EReal := ∑ d : Fin 1024, hS A b s d.val * A.w d.val e

/-- The last rows' sum of a pooled value. -/
def winS (b s e g : ℕ) : EReal := ∑ i ∈ Finset.range (windowOf g), if i ≤ s then pS A b (s - i) e else 0

/-- A pooled value's mean over its window less itself. -/
def diffS (b s g c : ℕ) : EReal :=
  Ideal.div (winS A b s (g * 128 + c) g) (((min (s + 1) (windowOf g) : ℕ) : ℝ) : EReal) - pS A b s (g * 128 + c)

def poolS (b s g c : ℕ) : EReal :=
  (∑ k : Fin 128, diffS A b s g k.val * A.pw g k.val c) * A.ps (g * 128 + c) * siluS (pS A b s (512 + (g * 128 + c)))

/-- A key a query sees: of its own chunk of 64, or of the eight before. -/
def seen (q k : ℕ) : Prop := k / 64 ≤ q / 64 ∧ q / 64 ≤ k / 64 + 8

instance (q k : ℕ) : Decidable (seen q k) := inferInstanceAs (Decidable (_ ∧ _))

/-- A projection as a real number. -/
def pR (b s e : ℕ) : ℝ := (pS A b s e).toReal

/-- A head's score of a key for a query. -/
def scoreR (b h q k : ℕ) : ℝ :=
  (∑ d : Fin 64, pR A b q (1024 + (h * 64 + d.val)) * pR A b k (1536 + (h * 64 + d.val))) * (1 / 8) + (A.rb h (min 128 (k + 64 - q))).toReal

/-- A head's attention. -/
def attS (b h q d : ℕ) : EReal :=
  ((Soft.mean (fun k : Fin 8192 => seen q k.val) (fun k => scoreR A b h q k.val) (fun k => pR A b k.val (2048 + (h * 64 + d))) : ℝ) : EReal)

/-- The heads' outputs, gated. -/
def yS (b s e : ℕ) : EReal :=
  if e < 512 then poolS A b s (e / 128) (e % 128)
  else attS A b ((e - 512) / 64) s ((e - 512) % 64) * siluS (pS A b s (2560 + (e - 512)))

/-- The residual. -/
def resS (b s d : ℕ) : EReal := A.x b s d + ∑ e : Fin 1024, yS A b s e.val * A.wo e.val d

/-- The layer's result. -/
def outS (b s d : ℕ) : EReal := rmsS (resS A b s) A.gOut d

theorem Real'.mul {u v : EReal} : Real' u → Real' v → Real' (u * v) := fun ⟨a, ha⟩ ⟨b, hb⟩ => ⟨a * b, by rw [ha, hb, EReal.coe_mul]⟩

theorem Real'.add {u v : EReal} : Real' u → Real' v → Real' (u + v) := fun ⟨a, ha⟩ ⟨b, hb⟩ => ⟨a + b, by rw [ha, hb, EReal.coe_add]⟩

theorem Real'.sum {κ : Type} (S : Finset κ) (f : κ → EReal) (h : ∀ k, Real' (f k)) : Real' (∑ k ∈ S, f k) := by
  choose r hr using h
  exact ⟨∑ k ∈ S, r k, by simp only [hr, Soft.coe_sum]⟩

theorem Real'.coe {v : EReal} : Real' v → v = ((v.toReal : ℝ) : EReal) := fun ⟨a, ha⟩ => by rw [ha, EReal.toReal_coe]

theorem ofBits_1024 : Ideal.ofBits .f32 0x44800000#32 = ((1024 : ℝ) : EReal) := by
  simp [Ideal.ofBits, Ideal.ieee]; rw [← EReal.coe_mul]; norm_num

theorem ofBits_eps : ∃ e : ℝ, 0 < e ∧ Ideal.ofBits .f32 0x358637BD#32 = (e : EReal) := by
  refine ⟨_, ?_, by simp [Ideal.ofBits, Ideal.ieee]; rfl⟩
  positivity

/-- A square of an extended real: nonnegative, and infinite where its root is. -/
theorem mul_self_cases (v : EReal) : v * v = ⊤ ∨ ∃ r : ℝ, v = (r : EReal) := by
  induction v with
  | bot => exact .inl EReal.bot_mul_bot
  | coe r => exact .inr ⟨r, rfl⟩
  | top => exact .inl EReal.top_mul_top

theorem sum_ne_bot {κ : Type} (S : Finset κ) (f : κ → EReal) (h : ∀ k, f k ≠ ⊥) : ∑ k ∈ S, f k ≠ ⊥ := by
  classical
  induction S using Finset.induction_on with
  | empty => simp
  | insert a S ha ih => rw [Finset.sum_insert ha]; exact EReal.add_ne_bot_iff.2 ⟨h a, ih⟩

/-- A row's normalized entry is real, whatever the row: where a square is infinite the root's inverse is zero. -/
theorem rms_real (f g : ℕ → EReal) (d : Fin 1024) (hg : Real' (g d)) : Real' (rmsS f g d) := by
  obtain ⟨e, he, h⟩ := ofBits_eps
  obtain ⟨γ, hγ⟩ := hg
  by_cases hf : ∀ k : Fin 1024, ∃ r : ℝ, f k.val = (r : EReal)
  · choose r hr using hf
    have hs : 0 ≤ ∑ k : Fin 1024, r k * r k := Finset.sum_nonneg fun k _ => mul_self_nonneg _
    have hp : 0 < (∑ k : Fin 1024, r k * r k) * (1 / 1024) + e := by positivity
    unfold rmsS
    rw [ofBits_1024, Ideal.div_coe (by norm_num), h, hγ]
    simp only [hr, ← EReal.coe_mul, ← Soft.coe_sum, ← EReal.coe_add]
    rw [Ideal.rsqrt_coe, if_neg hp.not_gt, if_neg hp.ne', ← EReal.coe_mul, ← EReal.coe_mul]
    exact ⟨_, rfl⟩
  · push Not at hf
    obtain ⟨a, ha⟩ := hf
    have ht : f a.val * f a.val = ⊤ := (mul_self_cases (f a.val)).resolve_right fun ⟨r, hr⟩ => ha r hr
    have hn : ∀ k : Fin 1024, f k.val * f k.val ≠ ⊥ := fun k => by
      rcases mul_self_cases (f k.val) with h | ⟨r, hr⟩
      · rw [h]; exact top_ne_bot
      · rw [hr, ← EReal.coe_mul]; exact EReal.coe_ne_bot _
    have hsum : ∑ k : Fin 1024, f k.val * f k.val = ⊤ := by
      rw [← Finset.add_sum_erase _ _ (Finset.mem_univ a), ht]
      exact EReal.top_add_of_ne_bot (sum_ne_bot _ _ hn)
    unfold rmsS
    rw [hsum, ofBits_1024, Ideal.div_coe (by norm_num), h, EReal.top_mul_coe_of_pos (by norm_num), EReal.top_add_coe]
    refine ⟨0, ?_⟩
    show f d * 0 * g d = _
    rw [mul_zero, zero_mul, EReal.coe_zero]

theorem pS_real (hA : A.Finite) (b s e : ℕ) : Real' (pS A b s e) :=
  Real'.sum _ _ fun _ => (rms_real _ _ _ (hA.gIn _)).mul (hA.w _ _)

theorem pS_coe (hA : A.Finite) (b s e : ℕ) : pS A b s e = (pR A b s e : EReal) := (pS_real A hA b s e).coe

end Cert.Spec

end
-- ==== Proof.ValueOps.lean ====
/-
  The block kernel's vector steps at an index, over the extended reals.
-/
module

public import proofs.«01_k».proof.Proof.Halo
public import proofs.«01_k».proof.Proof.Spec
public import Idealize.ShloMosaic.Lib.Pointwise
public import Idealize.ShloMosaic.Lib.Pointwise.IndexBridge

@[expose] public section

set_option maxRecDepth 16384

noncomputable section

namespace Cert.Hybrid

open Idealize.ShloMosaic Cert.Spec

/-! ## Rectangles read at an index -/

section Rects

variable {α : Type}

theorem emb2 {A B o₀ o₁ s₀ s₁ : ℕ} (h : ∀ a, (![o₀, o₁] : Fin 2 → ℕ) a + (S2 s₀ s₁).size a ≤ (S2 A B).size a) (a : Fin s₀) (c : Fin s₁) :
    (Rect.unit (s := S2 A B) ![o₀, o₁] (S2 s₀ s₁).size h).emb (ix2 a c)
      = ix2 ⟨o₀ + a.val, Nat.lt_of_lt_of_le (Nat.add_lt_add_left a.isLt _) (h 0)⟩ ⟨o₁ + c.val, Nat.lt_of_lt_of_le (Nat.add_lt_add_left c.isLt _) (h 1)⟩ := by
  funext i; apply Fin.ext; rw [emb_val]; fin_cases i <;> rfl

theorem emb3 {A B C o₀ o₁ o₂ s₀ s₁ s₂ : ℕ} (h : ∀ a, (![o₀, o₁, o₂] : Fin 3 → ℕ) a + (S3 s₀ s₁ s₂).size a ≤ (S3 A B C).size a)
    (a : Fin s₀) (c : Fin s₁) (d : Fin s₂) :
    (Rect.unit (s := S3 A B C) ![o₀, o₁, o₂] (S3 s₀ s₁ s₂).size h).emb (ix3 a c d)
      = ix3 ⟨o₀ + a.val, Nat.lt_of_lt_of_le (Nat.add_lt_add_left a.isLt _) (h 0)⟩ ⟨o₁ + c.val, Nat.lt_of_lt_of_le (Nat.add_lt_add_left c.isLt _) (h 1)⟩
          ⟨o₂ + d.val, Nat.lt_of_lt_of_le (Nat.add_lt_add_left d.isLt _) (h 2)⟩ := by
  funext i; apply Fin.ext; rw [emb_val]; fin_cases i <;> rfl

theorem emb4 {A B C D o₀ o₁ o₂ o₃ s₀ s₁ s₂ s₃ : ℕ}
    (h : ∀ a, (![o₀, o₁, o₂, o₃] : Fin 4 → ℕ) a + (S4 s₀ s₁ s₂ s₃).size a ≤ (S4 A B C D).size a)
    (a : Fin s₀) (c : Fin s₁) (d : Fin s₂) (e : Fin s₃) :
    (Rect.unit (s := S4 A B C D) ![o₀, o₁, o₂, o₃] (S4 s₀ s₁ s₂ s₃).size h).emb (ix4 a c d e)
      = ix4 ⟨o₀ + a.val, Nat.lt_of_lt_of_le (Nat.add_lt_add_left a.isLt _) (h 0)⟩ ⟨o₁ + c.val, Nat.lt_of_lt_of_le (Nat.add_lt_add_left c.isLt _) (h 1)⟩
          ⟨o₂ + d.val, Nat.lt_of_lt_of_le (Nat.add_lt_add_left d.isLt _) (h 2)⟩ ⟨o₃ + e.val, Nat.lt_of_lt_of_le (Nat.add_lt_add_left e.isLt _) (h 3)⟩ := by
  funext i; apply Fin.ext; rw [emb_val]; fin_cases i <;> rfl

/-- An array's entries by natural numbers. -/
def At2 {A B : ℕ} (v : (S2 A B).Idx → α) (f : ℕ → ℕ → α) : Prop := ∀ (a : Fin A) (c : Fin B), v (ix2 a c) = f a.val c.val

def At3 {A B C : ℕ} (v : (S3 A B C).Idx → α) (f : ℕ → ℕ → ℕ → α) : Prop :=
  ∀ (a : Fin A) (c : Fin B) (d : Fin C), v (ix3 a c d) = f a.val c.val d.val

def At4 {A B C D : ℕ} (v : (S4 A B C D).Idx → α) (f : ℕ → ℕ → ℕ → ℕ → α) : Prop :=
  ∀ (a : Fin A) (c : Fin B) (d : Fin C) (e : Fin D), v (ix4 a c d e) = f a.val c.val d.val e.val

theorem At2.read {A B o₀ o₁ s₀ s₁ : ℕ} {v : (S2 A B).Idx → α} {f : ℕ → ℕ → α} (hv : At2 v f)
    (h : ∀ a, (![o₀, o₁] : Fin 2 → ℕ) a + (S2 s₀ s₁).size a ≤ (S2 A B).size a) :
    At2 (A := s₀) (B := s₁) (fun i => v ((Rect.unit (s := S2 A B) ![o₀, o₁] (S2 s₀ s₁).size h).emb i)) fun a c => f (o₀ + a) (o₁ + c) :=
  fun a c => (congrArg v (emb2 h a c)).trans (hv _ _)

theorem At3.read {A B C o₀ o₁ o₂ s₀ s₁ s₂ : ℕ} {v : (S3 A B C).Idx → α} {f : ℕ → ℕ → ℕ → α} (hv : At3 v f)
    (h : ∀ a, (![o₀, o₁, o₂] : Fin 3 → ℕ) a + (S3 s₀ s₁ s₂).size a ≤ (S3 A B C).size a) :
    At3 (A := s₀) (B := s₁) (C := s₂) (fun i => v ((Rect.unit (s := S3 A B C) ![o₀, o₁, o₂] (S3 s₀ s₁ s₂).size h).emb i))
      fun a c d => f (o₀ + a) (o₁ + c) (o₂ + d) :=
  fun a c d => (congrArg v (emb3 h a c d)).trans (hv _ _ _)

theorem At4.read {A B C D o₀ o₁ o₂ o₃ s₀ s₁ s₂ s₃ : ℕ} {v : (S4 A B C D).Idx → α} {f : ℕ → ℕ → ℕ → ℕ → α} (hv : At4 v f)
    (h : ∀ a, (![o₀, o₁, o₂, o₃] : Fin 4 → ℕ) a + (S4 s₀ s₁ s₂ s₃).size a ≤ (S4 A B C D).size a) :
    At4 (A := s₀) (B := s₁) (C := s₂) (D := s₃)
      (fun i => v ((Rect.unit (s := S4 A B C D) ![o₀, o₁, o₂, o₃] (S4 s₀ s₁ s₂ s₃).size h).emb i))
      fun a c d e => f (o₀ + a) (o₁ + c) (o₂ + d) (o₃ + e) :=
  fun a c d e => (congrArg v (emb4 h a c d e)).trans (hv _ _ _ _)

end Rects

theorem sel_one {x y : EReal} : Scalar.select 1#1 x y = x := rfl

theorem sel_zero {x y : EReal} : Scalar.select 0#1 x y = y := rfl

/-! ## Casts -/

section Casts

variable {α : Type}

theorem At2.cast {A B : ℕ} {v : (S2 A B).Idx → α} {f : ℕ → ℕ → α} (hv : At2 v f) (h : (S2 A B).ShapeCasts (S2 A B)) : At2 (shapeCast (S2 A B) v h) f := by
  rw [shapeCast_self]; exact hv

theorem At2.up {A B : ℕ} {v : (S2 A B).Idx → α} {f : ℕ → ℕ → α} (hv : At2 v f) (h : (S2 A B).ShapeCasts (S3 1 A B)) :
    At3 (shapeCast (S3 1 A B) v h) fun _ => f := fun a c d => by
  rw [shapeCast_addUnit_apply]
  exact (congrArg v (by funext i; fin_cases i <;> rfl)).trans (hv c d)

theorem At3.down {A B : ℕ} {v : (S3 1 A B).Idx → α} {f : ℕ → ℕ → α} (hv : At3 v fun _ => f) (h : (S3 1 A B).ShapeCasts (S2 A B)) :
    At2 (shapeCast (S2 A B) v h) f := fun c d => by
  rw [shapeCast_dropUnit_apply]
  exact (congrArg v (by funext i; fin_cases i <;> rfl)).trans (hv 0 c d)

end Casts

/-! ## The norm, the gates -/

theorem rms_at1024 (v : FVec Ideal (S2 1024 1024) .f32) (g : FVec Ideal (S2 1 1024) .f32) (f : ℕ → ℕ → EReal) (γ : ℕ → EReal)
    (hv : At2 v f) (hg : At2 g fun _ => γ) : At2 (rms 1024 v g) fun r => rmsS (f r) γ := fun r c => by
  pointwise [rms, S1, S2]
  simp only [hv r, hg 0]; rfl

theorem rms_at256 (v : FVec Ideal (S2 256 1024) .f32) (g : FVec Ideal (S2 1 1024) .f32) (f : ℕ → ℕ → EReal) (γ : ℕ → EReal)
    (hv : At2 v f) (hg : At2 g fun _ => γ) : At2 (rms 256 v g) fun r => rmsS (f r) γ := fun r c => by
  pointwise [rms, S1, S2]
  simp only [hv r, hg 0]; rfl

theorem silu_at (v : FVec Ideal (S2 512 512) .f32) (f : ℕ → ℕ → EReal) (hv : At2 v f) : At2 (silu v) fun r c => siluS (f r c) := fun r c => by
  pointwise [silu, S2]
  simp only [hv r]; rfl

/-! ## The window means -/

theorem rollAdd_at (n : ℕ) (hn : n < 528) (v : FVec Ideal (S2 528 128) .f32) (r : Fin 528) (c : Fin 128) (h : n ≤ r.val) :
    rollAdd n v (ix2 r c) = v (ix2 r c) + v (ix2 ⟨r.val - n, by omega⟩ c) := by
  pointwise [rollAdd, S2]
  have e : (r.val + 528 - n % 4294967296 % 528) % 528 = r.val - n := by
    rw [Nat.mod_eq_of_lt (a := n) (by omega), Nat.mod_eq_of_lt (a := n) hn]; omega
  simp only [BitVec.toNat_ofNat, Nat.reducePow, e]

theorem winSum_at (v : FVec Ideal (S2 528 128) .f32) (f : ℕ → ℕ → EReal) (hv : At2 v f) (g : ℕ) (hg : g < 4) :
    ∀ (r : Fin 528) (c : Fin 128), windowOf g ≤ r.val + 1 → winSum g v (ix2 r c) = ∑ i ∈ Finset.range (windowOf g), f (r.val - i) c.val := by
  induction g with
  | zero =>
    intro r c h
    have h' : 1 ≤ r.val := by unfold windowOf at h; omega
    rw [winSum, rollAdd_at 1 (by decide) v r c h', hv, hv]
    show _ = ∑ i ∈ Finset.range 2, _
    rw [Finset.sum_range_succ, Finset.sum_range_one, Nat.sub_zero]
  | succ g ih =>
    intro r c h
    have hw : windowOf (g + 1) = windowOf g + windowOf g := by unfold windowOf; rw [pow_succ]; omega
    have hp : 2 ^ (g + 1) = windowOf g := rfl
    have hb : windowOf g ≤ 8 := by have : g < 3 := by omega
                                   interval_cases g <;> decide
    rw [winSum, hp, rollAdd_at _ (by omega) _ r c (by omega), ih (by omega) _ _ (by omega), ih (by omega) _ _ (by simp only; omega), hw, Finset.sum_range_add]
    simp only [Nat.sub_sub]

theorem winInv_val (g : ℕ) (hg : g < 4) : Ideal.ofBits .f32 (winInv g) = ((1 / (windowOf g : ℝ) : ℝ) : EReal) := by
  interval_cases g <;> simp [winInv, windowOf, Ideal.ofBits, Ideal.ieee] <;> (rw [← EReal.coe_mul]; norm_num)

theorem count_val (t : ℕ) (ht : t < 8) (hf : ℕ) (hh : hf < 2) (g : ℕ) (hg : g < 4) (r : ℕ) (hr : r < 512) :
    (FloatOps.sitofp (F := Ideal) .f32 (IntOp.minsi (IntOp.addi (IntOp.addi (Scalar.addi (Scalar.muli (BitVec.ofNat 32 t) 1024#32) (BitVec.ofNat 32 (hf * 512)))
      (BitVec.ofNat 32 r)) 1#32) (BitVec.ofNat 32 (2 ^ (g + 1)))) : EReal)
      = (((min (t * 1024 + hf * 512 + r + 1) (windowOf g) : ℕ) : ℝ) : EReal) := by
  have hw : 2 ^ (g + 1) ≤ 16 := by interval_cases g <;> decide
  have e : IntOp.addi (IntOp.addi (Scalar.addi (Scalar.muli (BitVec.ofNat 32 t) 1024#32) (BitVec.ofNat 32 (hf * 512))) (BitVec.ofNat 32 r)) 1#32
      = BitVec.ofNat 32 (t * 1024 + hf * 512 + r + 1) := by
    apply BitVec.eq_of_toNat_eq
    simp [IntOp.addi, Scalar.addi, Scalar.muli, IntOp.muli]
  rw [e]
  have hs : ∀ n : ℕ, n < 2 ^ 31 → (FloatOps.sitofp (F := Ideal) .f32 (BitVec.ofNat 32 n) : EReal) = ((n : ℝ) : EReal) := fun n hn => by
    show (((BitVec.ofNat 32 n).toInt : ℝ) : EReal) = _
    rw [BitVec.toInt_eq_toNat_of_lt (by rw [BitVec.toNat_ofNat, Nat.mod_eq_of_lt (by omega)]; omega), BitVec.toNat_ofNat, Nat.mod_eq_of_lt (by omega)]
    simp
  have hm : IntOp.minsi (BitVec.ofNat 32 (t * 1024 + hf * 512 + r + 1)) (BitVec.ofNat 32 (2 ^ (g + 1)))
      = BitVec.ofNat 32 (min (t * 1024 + hf * 512 + r + 1) (windowOf g)) := by
    unfold windowOf
    have a : (BitVec.ofNat 32 (t * 1024 + hf * 512 + r + 1)).toInt = (t * 1024 + hf * 512 + r + 1 : ℕ) := by
      rw [BitVec.toInt_eq_toNat_of_lt (by rw [BitVec.toNat_ofNat, Nat.mod_eq_of_lt (by omega)]; omega), BitVec.toNat_ofNat, Nat.mod_eq_of_lt (by omega)]
    have b : (BitVec.ofNat 32 (2 ^ (g + 1))).toInt = (2 ^ (g + 1) : ℕ) := by
      rw [BitVec.toInt_eq_toNat_of_lt (by rw [BitVec.toNat_ofNat, Nat.mod_eq_of_lt (by omega)]; omega), BitVec.toNat_ofNat, Nat.mod_eq_of_lt (by omega)]
    unfold IntOp.minsi
    simp only [BitVec.slt, a, b, Nat.cast_lt, decide_eq_true_eq]
    split
    · rw [min_eq_left (by omega)]
    · rw [min_eq_right (by omega)]
  rw [hm, hs]
  omega

theorem winMean_at (t : ℕ) (ht : t < 8) (hf : ℕ) (hh : hf < 2) (g : ℕ) (hg : g < 4) (v : FVec Ideal (S2 528 128) .f32) (f : ℕ → ℕ → EReal)
    (hv : At2 v f) : At2 (winMean (BitVec.ofNat 32 t) hf g (winSum g v)) fun r c =>
      Ideal.div (∑ i ∈ Finset.range (windowOf g), f (16 + r - i) c) (((min (t * 1024 + hf * 512 + r + 1) (windowOf g) : ℕ) : ℝ) : EReal) := fun r c => by
  have hw : windowOf g ≤ 16 := by interval_cases g <;> decide
  have hw0 : 0 < windowOf g := Nat.pow_pos (by decide)
  have H := winSum_at v f hv g hg
  generalize winSum g v = w at H
  pointwise [winMean, S2]
  split
  · rename_i hr
    rw [H _ _ (by simp only; omega), count_val t ht hf hh g hg _ r.isLt]
  · rename_i hr
    rw [H _ _ (by simp only; omega), winInv_val g hg, min_eq_right (by omega), Ideal.div_coe (by exact_mod_cast hw0.ne')]
    have e : 16 + (16 + (r.val - 16)) = 16 + r.val := by omega
    simp only [e]

theorem poolOut_at (d : FVec Ideal (S2 512 128) .f32) (w : FVec Ideal (S3 1 128 128) .bf16) (sc : FVec Ideal (S2 1 128) .f32)
    (pg : FVec Ideal (S2 512 128) .f32) (fd fw : ℕ → ℕ → EReal) (fs : ℕ → EReal) (fg : ℕ → ℕ → EReal)
    (hd : At2 d fd) (hw : At3 w fun _ => fw) (hs : At2 sc fun _ => fs) (hg : At2 pg fg) :
    At2 (poolOut d w sc pg) fun r c => (∑ k : Fin 128, fd r k.val * fw k.val c) * fs c * fg r c := fun r c => by
  pointwise [poolOut, mm, dNN, S2, S3]
  simp only [hd r, hw 0, hs 0, hg r]

/-! ## Queries, scores -/

theorem splitHeads_at (q : FVec Ideal (S2 128 128) .bf16) (f : ℕ → ℕ → EReal) (hq : At2 q f) :
    At2 (splitHeads q) fun r c => if r / 64 = c / 128 then f r (c % 128) else 0 := fun r c => by
  have hs : ∀ {x y : EReal}, Scalar.select (IntOp.cmpi .slt (BitVec.ofNat 32 r.val) 64#32) x y = if r.val < 64 then x else y := fun {x y} => by
    have : ∀ r : Fin 128, IntOp.cmpi .slt (BitVec.ofNat 32 r.val) 64#32 = if r.val < 64 then 1#1 else 0#1 := by decide
    rw [this]; split <;> rfl
  pointwise [splitHeads, S2]
  simp only [hs, hq r]
  have hr := r.isLt
  have hc := c.isLt
  split
  · rename_i h
    rw [Nat.mod_eq_of_lt h, Nat.div_eq_of_lt h]
    by_cases h' : r.val < 64
    · rw [if_pos h', if_pos (by omega)]
    · rw [if_neg h', if_neg (by omega)]
  · rename_i h
    rw [show c.val % 128 = c.val - 128 by omega, show c.val / 128 = 1 by omega]
    by_cases h' : r.val < 64
    · rw [if_pos h', if_neg (by omega)]
    · rw [if_neg h', if_pos (by omega)]

/-- The penalty's product with the indicator: its column 0 times the mask. -/
theorem rawFrom_at (κ : Consts Ideal) (hκ : κ.mask = (⊥ : EReal)) (g : Fin 8) (k : FVec Ideal (S2 640 128) .bf16) (q : FVec Ideal (S2 128 256) .bf16)
    (ind : g.val < 4 → FVec Ideal (S2 640 128) .bf16) (fk fq : ℕ → ℕ → EReal) (fi : ℕ → ℕ → EReal) (hk : At2 k fk) (hq : At2 q fq)
    (hi : ∀ h, At2 (ind h) fi) :
    At2 (rawFrom κ g k q ind) fun j c => (∑ x : Fin 128, fk j x.val * fq x.val c) + if g.val < 4 then fi j 0 * ⊥ else 0 := fun j c => by
  by_cases h : g.val < 4
  · have hs : ∀ (x : Fin 128) (y : EReal), Scalar.select (IntOp.cmpi .eq (BitVec.ofNat 32 x.val) 0#32) (y * κ.mask) (0 : EReal) = if x = 0 then y * ⊥ else 0 := fun x y => by
      have : ∀ x : Fin 128, IntOp.cmpi .eq (BitVec.ofNat 32 x.val) 0#32 = if x = 0 then 1#1 else 0#1 := by decide
      rw [this, hκ]; split <;> rfl
    unfold rawFrom
    rw [dif_pos h]
    pointwise [mm, dNN, penalty, S2]
    simp only [hk j, hq _ c, hi h j, hs, if_pos h]
    congr 1
    rw [Finset.sum_eq_single (0 : Fin 128)]
    · rfl
    · intro x _ hx; rw [if_neg hx]
    · intro hx; exact absurd (Finset.mem_univ _) hx
  · unfold rawFrom
    rw [dif_neg h]
    pointwise [mm, dNN, S2]
    simp only [hk j, hq _ c, if_neg h, add_zero]

/-- A score tile's entries from the raw products and the bias. -/
def masked (raw bias : ℕ → ℕ → EReal) (j c : ℕ) : EReal :=
  if j < 64 then (if 64 ≤ c % 128 then ⊥ else raw j c)
  else if j < 448 then raw j c
  else if j < 576 then raw j c + bias (j - 448) c
  else if 64 ≤ c % 128 then raw j c + bias (j - 448) c else ⊥

theorem upper_val {x y : EReal} (c : Fin 256) : Scalar.select (IntOp.cmpi .sge (IntOp.andi (BitVec.ofNat 32 c.val) 127#32) 64#32) x y = if 64 ≤ c.val % 128 then x else y := by
  have : ∀ c : Fin 256, IntOp.cmpi .sge (IntOp.andi (BitVec.ofNat 32 c.val) 127#32) 64#32 = if 64 ≤ c.val % 128 then 1#1 else 0#1 := by decide
  rw [this]; split <;> rfl

theorem headRows_at (κ : Consts Ideal) (hκ : κ.mask = (⊥ : EReal)) (sc : FVec Ideal (S2 640 256) .f32) (fs fb : ℕ → ℕ → EReal) (hs : At2 sc fs) :
    At2 (headRows κ sc) (masked fs fb) := fun j c => by
  pointwise [headRows, upper, S2]
  simp only [upper_val, hs _ c, hκ]
  unfold masked
  have := j.isLt
  split
  · rfl
  · rw [if_pos (by omega), show 64 + (j.val - 64) = j.val by omega]

theorem tailRows_at (κ : Consts Ideal) (hκ : κ.mask = (⊥ : EReal)) (sc : FVec Ideal (S2 640 256) .f32) (bias : FVec Ideal (S2 192 256) .f32)
    (fs fb : ℕ → ℕ → EReal) (hs : At2 sc fs) (hb : At2 bias fb) :
    At2 (tailRows κ sc bias) fun j c => masked fs fb (320 + j) c := fun j c => by
  pointwise [tailRows, upper, S2]
  simp only [upper_val, hs _ c, hb _ c, hκ]
  unfold masked
  have hj := j.isLt
  have e₁ : ¬ 320 + j.val < 64 := by omega
  rw [if_neg e₁]
  by_cases h₁ : j.val < 128
  · have e₂ : 320 + j.val < 448 := by omega
    rw [dif_pos h₁, if_pos e₂]
  · have e₂ : ¬ 320 + j.val < 448 := by omega
    rw [dif_neg h₁, if_neg e₂]
    by_cases h₂ : j.val - 128 < 128
    · have e₃ : 320 + j.val < 576 := by omega
      rw [dif_pos h₂, if_pos e₃, show 320 + (128 + (j.val - 128)) = 320 + j.val by omega, show 320 + j.val - 448 = j.val - 128 by omega]
    · have e₃ : ¬ 320 + j.val < 576 := by omega
      rw [dif_neg h₂, if_neg e₃, show 320 + (256 + (j.val - 128 - 128)) = 320 + j.val by omega, show 128 + (j.val - 128 - 128) = 320 + j.val - 448 by omega]

theorem ofBits_negInf : Ideal.ofBits .f32 0xFF800000#32 = (⊥ : EReal) := by
  simp [Ideal.ofBits, Ideal.ieee]

theorem colMax_at (v : FVec Ideal (S2 320 256) .f32) (f : ℕ → ℕ → EReal) (hv : At2 v f) :
    At2 (colMax v) fun _ c => Finset.univ.fold max ⊥ fun j : Fin 320 => f j.val c := fun z c => by
  pointwise [colMax, S1, S2]
  simp only [hv _ c, ofBits_negInf]

theorem weights_at (s : FVec Ideal (S3 1 640 256) .f32) (m : FVec Ideal (S3 1 1 256) .f32) (f : ℕ → ℕ → EReal) (M : ℕ → EReal)
    (hs : At3 s fun _ => f) (hm : At3 m fun _ _ => M) : At2 (weights s m) fun j c => Ideal.exp2 (f j c - M c) := fun j c => by
  pointwise [weights, S2, S3]
  simp only [hs 0 j, hm 0 0]; rfl

theorem attend_at (e : FVec Ideal (S2 640 256) .f32) (v : FVec Ideal (S2 128 640) .bf16) (fe fv : ℕ → ℕ → EReal) (he : At2 e fe) (hv : At2 v fv) :
    At2 (attend e v) fun i d => (∑ j : Fin 640, fv d j.val * fe j.val (d / 64 * 128 + i)) * Ideal.div 1 (∑ j : Fin 640, fe j.val (d / 64 * 128 + i)) := fun i d => by
  pointwise [attend, mm, dNN, S1, S2]
  simp only [he _, hv _]
  have hd := d.isLt
  by_cases h : d.val < 64
  · rw [dif_pos h, show d.val / 64 * 128 + i.val = i.val by omega]
  · rw [dif_neg h, show d.val / 64 * 128 + i.val = 128 + i.val by omega, show 64 + (d.val - 64) = d.val by omega]

theorem valuesFrom_at (v : Fin 5 → FVec Ideal (S2 128 128) .bf16) (f : ℕ → ℕ → ℕ → EReal) (hv : ∀ b, At2 (v b) (f b.val)) :
    At2 (valuesFrom v) fun r j => f (j / 128) r (j % 128) := fun r j => by
  pointwise [valuesFrom, S2]
  have := j.isLt
  split
  · rw [hv, show j.val / 128 = 0 by omega, show j.val % 128 = j.val by omega]; rfl
  split
  · rw [hv, show j.val / 128 = 1 by omega, show j.val % 128 = j.val - 128 by omega]; rfl
  split
  · rw [hv, show j.val / 128 = 2 by omega, show j.val % 128 = j.val - 128 - 128 by omega]; rfl
  split
  · rw [hv, show j.val / 128 = 3 by omega, show j.val % 128 = j.val - 128 - 128 - 128 by omega]; rfl
  · rw [hv, show j.val / 128 = 4 by omega, show j.val % 128 = j.val - 128 - 128 - 128 - 128 by omega]; rfl

/-- The column a score row and a query read. -/
theorem relCol_at (r : Fin 192) (c : Fin 128) : relCol (ix2 r c) = BitVec.ofNat 32 (min 128 (r.val - c.val)) := by
  have key : ∀ d : Fin 320, IntOp.addi (IntOp.minsi 64#32 (IntOp.maxsi 4294967232#32 (BitVec.ofNat 32 d.val - 192#32))) 64#32
      = BitVec.ofNat 32 (min 128 (d.val - 128)) := by decide +kernel
  have hr := r.isLt
  have hc := c.isLt
  pointwise [relCol, S2]
  have e : IntOp.subi (IntOp.subi (IntOp.addi (BitVec.ofNat 32 r.val) 448#32) 512#32) (BitVec.ofNat 32 c.val) = BitVec.ofNat 32 (r.val + 128 - c.val) - 192#32 := by
    apply BitVec.eq_of_toNat_eq
    simp only [IntOp.subi, IntOp.addi, BitVec.toNat_sub, BitVec.toNat_add, BitVec.toNat_ofNat, Nat.reducePow, Nat.reduceMod]
    omega
  rw [e, key ⟨r.val + 128 - c.val, by omega⟩, show r.val + 128 - c.val - 128 = r.val - c.val by omega]

theorem biasTile_at (κ : Consts Ideal) (row : FVec Ideal (S2 1 128) .f32) (last first : FVec Ideal (S2 1 1) .f32) (f : ℕ → EReal)
    (hr : At2 row fun _ => f) (hl : last (ix2 0 0) = f 128) (h0 : first (ix2 0 0) = f 0) :
    At2 (biasTile κ row last first) fun r c => (f (min 128 (r - c)) - f 0) * κ.log2e := fun r c => by
  have hw := relCol_at r c
  show _ = (f (min 128 (r.val - c.val)) - f 0) * κ.log2e
  unfold biasTile relColLow
  generalize relCol = R at hw ⊢
  have hn' : min 128 (r.val - c.val) < 129 := by omega
  generalize min 128 (r.val - c.val) = n at hw hn' ⊢
  have k₁ : ∀ n : Fin 129, (Scalar.select (IntOp.cmpi .slt (IntOp.minsi (BitVec.ofNat 32 n.val) 127#32) 0#32)
      (IntOp.addi (IntOp.minsi (BitVec.ofNat 32 n.val) 127#32) 128#32) (IntOp.minsi (BitVec.ofNat 32 n.val) 127#32)).toNat % 128 = min n.val 127 := by decide +kernel
  have k₂ : ∀ n : Fin 129, IntOp.cmpi .eq (BitVec.ofNat 32 n.val) 128#32 = if n.val = 128 then 1#1 else 0#1 := by decide +kernel
  have k₁' := k₁ ⟨n, hn'⟩
  have k₂' := k₂ ⟨n, hn'⟩
  simp only at k₁' k₂'
  pointwise [S2, S3]
  simp only [hw, hr 0, k₁', k₂', h0, hl]
  by_cases h : n = 128
  · rw [if_pos h, h, sel_one]
  · rw [if_neg h, show min n 127 = n by omega, sel_zero]

end Cert.Hybrid

end
-- ==== Proof.ValueTile.lean ====
/-
  A tile's projections over the extended reals: the keys, values, queries, gates and pooled values the block kernel
  holds are the layer's, in rows, columns and halves of its own.
-/
module

public import proofs.«01_k».proof.Proof.ValueOps

@[expose] public section

set_option maxRecDepth 16384

noncomputable section

namespace Cert.Hybrid

open Idealize.ShloMosaic Cert.Spec

/-- The input weight's column behind a column of the main weight. -/
def mainCol (c : ℕ) : ℕ := if c < 1024 then c else if c < 1536 then c + 512 else c + 1024

/-- And behind a row of the transposed weight of queries and values. -/
def qvtCol (r : ℕ) : ℕ := if r < 512 then 1024 + r else 2048 + (r - 512)

/-- A tile's row before its sequence's beginning. -/
def padded (t : ℕ) (h : ℕ) (r : ℕ) (v : EReal) : EReal := if t * 1024 + r < h then 0 else v

/-- Tile `t` of sequence `b`: its operands, and the halos carried into it. -/
structure TileIn (A : Args) (b t : ℕ) (I : BSt Ideal) : Prop where
  x : At3 (A := 1) (B := 1024) (C := 1024) (I .x) fun _ r c => A.x b (t * 1024 + r) c
  gIn : At2 (A := 1) (B := 1024) (I .gIn) fun _ => A.gIn
  wMain : At2 (A := 1024) (B := 2048) (I .wMain) fun r c => A.w r (mainCol c)
  wQvt : At2 (A := 1024) (B := 1024) (I .wQvt) fun r c => A.w c (qvtCol r)
  poolW : At3 (A := 4) (B := 128) (C := 128) (I .poolW) A.pw
  poolScale : At2 (A := 1) (B := 512) (I .poolScale) fun _ => A.ps
  bias : At3 (A := 4) (B := 192) (C := 256) (I .bias) fun p r c =>
    (A.rb (p * 2 + c / 128) (min 128 (r - c % 128)) - A.rb (p * 2 + c / 128) 0) * (((Real.log 2)⁻¹ : ℝ) : EReal)
  wOut : At2 (A := 1024) (B := 1024) (I .wOut) A.wo
  gOut : At2 (A := 1) (B := 1024) (I .gOut) fun _ => A.gOut
  k : ∀ (r : Fin 1536) (c : Fin 512), r.val < 512 → I .k (ix2 r c) = padded t 512 r.val (pS A b (t * 1024 + r.val - 512) (1536 + c.val))
  vt : ∀ (g : Fin 12) (c : Fin 512) (l : Fin 128), g.val < 4 →
    I .vt (ix3 g c l) = padded t 512 (g.val * 128 + l.val) (pS A b (t * 1024 + (g.val * 128 + l.val) - 512) (2048 + c.val))
  pv : ∀ (r : Fin 1040) (c : Fin 512), r.val < 16 → I .pv (ix2 r c) = padded t 16 r.val (pS A b (t * 1024 + r.val - 16) c.val)
  ind : At2 (A := 1536) (B := 128) (I .ind) fun r c => if t * 1024 + r < 512 ∧ c = 0 then 1 else 0

theorem At2.to {α : Type} {A B : ℕ} {v : (S2 A B).Idx → α} {f g : ℕ → ℕ → α} (h : At2 v f) (e : ∀ (a : Fin A) (c : Fin B), f a.val c.val = g a.val c.val) :
    At2 v g := fun a c => (h a c).trans (e a c)

theorem At3.to {α : Type} {A B C : ℕ} {v : (S3 A B C).Idx → α} {f g : ℕ → ℕ → ℕ → α} (h : At3 v f)
    (e : ∀ (a : Fin A) (c : Fin B) (d : Fin C), f a.val c.val d.val = g a.val c.val d.val) : At3 v g := fun a c d => (h a c d).trans (e a c d)

variable {A : Args} {b t : ℕ} {I : BSt Ideal} (T : TileIn A b t I)

include T

theorem h_at : At2 (A := 1024) (B := 1024) (lay1 I .h) fun r => hS A b (t * 1024 + r) :=
  At2.cast (rms_at1024 _ _ (fun r => A.x b (t * 1024 + r)) A.gIn
    (At3.down (At3.to (T.x.read (s₀ := 1) (s₁ := 1024) (s₂ := 1024) (o₀ := 0) (o₁ := 0) (o₂ := 0) (in3 (by decide) (by decide) (by decide))) (fun _ r c => by simp only [Nat.zero_add])) (by decide))
    (At2.cast (At2.to (T.gIn.read (s₀ := 1) (s₁ := 1024) (o₀ := 0) (o₁ := 0) (in2 (by decide) (by decide))) (fun _ c => by simp only [Nat.zero_add])) (by decide)))
    (by decide)

theorem keyVal_at (r : Fin 4) : At2 (keyVal (lay1 I) r) fun a c => pS A b (t * 1024 + (r.val * 256 + a)) (1536 + c) := by
  refine At2.cast (fun a c => ?_) (by decide)
  have hh := (h_at T).read (s₀ := 256) (s₁ := 1024) (o₀ := r.val * 256) (o₁ := 0) (in2 (by omega) (by decide))
  have hw := T.wMain.read (s₀ := 1024) (s₁ := 512) (o₀ := 0) (o₁ := 1024) (in2 (by decide) (by decide))
  rw [shapeCast_self]
  pointwise [mm, dNN, S2]
  refine Finset.sum_congr rfl fun x _ => ?_
  have e : mainCol (1024 + c.val) = 1536 + c.val := by unfold mainCol; rw [if_neg (by omega), if_pos (by omega)]; omega
  have h1 := hh a x
  have h2 := hw x c
  simp only [Nat.zero_add, e] at h1 h2
  exact congrArg₂ (fun u v : EReal => u * v) h1 h2

theorem halfH_at (hf : Fin 2) : At2 (halfH (lay1 I) hf) fun r c => hS A b (t * 1024 + (hf.val * 512 + r)) c := fun r c =>
  ((h_at T).read (s₀ := 512) (s₁ := 1024) (o₀ := hf.val * 512) (o₁ := 0) (in2 (by omega) (by decide)) r c).trans (by simp only [Nat.zero_add])

theorem projAll_at (hf : Fin 2) (q : Fin 4) : At2 (projAll (lay1 I) hf q) fun r c => pS A b (t * 1024 + (hf.val * 512 + r)) (mainCol (q.val * 512 + c)) := by
  intro r c
  have hh := halfH_at T hf
  have hw := T.wMain.read (s₀ := 1024) (s₁ := 512) (o₀ := 0) (o₁ := q.val * 512) (in2 (by decide) (by omega))
  unfold projAll
  rw [shapeCast_self]
  pointwise [mm, dNN, S2]
  refine Finset.sum_congr rfl fun x _ => ?_
  have h2 := hw x c
  simp only [Nat.zero_add] at h2
  exact congrArg₂ (fun u v : EReal => u * v) (hh r x) h2

theorem qvt_at (o : ℕ) (ho : o + 512 ≤ 1024) (hf : Fin 2) (w : FVec Ideal (S2 512 1024) .bf16) (hw : At2 w fun r c => A.w (0 + c) (qvtCol (o + r))) :
    At2 (mmT (φ := .bf16) (ψ := .bf16) 512 1024 512 w (halfH (lay1 I) hf)) fun c r => pS A b (t * 1024 + (hf.val * 512 + r)) (qvtCol (o + c)) := by
  intro c r
  have hh := halfH_at T hf
  generalize halfH (lay1 I) hf = hv at hh ⊢
  pointwise [mmT, dNT, S2]
  refine Finset.sum_congr rfl fun x _ => ?_
  rw [hw, hh, mul_comm]
  simp only [Nat.zero_add]

theorem queryAll_at (κ : Consts Ideal) (hf : Fin 2) : At2 (queryAll κ (lay1 I) hf) fun c r =>
    pS A b (t * 1024 + (hf.val * 512 + r)) (1024 + c) * κ.qscale := by
  intro c r
  have hw := T.wQvt.read (s₀ := 512) (s₁ := 1024) (o₀ := 0) (o₁ := 0) (in2 (by decide) (by decide))
  have h := qvt_at T 0 (by decide) hf _ (At2.cast hw (by decide)) c r
  have e : qvtCol (0 + c.val) = 1024 + c.val := by unfold qvtCol; rw [if_pos (by omega)]; omega
  simp only [e] at h
  exact congrArg (fun u : EReal => u * κ.qscale) h

theorem valueAll_at (hf : Fin 2) : At2 (valueAll (lay1 I) hf) fun c r => pS A b (t * 1024 + (hf.val * 512 + r)) (2048 + c) := by
  intro c r
  have hw := T.wQvt.read (s₀ := 512) (s₁ := 1024) (o₀ := 512) (o₁ := 0) (in2 (by decide) (by decide))
  have h := qvt_at T 512 (by decide) hf _ (At2.cast hw (by decide)) c r
  have e : qvtCol (512 + c.val) = 2048 + c.val := by unfold qvtCol; rw [if_neg (by omega)]; omega
  simp only [e] at h
  exact h

/-! ## The buffers they fill -/

theorem k_at (κ : Consts Ideal) : At2 (A := 1536) (B := 512) (lay2 κ I .k) fun r c => padded t 512 r (pS A b (t * 1024 + r - 512) (1536 + c)) := by
  intro r c
  show (if r.val < 512 then I .k (ix2 r c) else tile2 512 0 (fun (r : Fin 4) (_ : Fin 1) => keyVal (lay1 I) r) (ix2 r c)) = _
  by_cases h : r.val < 512
  · rw [if_pos h, T.k r c h]
  · rw [if_neg h, tile2_eq (n := 4) (m := 1) ⟨(r.val - 512) / 256, by omega⟩ 0 (ix2 ⟨(r.val - 512) % 256, by omega⟩ c) (by show r.val = _ + _ * 256 + (r.val - 512) % 256; simp only; omega)
      (by show c.val = 0 + 0 * 512 + c.val; omega), keyVal_at T]
    unfold padded
    simp only [if_neg (show ¬ t * 1024 + r.val < 512 by omega)]
    congr 1
    omega

theorem vt_at (κ : Consts Ideal) : At3 (A := 12) (B := 512) (C := 128) (lay2 κ I .vt) fun g c l =>
    padded t 512 (g * 128 + l) (pS A b (t * 1024 + (g * 128 + l) - 512) (2048 + c)) := by
  intro g c l
  show (if g.val < 4 then I .vt (ix3 g c l)
    else valueVal (lay1 I) (Fin.ofNat 2 ((g.val - 4) / 4)) (Fin.ofNat 4 ((g.val - 4) % 4)) (ix3 0 c l)) = _
  by_cases h : g.val < 4
  · rw [if_pos h, T.vt g c l h]
  · rw [if_neg h, ofNat_eq (r := (⟨(g.val - 4) / 4, by omega⟩ : Fin 2)) rfl, ofNat_eq (r := (⟨(g.val - 4) % 4, by omega⟩ : Fin 4)) rfl]
    have hv := valueAll_at T ⟨(g.val - 4) / 4, by omega⟩
    unfold valueVal
    generalize valueAll (lay1 I) ⟨(g.val - 4) / 4, by omega⟩ = w at hv ⊢
    pointwise [S2, S3]
    rw [hv]
    unfold padded
    rw [if_neg (by omega)]
    simp only
    congr 1
    omega

theorem qt_at (κ : Consts Ideal) : At4 (A := 8) (B := 4) (C := 128) (D := 256) (lay2 κ I .qt) fun g p r c =>
    if r / 64 = c / 128 then pS A b (t * 1024 + (g * 128 + c % 128)) (1024 + (p * 128 + r)) * κ.qscale else 0 := by
  intro g p r c
  show queryVal κ (lay1 I) (Fin.ofNat 2 (g.val / 4)) (Fin.ofNat 4 (g.val % 4)) p (ix4 0 0 r c) = _
  rw [ofNat_eq (r := (⟨g.val / 4, by omega⟩ : Fin 2)) rfl, ofNat_eq (r := (⟨g.val % 4, by omega⟩ : Fin 4)) rfl]
  have hq := queryAll_at T κ ⟨g.val / 4, by omega⟩
  unfold queryVal
  generalize queryAll κ (lay1 I) ⟨g.val / 4, by omega⟩ = w at hq ⊢
  have hs : At2 (extractStridedSlice (S2 128 128) ![p.val * 128, (⟨g.val % 4, by omega⟩ : Fin 4).val * 128] w (slices_512 p ⟨g.val % 4, by omega⟩)) fun a c =>
      pS A b (t * 1024 + (g.val * 128 + c)) (1024 + (p.val * 128 + a)) * κ.qscale := by
    intro a c
    pointwise [S2]
    rw [hq]
    have e : g.val / 4 * 512 + (g.val % 4 * 128 + c.val) = g.val * 128 + c.val := by omega
    simp only [e]
  have hh := splitHeads_at _ _ hs r c
  generalize splitHeads (extractStridedSlice (S2 128 128) ![p.val * 128, (⟨g.val % 4, by omega⟩ : Fin 4).val * 128] w (slices_512 p ⟨g.val % 4, by omega⟩)) = u at hh ⊢
  pointwise [S2, S4]
  exact hh

theorem gates_at (f : Fin 2 → FVec Ideal (S2 512 512) .f32) (e : ℕ → ℕ → EReal) (hf : ∀ x, At2 (f x) fun r c => e (x.val * 512 + r) c) :
    At2 (A := 1024) (B := 512) (tile2 (A := 1024) (B := 512) 0 0 fun (hf : Fin 2) (_ : Fin 1) => f hf) e := by
  intro r c
  rw [tile2_eq (n := 2) (m := 1) ⟨r.val / 512, by omega⟩ 0 (ix2 ⟨r.val % 512, by omega⟩ c) (by show r.val = 0 + r.val / 512 * 512 + r.val % 512; omega)
      (by show c.val = 0 + 0 * 512 + c.val; omega), hf]
  simp only
  congr 1
  omega

theorem gate_at (κ : Consts Ideal) : At2 (A := 1024) (B := 512) (lay2 κ I .gate) fun r c => siluS (pS A b (t * 1024 + r) (2560 + c)) := by
  refine gates_at T (fun hf => gateVal (lay1 I) hf) (fun r c => siluS (pS A b (t * 1024 + r) (2560 + c))) fun hf r c => ?_
  refine (At2.cast (silu_at _ _ (projAll_at T hf 3)) (by decide) r c).trans ?_
  have e : mainCol ((3 : Fin 4).val * 512 + c.val) = 2560 + c.val := by
    show mainCol (3 * 512 + c.val) = _
    unfold mainCol; rw [if_neg (by omega), if_neg (by omega)]; omega
  rw [e]

theorem pgate_at (κ : Consts Ideal) : At2 (A := 1024) (B := 512) (lay2 κ I .pgate) fun r c => siluS (pS A b (t * 1024 + r) (512 + c)) := by
  refine gates_at T (fun hf => poolGateVal (lay1 I) hf) (fun r c => siluS (pS A b (t * 1024 + r) (512 + c))) fun hf r c => ?_
  refine (At2.cast (silu_at _ _ (projAll_at T hf 1)) (by decide) r c).trans ?_
  have e : mainCol ((1 : Fin 4).val * 512 + c.val) = 512 + c.val := by
    show mainCol (1 * 512 + c.val) = _
    unfold mainCol; rw [if_pos (by omega)]
  rw [e]

theorem pv_at (κ : Consts Ideal) : At2 (A := 1040) (B := 512) (lay2 κ I .pv) fun r c => padded t 16 r (pS A b (t * 1024 + r - 16) c) := by
  intro r c
  show (if r.val < 16 then I .pv (ix2 r c) else tile2 16 0 (fun (hf : Fin 2) (_ : Fin 1) => poolVVal (lay1 I) hf) (ix2 r c)) = _
  by_cases h : r.val < 16
  · rw [if_pos h, T.pv r c h]
  · rw [if_neg h, tile2_eq (n := 2) (m := 1) ⟨(r.val - 16) / 512, by omega⟩ 0 (ix2 ⟨(r.val - 16) % 512, by omega⟩ c) (by show r.val = _ + _ * 512 + (r.val - 16) % 512; simp only; omega)
      (by show c.val = 0 + 0 * 512 + c.val; omega)]
    refine (At2.cast (projAll_at T ⟨(r.val - 16) / 512, by omega⟩ 0) (by decide) _ _).trans ?_
    have e : mainCol ((0 : Fin 4).val * 512 + c.val) = c.val := by
      show mainCol (0 * 512 + c.val) = _
      unfold mainCol; rw [if_pos (by omega)]; omega
    unfold padded
    simp only [if_neg (show ¬ t * 1024 + r.val < 16 by omega), e]
    congr 1
    omega

end Cert.Hybrid

end
-- ==== Proof.ValuePool.lean ====
/-
  A tile's pooling heads over the extended reals.
-/
module

public import proofs.«01_k».proof.Proof.ValueTile

@[expose] public section

set_option maxRecDepth 16384

noncomputable section

namespace Cert.Hybrid

open Idealize.ShloMosaic Cert.Spec

variable {A : Args} {b t : ℕ} {I : BSt Ideal} (T : TileIn A b t I)

include T

theorem poolVal_at (ht : t < 8) (κ : Consts Ideal) (hf : Fin 2) (g : Fin 4) :
    At2 (poolVal (BitVec.ofNat 32 t) (lay2 κ I) hf g) fun r c => poolS A b (t * 1024 + hf.val * 512 + r) g.val c := by
  have hw16 : windowOf g.val ≤ 16 := by
    have : g.val = 0 ∨ g.val = 1 ∨ g.val = 2 ∨ g.val = 3 := by omega
    rcases this with h | h | h | h <;> rw [h] <;> decide
  have w := winMean_at t ht hf.val (by omega) g.val (by omega) _ _
    ((pv_at T κ).read (s₀ := 528) (s₁ := 128) (o₀ := hf.val * 512) (o₁ := g.val * 128) (in2 (by omega) (by omega)))
  have p := (pv_at T κ).read (s₀ := 512) (s₁ := 128) (o₀ := 16 + hf.val * 512) (o₁ := g.val * 128) (in2 (by omega) (by omega))
  refine At2.cast (At2.to (poolOut_at _ _ _ _ (fun r c => diffS A b (t * 1024 + hf.val * 512 + r) g.val c) (A.pw g.val) (fun c => A.ps (g.val * 128 + c))
    (fun r c => siluS (pS A b (t * 1024 + (hf.val * 512 + r)) (512 + (g.val * 128 + c)))) (fun r c => ?_)
    (At3.to (T.poolW.read (s₀ := 1) (s₁ := 128) (s₂ := 128) (o₀ := g.val) (o₁ := 0) (o₂ := 0) (in3 (by omega) (by decide) (by decide))) fun a c d => ?_)
    (At2.to (T.poolScale.read (s₀ := 1) (s₁ := 128) (o₀ := 0) (o₁ := g.val * 128) (in2 (by decide) (by omega))) fun a c => rfl)
    ((pgate_at T κ).read (s₀ := 512) (s₁ := 128) (o₀ := hf.val * 512) (o₁ := g.val * 128) (in2 (by omega) (by omega)))) fun r c => ?_) (by decide)
  · refine (congrArg₂ (fun u v : EReal => u - v) (w r c) (p r c)).trans ?_
    show Ideal.div _ _ - _ = diffS A b _ _ _
    unfold diffS winS
    congr 1
    · congr 1
      refine Finset.sum_congr rfl fun i hi => ?_
      have hi' := Finset.mem_range.mp hi
      simp only [padded]
      by_cases h : i ≤ t * 1024 + hf.val * 512 + r.val
      · rw [if_pos h, if_neg (by omega)]
        congr 1
        omega
      · rw [if_neg h, if_pos (by omega)]
    · simp only [padded]
      rw [if_neg (by omega)]
      congr 1
      omega
  · have : a.val = 0 := by omega
    simp only [this, Nat.zero_add, Nat.add_zero]
  · simp only [poolS, Nat.add_assoc]

end Cert.Hybrid

end
-- ==== Proof.ValueAttn.lean ====
/-
  A tile's attention heads over the extended reals: the base-two softmax over a window of keys is the layer's.
-/
module

public import proofs.«01_k».proof.Proof.ValueTile

@[expose] public section

set_option maxRecDepth 16384

noncomputable section

namespace Cert.Hybrid

open Idealize.ShloMosaic Cert.Spec Cert.Soft

/-- A group's key counts for a query: it is within the sequence, and the query sees it. -/
def counts (base j i : ℕ) : Prop := 512 ≤ base + j ∧ (j < 64 → i < 64) ∧ (576 ≤ j → 64 ≤ i)

instance (base j i : ℕ) : Decidable (counts base j i) := inferInstanceAs (Decidable (_ ∧ _))

/-- Its score in base two, less the first bias's. -/
def scoreB (A : Args) (b h base j i : ℕ) : ℝ :=
  (∑ d : Fin 64, pR A b (base + i) (1024 + (h * 64 + d.val)) * pR A b (base + j - 512) (1536 + (h * 64 + d.val))) * (8 * Real.log 2)⁻¹
    + ((A.rb h (min 128 (j - 448 - i))).toReal - (A.rb h 0).toReal) * (Real.log 2)⁻¹

theorem scoreB_eq (A : Args) (b h base j i : ℕ) (hj : 512 ≤ base + j) :
    scoreB A b h base j i * Real.log 2 = scoreR A b h (base + i) (base + j - 512) + -(A.rb h 0).toReal := by
  have hl : Real.log 2 ≠ 0 := (Real.log_pos (by norm_num)).ne'
  have e : base + j - 512 + 64 - (base + i) = j - 448 - i := by omega
  unfold scoreB scoreR
  rw [e]
  field_simp
  ring

theorem attn_sum (A : Args) (b h base i d : ℕ) (hb : base % 128 = 0) (hi : i < 128) (hlast : base + 128 ≤ 8192)
    (f fv : ℕ → EReal) (hf : ∀ j < 640, f j = score (counts base j i) (scoreB A b h base j i))
    (hv : ∀ j < 640, fv j = ((if base + j < 512 then 0 else pR A b (base + j - 512) (2048 + (h * 64 + d)) : ℝ) : EReal)) :
    (∑ j : Fin 640, fv j.val * Ideal.exp2 (f j.val - max (Finset.univ.fold max ⊥ fun j : Fin 320 => f j.val)
        (Finset.univ.fold max ⊥ fun j : Fin 320 => f (320 + j.val))))
      * Ideal.div 1 (∑ j : Fin 640, Ideal.exp2 (f j.val - max (Finset.univ.fold max ⊥ fun j : Fin 320 => f j.val)
        (Finset.univ.fold max ⊥ fun j : Fin 320 => f (320 + j.val))))
      = attS A b h (base + i) d := by
  have h1 : (fun j : Fin 320 => f j.val) = fun j : Fin 320 => score (counts base j.val i) (scoreB A b h base j.val i) := by
    funext j; exact hf _ (by omega)
  have h2 : (fun j : Fin 320 => f (320 + j.val)) = fun j : Fin 320 => score (counts base (320 + j.val) i) (scoreB A b h base (320 + j.val) i) := by
    funext j; exact hf _ (by omega)
  have hM : ∃ μ : ℝ, max (Finset.univ.fold max ⊥ fun j : Fin 320 => f j.val) (Finset.univ.fold max ⊥ fun j : Fin 320 => f (320 + j.val)) = (μ : EReal) := by
    rw [h1, h2]
    obtain ⟨μ₂, e₂⟩ := fold_max_real (fun j : Fin 320 => counts base (320 + j.val) i) (fun j => scoreB A b h base (320 + j.val) i) ⟨192, by omega⟩
      ⟨by show 512 ≤ base + (320 + 192); omega, fun h => by change 320 + 192 < 64 at h; omega, fun h => by change 576 ≤ 320 + 192 at h; omega⟩
    rw [e₂]
    by_cases hx : ∃ j : Fin 320, counts base j.val i
    · obtain ⟨j₀, h₀⟩ := hx
      obtain ⟨μ₁, e₁⟩ := fold_max_real (fun j : Fin 320 => counts base j.val i) (fun j => scoreB A b h base j.val i) j₀ h₀
      rw [e₁]
      exact ⟨max μ₁ μ₂, (EReal.coe_strictMono.monotone.map_max).symm⟩
    · refine ⟨μ₂, max_eq_right ?_⟩
      rw [Finset.fold_max_le]
      refine ⟨bot_le, fun j _ => ?_⟩
      rw [score, if_neg fun h => hx ⟨j, h⟩]
      exact bot_le
  obtain ⟨μ, hμ⟩ := hM
  rw [hμ]
  have e1 : ∀ j : Fin 640, Ideal.exp2 (f j.val - (μ : EReal)) = Ideal.exp2 (score (counts base j.val i) (scoreB A b h base j.val i) - μ) :=
    fun j => by rw [hf _ j.isLt]
  have e2 : ∀ j : Fin 640, fv j.val = ((if base + j.val < 512 then 0 else pR A b (base + j.val - 512) (2048 + (h * 64 + d)) : ℝ) : EReal) :=
    fun j => hv _ j.isLt
  simp only [e1, e2]
  rw [exp2_mean (fun j : Fin 640 => counts base j.val i) (fun j => scoreB A b h base j.val i)
    (fun j => if base + j.val < 512 then 0 else pR A b (base + j.val - 512) (2048 + (h * 64 + d))) ⟨512, by omega⟩
    ⟨by show 512 ≤ base + 512; omega, fun h => by change 512 < 64 at h; omega, fun h => by change 576 ≤ 512 at h; omega⟩ μ]
  unfold attS
  refine congrArg _ ?_
  rw [← mean_shift (fun k : Fin 8192 => seen (base + i) k.val) (fun k => scoreR A b h (base + i) k.val) _ (-(A.rb h 0).toReal)]
  refine mean_window _ _ _ _ _ _ (fun j hj => ⟨base + j.val - 512, by have := j.isLt; omega⟩) ?_ ?_ ?_ ?_ ?_
  · intro j hj
    obtain ⟨p1, p2, p3⟩ := hj
    show (base + j.val - 512) / 64 ≤ (base + i) / 64 ∧ (base + i) / 64 ≤ (base + j.val - 512) / 64 + 8
    have := j.isLt
    constructor <;> omega
  · intro j hj
    exact (scoreB_eq A b h base j.val i hj.1).symm
  · intro j hj
    have := hj.1
    simp only
    rw [if_neg (by omega)]
  · intro j₁ p₁ j₂ p₂ e
    have e' : base + j₁.val - 512 = base + j₂.val - 512 := congrArg Fin.val e
    have := p₁.1
    have := p₂.1
    exact Fin.ext (by omega)
  · intro k hk
    obtain ⟨k1, k2⟩ := hk
    refine ⟨⟨k.val + 512 - base, by omega⟩, ⟨?_, ?_, ?_⟩, Fin.ext ?_⟩
    · show 512 ≤ base + (k.val + 512 - base); omega
    · show k.val + 512 - base < 64 → i < 64; omega
    · show 576 ≤ k.val + 512 - base → 64 ≤ i; omega
    · show base + (k.val + 512 - base) - 512 = k.val; omega

/-- The columns of a pair hold its two heads' queries side by side. -/
theorem head_sum (A : Args) (hA : A.Finite) (b p c q k : ℕ) (hc : c < 256) (qs : EReal) (qr : ℝ) (hqs : qs = (qr : EReal)) :
    (∑ x : Fin 128, pS A b k (1536 + (p * 128 + x.val)) * (if x.val / 64 = c / 128 then pS A b q (1024 + (p * 128 + x.val)) * qs else 0))
      = (((∑ d : Fin 64, pR A b q (1024 + ((p * 2 + c / 128) * 64 + d.val)) * pR A b k (1536 + ((p * 2 + c / 128) * 64 + d.val))) * qr : ℝ) : EReal) := by
  have hz : ∀ x : Fin 64, ∀ n m : ℕ, n = m → pS A b k (1536 + n) * (pS A b q (1024 + n) * qs) = ((pR A b q (1024 + m) * pR A b k (1536 + m) * qr : ℝ) : EReal) := by
    intro x n m e
    rw [e, pS_coe A hA, pS_coe A hA, hqs, ← EReal.coe_mul, ← EReal.coe_mul]
    congr 1
    ring
  rw [Finset.sum_mul, coe_sum]
  refine (Fin.sum_univ_add (a := 64) (b := 64) _).trans ?_
  by_cases h : c < 128
  · have h2 : ∑ x : Fin 64, pS A b k (1536 + (p * 128 + (Fin.natAdd 64 x).val)) *
        (if (Fin.natAdd 64 x).val / 64 = c / 128 then pS A b q (1024 + (p * 128 + (Fin.natAdd 64 x).val)) * qs else 0) = 0 :=
      Finset.sum_eq_zero fun x _ => by rw [if_neg (by rw [Fin.val_natAdd]; omega), mul_zero]
    rw [h2, add_zero]
    refine Finset.sum_congr rfl fun x _ => ?_
    rw [if_pos (by rw [Fin.val_castAdd]; omega)]
    exact hz x _ _ (by rw [Fin.val_castAdd]; omega)
  · have h1 : ∑ x : Fin 64, pS A b k (1536 + (p * 128 + (Fin.castAdd 64 x).val)) *
        (if (Fin.castAdd 64 x).val / 64 = c / 128 then pS A b q (1024 + (p * 128 + (Fin.castAdd 64 x).val)) * qs else 0) = 0 :=
      Finset.sum_eq_zero fun x _ => by rw [if_neg (by rw [Fin.val_castAdd]; omega), mul_zero]
    rw [h1, zero_add]
    refine Finset.sum_congr rfl fun x _ => ?_
    rw [if_pos (by rw [Fin.val_natAdd]; omega)]
    exact hz x _ _ (by rw [Fin.val_natAdd]; omega)

/-- A pair's scores, of keys from `base - 512` on. -/
def scoresAt (A : Args) (b base p j c : ℕ) : EReal :=
  score (counts base j (c % 128)) (scoreB A b (p * 2 + c / 128) base j (c % 128))

/-- The pair's raw scores, masked, are its scores. -/
theorem masked_eq (A : Args) (hA : A.Finite) (b base p j c : ℕ) (hj : j < 640) (hc : c < 256) (g4 : Prop) [Decidable g4] (h4 : ¬ g4 → 512 ≤ base)
    (raw bias : ℕ → ℕ → EReal) (l2 qs : EReal) (hl : l2 = (((Real.log 2)⁻¹ : ℝ) : EReal)) (hq : qs = (((8 * Real.log 2)⁻¹ : ℝ) : EReal))
    (hraw : raw j c = (∑ x : Fin 128, (if base + j < 512 then 0 else pS A b (base + j - 512) (1536 + (p * 128 + x.val)))
      * (if x.val / 64 = c / 128 then pS A b (base + c % 128) (1024 + (p * 128 + x.val)) * qs else 0))
      + if g4 then (if base + j < 512 then 1 else 0) * ⊥ else 0)
    (hbias : bias (j - 448) c = (A.rb (p * 2 + c / 128) (min 128 (j - 448 - c % 128)) - A.rb (p * 2 + c / 128) 0) * l2) :
    masked raw bias j c = scoresAt A b base p j c := by
  have hb : bias (j - 448) c = ((((A.rb (p * 2 + c / 128) (min 128 (j - 448 - c % 128))).toReal - (A.rb (p * 2 + c / 128) 0).toReal) * (Real.log 2)⁻¹ : ℝ) : EReal) := by
    rw [hbias, (hA.rb _ (min 128 (j - 448 - c % 128))).coe, (hA.rb _ 0).coe, hl]; rfl
  unfold scoresAt
  by_cases hv : base + j < 512
  · have hr : raw j c = ⊥ := by
      rw [hraw, if_pos (by by_contra h; have := h4 h; omega), if_pos hv, one_mul]
      exact EReal.add_bot _
    rw [score, if_neg fun h => by have := h.1; omega]
    have hbot : ∀ x : EReal, ⊥ + x = ⊥ := EReal.bot_add
    unfold masked
    simp only [hr, hbot, ite_self]
  · have hr : raw j c = (((∑ d : Fin 64, pR A b (base + c % 128) (1024 + ((p * 2 + c / 128) * 64 + d.val)) * pR A b (base + j - 512) (1536 + ((p * 2 + c / 128) * 64 + d.val))) * (8 * Real.log 2)⁻¹ : ℝ) : EReal) := by
      rw [hraw]
      simp only [if_neg hv, zero_mul, ite_self, add_zero]
      exact head_sum A hA b p c _ _ hc qs _ hq
    have hsum : raw j c + bias (j - 448) c = ((scoreB A b (p * 2 + c / 128) base j (c % 128) : ℝ) : EReal) := by
      rw [hr, hb, ← EReal.coe_add]; rfl
    have h0 : j < 448 → raw j c = ((scoreB A b (p * 2 + c / 128) base j (c % 128) : ℝ) : EReal) := fun h => by
      rw [hr]
      unfold scoreB
      rw [show j - 448 - c % 128 = 0 by omega, Nat.min_zero, sub_self, zero_mul, add_zero]
    unfold masked score
    by_cases h1 : j < 64
    · rw [if_pos h1]
      by_cases h2 : 64 ≤ c % 128
      · rw [if_pos h2, if_neg fun h => by have := h.2.1 h1; omega]
      · rw [if_neg h2, if_pos ⟨by omega, by omega, by omega⟩, h0 (by omega)]
    · rw [if_neg h1]
      by_cases h2 : j < 448
      · rw [if_pos h2, if_pos ⟨by omega, by omega, by omega⟩, h0 h2]
      · rw [if_neg h2]
        by_cases h3 : j < 576
        · rw [if_pos h3, if_pos ⟨by omega, by omega, by omega⟩, hsum]
        · rw [if_neg h3]
          by_cases h5 : 64 ≤ c % 128
          · rw [if_pos h5, if_pos ⟨by omega, by omega, by omega⟩, hsum]
          · rw [if_neg h5, if_neg fun h => by have := h.2.2 (by omega); omega]

variable {A : Args} {b t : ℕ} {I : BSt Ideal} (T : TileIn A b t I)

include T

section Pair

variable (hA : A.Finite) (ht : t < 8) (κ : Consts Ideal) (hm : κ.mask = (⊥ : EReal)) (hl : κ.log2e = (((Real.log 2)⁻¹ : ℝ) : EReal))
  (hq : κ.qscale = (((8 * Real.log 2)⁻¹ : ℝ) : EReal)) (g : Fin 8) (p : Fin 4)

include hA hm hl hq

/-- The raw scores of a pair, and its biases, masked. -/
theorem pair_masked : ∃ raw bias : ℕ → ℕ → EReal, At2 (rawOf κ (lay2 κ I) g p) raw ∧ At2 (biasOf (lay2 κ I) p) bias
    ∧ ∀ j < 640, ∀ c < 256, masked raw bias j c = scoresAt A b (t * 1024 + g.val * 128) p.val j c := by
  have hk := (k_at T κ).read (s₀ := 640) (s₁ := 128) (o₀ := g.val * 128) (o₁ := p.val * 128) (in2 (by omega) (by omega))
  have hqt : At2 (queriesOf (lay2 κ I) g p) fun r c =>
      if r / 64 = c / 128 then pS A b (t * 1024 + (g.val * 128 + c % 128)) (1024 + (p.val * 128 + r)) * κ.qscale else 0 := by
    intro r c
    have hin : ∀ a, (![g.val, p.val, 0, 0] : Fin 4 → ℕ) a + (S4 1 1 128 256).size a ≤ Slot.qt.sh.size a := in4 (by omega) (by omega) (by decide) (by decide)
    have this : rd (lay2 κ I) .qt ![g.val, p.val, 0, 0] (S4 1 1 128 256).size hin (ix4 (0 : Fin 1) (0 : Fin 1) r c) = _ :=
      (qt_at T κ).read (s₀ := 1) (s₁ := 1) (s₂ := 128) (s₃ := 256) (o₀ := g.val) (o₁ := p.val) (o₂ := 0) (o₃ := 0) hin 0 0 r c
    show shapeCast (S2 128 256) (rd (lay2 κ I) .qt ![g.val, p.val, 0, 0] (S4 1 1 128 256).size hin) _ (ix2 r c) = _
    generalize rd (lay2 κ I) .qt ![g.val, p.val, 0, 0] (S4 1 1 128 256).size hin = w at this ⊢
    pointwise [S2, S4]
    refine this.trans ?_
    simp only [Nat.zero_add]
    rfl
  have hi : ∀ h, At2 (indOf (lay2 κ I) g h) fun r c => if t * 1024 + (g.val * 128 + r) < 512 ∧ 0 + c = 0 then 1 else 0 := fun h =>
    T.ind.read (s₀ := 640) (s₁ := 128) (o₀ := g.val * 128) (o₁ := 0) (in2 (by omega) (by decide))
  have hb : At2 (biasOf (lay2 κ I) p) fun r c =>
      (A.rb (p.val * 2 + c / 128) (min 128 (r - c % 128)) - A.rb (p.val * 2 + c / 128) 0) * κ.log2e := by
    refine At3.down (At3.to (T.bias.read (s₀ := 1) (s₁ := 192) (s₂ := 256) (o₀ := p.val) (o₁ := 0) (o₂ := 0) (in3 (by omega) (by decide) (by decide))) fun x r c => ?_) (by decide)
    have : x.val = 0 := by omega
    simp only [this, Nat.zero_add, Nat.add_zero, hl]
  refine ⟨_, _, rawFrom_at κ hm g _ _ _ _ _ _ hk hqt hi, hb, fun j hj c hc => ?_⟩
  refine masked_eq A hA b _ p.val j c hj hc (g.val < 4) (fun h => by omega) _ _ κ.log2e κ.qscale hl hq ?_ ?_
  · simp only [padded, Nat.add_assoc, Nat.zero_add, and_true]
  · rfl

include ht

theorem finVal_at : At2 (finVal (lay2 κ I) g p (sVal κ (lay2 κ I) g p) (mVal κ (lay2 κ I) g p)) fun i d =>
    yS A b (t * 1024 + g.val * 128 + i) (512 + (p.val * 128 + d)) := by
  obtain ⟨raw, bias, hraw, hbias, hmask⟩ := pair_masked T hA κ hm hl hq g p
  have htop := headRows_at κ hm _ raw bias hraw
  have hbot := tailRows_at κ hm _ _ raw bias hraw hbias
  have hs : At3 (sVal κ (lay2 κ I) g p) fun _ => masked raw bias := by
    intro x j c
    show (if j.val < 320 then shapeCast (S3 1 320 256) (topVal κ (lay2 κ I) g p) _ (ix3 x (Fin.ofNat 320 j.val) c)
      else shapeCast (S3 1 320 256) (botVal κ (lay2 κ I) g p) _ (ix3 x (Fin.ofNat 320 (j.val - 320)) c)) = _
    by_cases h : j.val < 320
    · rw [if_pos h, ofNat_eq (r := (⟨j.val, h⟩ : Fin 320)) rfl]
      exact htop.up (by decide) x ⟨j.val, h⟩ c
    · rw [if_neg h, ofNat_eq (r := (⟨j.val - 320, by omega⟩ : Fin 320)) rfl]
      refine (hbot.up (by decide) x ⟨j.val - 320, by omega⟩ c).trans ?_
      simp only
      rw [show 320 + (j.val - 320) = j.val by omega]
  have hmx : At3 (mVal κ (lay2 κ I) g p) fun _ _ c => max (Finset.univ.fold max ⊥ fun j : Fin 320 => masked raw bias j.val c)
      (Finset.univ.fold max ⊥ fun j : Fin 320 => masked raw bias (320 + j.val) c) := by
    refine At2.up (f := fun _ c => _) (fun z c => ?_) (by decide)
    exact congrArg₂ (fun u v : EReal => max u v) (colMax_at _ _ htop z c) (colMax_at _ _ hbot z c)
  have hw := weights_at _ _ _ _ hs hmx
  have hv := valuesFrom_at (fun x => valueBlockOf (lay2 κ I) g p x) (fun x r l =>
    padded t 512 ((g.val + x) * 128 + l) (pS A b (t * 1024 + ((g.val + x) * 128 + l) - 512) (2048 + (p.val * 128 + r)))) fun x => by
      refine At3.down (At3.to ((vt_at T κ).read (s₀ := 1) (s₁ := 128) (s₂ := 128) (o₀ := g.val + x.val) (o₁ := p.val * 128) (o₂ := 0) (in3 (by omega) (by omega) (by decide))) fun z r l => ?_) (by decide)
      have : z.val = 0 := by omega
      simp only [this, Nat.zero_add, Nat.add_zero]
  have ha := attend_at _ _ _ _ hw hv
  have hg := (gate_at T κ).read (s₀ := 128) (s₁ := 128) (o₀ := g.val * 128) (o₁ := p.val * 128) (in2 (by omega) (by omega))
  refine At2.cast (fun i d => (congrArg₂ (fun u v : EReal => u * v) (ha i d) (hg i d)).trans ?_) (by decide)
  have hc : d.val / 64 * 128 + i.val < 256 := by omega
  have e1 : (d.val / 64 * 128 + i.val) % 128 = i.val := by omega
  have e2 : p.val * 2 + (d.val / 64 * 128 + i.val) / 128 = p.val * 2 + d.val / 64 := by omega
  have main := attn_sum A b (p.val * 2 + d.val / 64) (t * 1024 + g.val * 128) i.val (d.val % 64) (by omega) i.isLt (by omega)
    (fun j => masked raw bias j (d.val / 64 * 128 + i.val))
    (fun j => padded t 512 ((g.val + j / 128) * 128 + j % 128) (pS A b (t * 1024 + ((g.val + j / 128) * 128 + j % 128) - 512) (2048 + (p.val * 128 + d.val))))
    (fun j hj => by
      show masked raw bias j _ = _
      rw [hmask j hj _ hc]
      unfold scoresAt
      rw [e1, e2])
    (fun j hj => by
      have e3 : (g.val + j / 128) * 128 + j % 128 = g.val * 128 + j := by omega
      have e4 : p.val * 128 + d.val = (p.val * 2 + d.val / 64) * 64 + d.val % 64 := by omega
      simp only [e3, e4, padded, Nat.add_assoc]
      split
      · rfl
      · exact pS_coe A hA _ _ _)
  unfold yS
  simp only
  rw [if_neg (by omega), show 512 + (p.val * 128 + d.val) - 512 = p.val * 128 + d.val by omega,
    show (p.val * 128 + d.val) / 64 = p.val * 2 + d.val / 64 by omega, show (p.val * 128 + d.val) % 64 = d.val % 64 by omega, Nat.add_assoc]
  rw [Nat.add_assoc] at main
  exact congrArg (fun u : EReal => u * _) main

end Pair

end Cert.Hybrid

end
-- ==== Proof.ValueOut.lean ====
/-
  A tile's output over the extended reals is the layer's rows.
-/
module

public import proofs.«01_k».proof.Proof.ValuePool
public import proofs.«01_k».proof.Proof.ValueAttn

@[expose] public section

set_option maxRecDepth 16384

noncomputable section

namespace Cert.Hybrid

open Idealize.ShloMosaic Cert.Spec

variable {A : Args} {b t : ℕ} {I : BSt Ideal} (T : TileIn A b t I) (hA : A.Finite) (ht : t < 8) (κ : Consts Ideal) (hm : κ.mask = (⊥ : EReal))
  (hl : κ.log2e = (((Real.log 2)⁻¹ : ℝ) : EReal)) (hq : κ.qscale = (((8 * Real.log 2)⁻¹ : ℝ) : EReal))

include T hA ht hm hl hq

theorem y_at : At2 (A := 1024) (B := 1024) (lay3 κ (BitVec.ofNat 32 t) I .y) fun r e => yS A b (t * 1024 + r) e := by
  intro r e
  show (if e.val < 512 then tile2 0 0 (fun (hf : Fin 2) (g : Fin 4) => poolVal (BitVec.ofNat 32 t) (lay2 κ I) hf g) (ix2 r e)
    else tile2 0 512 (fun (g : Fin 8) (p : Fin 4) => finVal (lay2 κ I) g p (sVal κ (lay2 κ I) g p) (mVal κ (lay2 κ I) g p)) (ix2 r e)) = _
  by_cases h : e.val < 512
  · rw [if_pos h, tile2_eq (n := 2) (m := 4) ⟨r.val / 512, by omega⟩ ⟨e.val / 128, by omega⟩ (ix2 ⟨r.val % 512, by omega⟩ ⟨e.val % 128, by omega⟩)
      (by show r.val = 0 + r.val / 512 * 512 + r.val % 512; omega) (by show e.val = 0 + e.val / 128 * 128 + e.val % 128; omega), poolVal_at T ht]
    simp only [yS]
    rw [if_pos h, show t * 1024 + r.val / 512 * 512 + r.val % 512 = t * 1024 + r.val by omega]
  · rw [if_neg h, tile2_eq (n := 8) (m := 4) ⟨r.val / 128, by omega⟩ ⟨(e.val - 512) / 128, by omega⟩ (ix2 ⟨r.val % 128, by omega⟩ ⟨(e.val - 512) % 128, by omega⟩)
      (by show r.val = 0 + r.val / 128 * 128 + r.val % 128; omega) (by show e.val = 512 + (e.val - 512) / 128 * 128 + (e.val - 512) % 128; omega),
      finVal_at T hA ht κ hm hl hq]
    simp only
    rw [show t * 1024 + r.val / 128 * 128 + r.val % 128 = t * 1024 + r.val by omega, show 512 + ((e.val - 512) / 128 * 128 + (e.val - 512) % 128) = e.val by omega]

theorem res_at : At3 (A := 1) (B := 1024) (C := 1024) (lay4 κ (BitVec.ofNat 32 t) I .out) fun _ r d => resS A b (t * 1024 + r) d := by
  have hy := y_at T hA ht κ hm hl hq
  intro z r d
  show projectVal (lay3 κ (BitVec.ofNat 32 t) I) (Fin.ofNat 4 (r.val / 256)) (Fin.ofNat 4 (d.val / 256))
      (ix3 0 (Fin.ofNat 256 (r.val % 256)) (Fin.ofNat 256 (d.val % 256))) = _
  rw [ofNat_eq (r := (⟨r.val / 256, by omega⟩ : Fin 4)) rfl, ofNat_eq (r := (⟨d.val / 256, by omega⟩ : Fin 4)) rfl,
    ofNat_eq (r := (⟨r.val % 256, by omega⟩ : Fin 256)) rfl, ofNat_eq (r := (⟨d.val % 256, by omega⟩ : Fin 256)) rfl]
  refine (At2.up (f := fun r' d' => resS A b (t * 1024 + (r.val / 256 * 256 + r')) (d.val / 256 * 256 + d')) (fun i c => ?_) (by decide) 0 _ _).trans ?_
  · have hx : At2 (shapeCast (S2 256 256) (rd (lay3 κ (BitVec.ofNat 32 t) I) .x ![0, r.val / 256 * 256, d.val / 256 * 256] (S3 1 256 256).size
        (in3 (by decide) (by omega) (by omega))) (by decide)) fun i c => A.x b (t * 1024 + (r.val / 256 * 256 + i)) (d.val / 256 * 256 + c) :=
      At3.down (T.x.read (s₀ := 1) (s₁ := 256) (s₂ := 256) (in3 (by decide) (by omega) (by omega))) (by decide)
    have hyr := hy.read (s₀ := 256) (s₁ := 1024) (o₀ := r.val / 256 * 256) (o₁ := 0) (in2 (by omega) (by decide))
    have hw := At2.cast (T.wOut.read (s₀ := 1024) (s₁ := 256) (o₀ := 0) (o₁ := d.val / 256 * 256) (in2 (by decide) (by omega))) (by decide)
    refine congrArg₂ (fun u v : EReal => u + v) (hx i c) ?_
    have hmm : ∀ (a : FVec Ideal (S2 256 1024) .bf16) (w : FVec Ideal (S2 1024 256) .bf16) (fa fw : ℕ → ℕ → EReal), At2 a fa → At2 w fw →
        At2 (mm (φ := .bf16) (ψ := .bf16) 256 1024 256 a w) fun r c => ∑ x : Fin 1024, fa r x.val * fw x.val c := by
      intro a w fa fw ha hw i c
      pointwise [mm, dNN, S2]
      simp only [ha _, hw _]
    refine (hmm _ _ _ _ hyr hw i c).trans ?_
    refine Finset.sum_congr rfl fun x _ => ?_
    simp only [Nat.zero_add]
  · simp only
    rw [show t * 1024 + (r.val / 256 * 256 + r.val % 256) = t * 1024 + r.val by omega, show d.val / 256 * 256 + d.val % 256 = d.val by omega]

theorem out_at : At3 (A := 1) (B := 1024) (C := 1024) (model κ (BitVec.ofNat 32 t) I (0, true) .out) fun _ r d => outS A b (t * 1024 + r) d := by
  have hr := res_at T hA ht κ hm hl hq
  intro z r d
  show normOutVal (lay4 κ (BitVec.ofNat 32 t) I) (Fin.ofNat 4 (r.val / 256)) (ix3 0 (Fin.ofNat 256 (r.val % 256)) d) = _
  rw [ofNat_eq (r := (⟨r.val / 256, by omega⟩ : Fin 4)) rfl, ofNat_eq (r := (⟨r.val % 256, by omega⟩ : Fin 256)) rfl]
  refine (At2.up (rms_at256 _ _ (fun r' d' => resS A b (t * 1024 + (r.val / 256 * 256 + r')) d') A.gOut
    (At2.to (At3.down (hr.read (s₀ := 1) (s₁ := 256) (s₂ := 1024) (o₀ := 0) (o₁ := r.val / 256 * 256) (o₂ := 0) (in3 (by decide) (by omega) (by decide))) (by decide)) fun i c => ?_)
    (At2.cast (At2.to (T.gOut.read (s₀ := 1) (s₁ := 1024) (o₀ := 0) (o₁ := 0) (in2 (by decide) (by decide))) fun i c => ?_) (by decide))) (by decide) 0 _ _).trans ?_
  · simp only [Nat.zero_add]
  · simp only [Nat.zero_add]
  · simp only [outS]
    rw [show t * 1024 + (r.val / 256 * 256 + r.val % 256) = t * 1024 + r.val by omega]

end Cert.Hybrid

end
-- ==== Proof.ValueArgs.lean ====
/-
  The layer's arguments from the arrays that hold them.
-/
module

public import proofs.«01_k».proof.Proof.ValueOut

@[expose] public section

noncomputable section

namespace Cert.Hybrid

open Idealize.ShloMosaic Cert.Spec

/-- The arguments' entries by number. -/
def argsOf (x : FVec Ideal (S3 8 8192 1024) .f32) (g : FVec Ideal (S2 1 1024) .f32) (w : FVec Ideal (S3 1 1024 3072) .f32)
    (pw : FVec Ideal (S4 1 4 128 128) .f32) (ps : FVec Ideal (S2 1 512) .f32) (rb : FVec Ideal (S3 1 8 129) .f32)
    (wo : FVec Ideal (S3 1 1024 1024) .f32) (go : FVec Ideal (S1 1024) .f32) : Args where
  x b s d := x (ix3 (Fin.ofNat 8 b) (Fin.ofNat 8192 s) (Fin.ofNat 1024 d))
  gIn d := g (ix2 0 (Fin.ofNat 1024 d))
  w d e := w (ix3 0 (Fin.ofNat 1024 d) (Fin.ofNat 3072 e))
  pw g c d := pw (ix4 0 (Fin.ofNat 4 g) (Fin.ofNat 128 c) (Fin.ofNat 128 d))
  ps d := ps (ix2 0 (Fin.ofNat 512 d))
  rb h r := rb (ix3 0 (Fin.ofNat 8 h) (Fin.ofNat 129 r))
  wo e d := wo (ix3 0 (Fin.ofNat 1024 e) (Fin.ofNat 1024 d))
  gOut d := go (ix1 (Fin.ofNat 1024 d))

section Fields

variable (x : FVec Ideal (S3 8 8192 1024) .f32) (g : FVec Ideal (S2 1 1024) .f32) (w : FVec Ideal (S3 1 1024 3072) .f32)
    (pw : FVec Ideal (S4 1 4 128 128) .f32) (ps : FVec Ideal (S2 1 512) .f32) (rb : FVec Ideal (S3 1 8 129) .f32)
    (wo : FVec Ideal (S3 1 1024 1024) .f32) (go : FVec Ideal (S1 1024) .f32)

theorem argsOf_x : At3 x (argsOf x g w pw ps rb wo go).x := fun a b c => by
  show x _ = x _
  rw [ofNat_eq (r := a) rfl, ofNat_eq (r := b) rfl, ofNat_eq (r := c) rfl]

theorem argsOf_gIn : At2 g fun _ => (argsOf x g w pw ps rb wo go).gIn := fun a b => by
  show g _ = g _
  rw [ofNat_eq (r := b) rfl, Subsingleton.elim a 0]

theorem argsOf_w : At3 w fun _ => (argsOf x g w pw ps rb wo go).w := fun a b c => by
  show w _ = w _
  rw [ofNat_eq (r := b) rfl, ofNat_eq (r := c) rfl, Subsingleton.elim a 0]

theorem argsOf_pw : At4 pw fun _ => (argsOf x g w pw ps rb wo go).pw := fun a b c d => by
  show pw _ = pw _
  rw [ofNat_eq (r := b) rfl, ofNat_eq (r := c) rfl, ofNat_eq (r := d) rfl, Subsingleton.elim a 0]

theorem argsOf_ps : At2 ps fun _ => (argsOf x g w pw ps rb wo go).ps := fun a b => by
  show ps _ = ps _
  rw [ofNat_eq (r := b) rfl, Subsingleton.elim a 0]

theorem argsOf_rb : At3 rb fun _ => (argsOf x g w pw ps rb wo go).rb := fun a b c => by
  show rb _ = rb _
  rw [ofNat_eq (r := b) rfl, ofNat_eq (r := c) rfl, Subsingleton.elim a 0]

theorem argsOf_wo : At3 wo fun _ => (argsOf x g w pw ps rb wo go).wo := fun a b c => by
  show wo _ = wo _
  rw [ofNat_eq (r := b) rfl, ofNat_eq (r := c) rfl, Subsingleton.elim a 0]

theorem argsOf_gOut (a : Fin 1024) : go (ix1 a) = (argsOf x g w pw ps rb wo go).gOut a.val := by
  show go _ = go _
  rw [ofNat_eq (r := a) rfl]

end Fields

theorem At2.at_ {α : Type} {A B : ℕ} {v : (S2 A B).Idx → α} {f : ℕ → ℕ → α} (h : At2 v f) (i : (S2 A B).Idx) : v i = f (i 0).val (i 1).val :=
  (congrArg v (eq_ix2 i)).trans (h (i 0) (i 1))

theorem At3.at_ {α : Type} {A B C : ℕ} {v : (S3 A B C).Idx → α} {f : ℕ → ℕ → ℕ → α} (h : At3 v f) (i : (S3 A B C).Idx) :
    v i = f (i 0).val (i 1).val (i 2).val :=
  (congrArg v (eq_ix3 i)).trans (h (i 0) (i 1) (i 2))

end Cert.Hybrid

end
-- ==== Proof.Finite.lean ====
/-
  The precondition read back: the weights the scores and values come from are real.
-/
module

public import proofs.«01_k».proof.Pre_finite_weights
public import proofs.«01_k».proof.Proof.ValueArgs
public import Idealize.ShloMosaic.Lib.ReduceAll

@[expose] public section

noncomputable section

namespace Cert.Pre_finite_weights

open Idealize.ShloMosaic Cert.Spec Cert.Hybrid

theorem facts_hold : Cert.Pre_finite_weights.Facts where
  h_S_ := by decide
  bcast_S_S1x1024 := by decide
  reducesTo_S1x1024_S_d0_1 := by decide
  bcast_S_S1x1024x3072 := by decide
  reducesTo_S1x1024x3072_S_d0_1_2 := by decide
  bcast_S_S1x8x129 := by decide
  reducesTo_S1x8x129_S_d0_1_2 := by decide

theorem top_bits : Ideal.ofBits .f32 0x7F800000#32 = (⊤ : EReal) := by
  simp [Ideal.ofBits, Ideal.ieee]

/-- An extended real below infinity in absolute value is real. -/
theorem real_of_abs (x : EReal) (h : max x (-x) < ⊤) : Real' x := by
  induction x with
  | bot => simp at h
  | coe r => exact ⟨r, rfl⟩
  | top => simp at h

instance : Subsingleton S_.Idx := ⟨fun a b => funext fun i => i.elim0⟩

/-- An array whose entries are all below infinity in absolute value has real entries. -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) (i : s.Idx) : Real' (x i) := by
  have e := Host.reduce_andi_all _ _ _ _ j h i
  have e' : Ideal.cmp .olt (max (x i : EReal) (-(x i : EReal))) (Ideal.ofBits .f32 0x7F800000#32) = 1#1 := e
  rw [top_bits] at e'
  refine real_of_abs _ ?_
  by_contra hn
  simp [Ideal.cmp, hn] at e'

variable [Facts]

theorem finite_of (x : FVec Ideal (S3 8 8192 1024) .f32) (g : FVec Ideal (S2 1 1024) .f32) (w : FVec Ideal (S3 1 1024 3072) .f32)
    (pw : FVec Ideal (S4 1 4 128 128) .f32) (ps : FVec Ideal (S2 1 512) .f32) (rb : FVec Ideal (S3 1 8 129) .f32)
    (wo : FVec Ideal (S3 1 1024 1024) .f32) (go : FVec Ideal (S1 1024) .f32) (h : fn (F := Ideal) x g w pw ps rb wo go = fun _ => 1#1) :
    (argsOf x g w pw ps rb wo go).Finite := by
  have j : S_.Idx := fun i => i.elim0
  have h0 := congrFun h j
  obtain ⟨h1, hrb⟩ := IntOp.andi_eq_one.1 h0
  obtain ⟨hg, hw⟩ := IntOp.andi_eq_one.1 h1
  exact ⟨fun _ => real_of_all g _ _ _ j hg _, fun _ _ => real_of_all w _ _ _ j hw _, fun _ _ => real_of_all rb _ _ _ j hrb _⟩

end Cert.Pre_finite_weights

end
-- ==== Proof.MirrorIdeal.lean ====
/-
  The idealized program's printed kernel functions are the commands of `Body`.
-/
module

public import proofs.«01_k».proof.Proof.Body
public import proofs.«01_k».proof.KernelIdeal
public import proofs.«01_k».proof.Proof.Gen.KernelIdeal
public import Idealize.ShloMosaic.Lib.Tactic

@[expose] public section

noncomputable section

namespace Cert.KernelIdeal

open Idealize.ShloMosaic Idealize.SL.Sem Cert.Hybrid

variable {F : FTy → Type} [FloatOps F] [Named F]

/-- The program's constants. -/
def consts : Consts F where
  mask := Named.named κ "mask" 0xF149F2CA#32
  log2e := Named.named κ "log2e" 0x3FB8AA3B#32
  qscale := Named.named κ "q_scale" 0x3E38AA3B#32

theorem prep_eq (i : grid0.Coords) (m : (b : PSlot) → Memref sig .tc .vmem b.sh b.el) (hm : ∀ b, (m b).IsWhole) :
    cc0_prepare_params (F := F) i (m .wIn) (hm .wIn) (m .wOut) (hm .wOut) (m .poolW) (hm .poolW) (m .rel) (hm .rel)
      (m .main) (hm .main) (m .qvt) (hm .qvt) (m .out) (hm .out) (m .pool) (hm .pool) (m .bias) (hm .bias)
      = (prep consts (decide (k0_cond1 i = 1#1))).denote m hm := by
  unfold cc0_prepare_params
  by_cases h : k0_cond1 i = 1#1
  · rw [decide_eq_true h]
    simp only [dif_pos h]
    sl_kernel_rfl
  · rw [decide_eq_false h]
    simp only [dif_neg h]
    sl_kernel_rfl

/-- The test for a sequence's first tile. -/
abbrev isFirst (i : grid1.Coords) : BitVec 1 :=
  Scalar.cmpi .ne (Scalar.extui (Scalar.cmpi .eq (BitVec.ofNat 32 (i 1).val) (0#32)) : BitVec 32) (0#32)

theorem block_eq (i : grid1.Coords) (m : (b : Slot) → Memref sig .tc .vmem b.sh b.el) (hm : ∀ b, (m b).IsWhole) :
    cc1_hybrid_block (F := F) i (m .x) (hm .x) (m .gIn) (hm .gIn) (m .wMain) (hm .wMain) (m .wQvt) (hm .wQvt) (m .poolW) (hm .poolW) (m .poolScale) (hm .poolScale) (m .bias) (hm .bias) (m .wOut) (hm .wOut) (m .gOut) (hm .gOut) (m .out) (hm .out) (m .h) (hm .h) (m .k) (hm .k) (m .ind) (hm .ind) (m .vt) (hm .vt) (m .qt) (hm .qt) (m .gate) (hm .gate) (m .pgate) (hm .pgate) (m .y) (hm .y) (m .pv) (hm .pv) (m .s) (hm .s) (m .m) (hm .m)
      = (block consts (decide (isFirst i = 1#1)) (BitVec.ofNat 32 (i 1).val)).denote m hm := by
  unfold cc1_hybrid_block k1_part103 k1_part2
  by_cases h : isFirst i = 1#1
  · rw [decide_eq_true h]
    simp only [dif_pos h]
    sl_kernel_rfl
  · rw [decide_eq_false h]
    simp only [dif_neg h]
    sl_kernel_rfl

end Cert.KernelIdeal

end
-- ==== Proof.Prep.lean ====
/-
  What the preparing kernel leaves: each result a value of the operands, the pooling weights and the bias tiles
  written at the first grid point only.
-/
module

public import proofs.«01_k».proof.Proof.Sched
public import Idealize.ShloMosaic.Lib.Pipeline.Value

@[expose] public section

noncomputable section

namespace Cert.Hybrid

open Idealize.ShloMosaic Idealize.ShloMosaic.ValueIdx

variable {F : FTy → Type} [FloatOps F]

/-- The contents of the preparing kernel's buffers. -/
abbrev PSt (F : FTy → Type) : Type := St PSlot.sh PSlot.el (Elt F)

/-- A rectangle of one of them, read. -/
abbrev prd (σ : PSt F) (b : PSlot) (off size : Fin b.sh.rank → ℕ) (h : ∀ a, off a + size a ≤ b.sh.size a) :
    (⟨b.sh.rank, size⟩ : Shape).Idx → Elt F b.el := fun j => σ b ((Rect.unit off size h).emb j)

/-- 512 columns of the input weight. -/
def wInVal (σ : PSt F) (c : Fin 6) : FVec F (S2 128 512) .f32 :=
  shapeCast (S2 128 512) (prd σ .wIn ![0, c.val * 512] (S2 128 512).size (in2 (by decide) (by omega))) (by decide)

def mainVal (σ : PSt F) : FVec F (S2 128 2048) .bf16 :=
  truncf .bf16 (concatenate (S2 128 2048) 1 [⟨S2 128 512, wInVal σ 0⟩, ⟨S2 128 512, wInVal σ 1⟩, ⟨S2 128 512, wInVal σ 3⟩, ⟨S2 128 512, wInVal σ 5⟩]
      (by dsimp only [List.map]; decide)) bf_lt

def qvtVal (σ : PSt F) : FVec F (S2 1024 128) .bf16 :=
  truncf .bf16 (transpose (S2 1024 128) [1, 0] (concatenate (S2 128 1024) 1 [⟨S2 128 512, wInVal σ 2⟩, ⟨S2 128 512, wInVal σ 4⟩]
      (by dsimp only [List.map]; decide)) (by decide)) bf_lt

def outVal (σ : PSt F) : FVec F (S2 128 1024) .bf16 :=
  truncf .bf16 (shapeCast (S2 128 1024) (prd σ .wOut ![0, 0] (S2 128 1024).size (in2 (by decide) (by decide))) (by decide)) bf_lt

def poolVal' (σ : PSt F) : FVec F (S3 4 128 128) .bf16 :=
  truncf .bf16 (shapeCast (S3 4 128 128) (prd σ .poolW ![0, 0, 0] (S3 4 128 128).size (in3 (by decide) (by decide) (by decide))) (by decide)) bf_lt

/-- A head's tile of the bias. -/
def tileVal (κ : Consts F) (σ : PSt F) (p : Fin 4) (e : Fin 2) : FVec F (S2 192 128) .f32 :=
  biasTile κ (prd σ .rel ![p.val * 2 + e.val, 0] (S2 1 128).size (in2 (by omega) (by decide)))
    (prd σ .rel ![p.val * 2 + e.val, 128] (S2 1 1).size (in2 (by omega) (by decide)))
    (prd σ .rel ![p.val * 2 + e.val, 0] (S2 1 1).size (in2 (by omega) (by decide)))

/-- Every head's: pair by pair, a pair's two heads side by side. -/
def biasVal (κ : Consts F) (σ : PSt F) : FVec F (S3 4 192 256) .f32 := fun i =>
  tileVal κ σ (i 0) ⟨(i 2).val / 128, by have := (i 2).isLt; change (i 2).val < 256 at this; omega⟩
    (ix2 (i 1) ⟨(i 2).val % 128, Nat.mod_lt _ (by decide)⟩)

/-- What the preparing kernel leaves at its first point: its operands as they were, and its results. -/
def prepared (κ : Consts F) (σ : PSt F) : PSt F
  | .main => mainVal σ
  | .qvt => qvtVal σ
  | .out => outVal σ
  | .pool => poolVal' σ
  | .bias => biasVal κ σ
  | b => σ b

/-- Its operands. -/
def PSlot.isIn : PSlot → Bool
  | .wIn | .wOut | .poolW | .rel => true
  | _ => false

/-- Its results that every point writes. -/
def PSlot.each : PSlot → Bool
  | .main | .qvt | .out => true
  | _ => false

omit [FloatOps F] in
theorem overlay_whole {s : Shape} {α : Type} (off : Fin s.rank → ℕ) (h : ∀ a, off a + s.size a ≤ s.size a) (X : s.Idx → α)
    (w : (Rect.unit off s.size h).shape.Idx → α) : (Rect.unit off s.size h).overlay X w = w := by
  funext i
  have e : (Rect.unit off s.size h).emb i = i := by
    funext a; apply Fin.ext; rw [emb_val]; have := h a; have : off a = 0 := by omega
    rw [this, Nat.zero_add]
  conv_lhs => rw [← e]
  exact Rect.overlay_emb ..

/-- The three results of every point. -/
def afterEach (κ : Consts F) (I σ : PSt F) : PSt F := fun b => if b.each then prepared κ I b else σ b

theorem each_run (κ : Consts F) (first : Bool) (σ : PSt F) :
    ((prep κ first).run σ).2 = ((cond first (prepOnce κ) (pure ⟨⟩)).run (afterEach κ σ σ)).2 := by
  have e : ∀ X Y Z, X = mainVal σ → Y = qvtVal σ → Z = outVal σ →
      Function.update (Function.update (Function.update σ .main X) .qvt Y) .out Z = afterEach κ σ σ := by
    rintro X Y Z rfl rfl rfl
    funext b; cases b <;> rfl
  rw [← e _ _ _ (overlay_whole ![0, 0] (in2 (by decide) (by decide)) (σ .main) (mainVal σ))
    (overlay_whole ![0, 0] (in2 (by decide) (by decide)) (σ .qvt) (qvtVal σ)) (overlay_whole ![0, 0] (in2 (by decide) (by decide)) (σ .out) (outVal σ))]
  rfl

omit [FloatOps F] in
theorem overlay_at {s : Shape} {α : Type} (r : Rect s) (X : s.Idx → α) (w : r.shape.Idx → α) {i : s.Idx} {j : r.shape.Idx} (h : r.emb j = i) :
    r.overlay X w i = w j := by
  subst h; exact Rect.overlay_emb ..

/-- A tile written into its half of its pair's. -/
theorem tile_overlay {α : Type} (p : Fin 4) (e : Fin 2) (h : ∀ a, (![p.val, 0, e.val * 128] : Fin 3 → ℕ) a + (S3 1 192 128).size a ≤ (S3 4 192 256).size a)
    (X : (S3 4 192 256).Idx → α) (w : (S2 192 128).Idx → α) (hc : (S2 192 128).ShapeCasts (S3 1 192 128)) (i : (S3 4 192 256).Idx) :
    (Rect.unit (s := S3 4 192 256) ![p.val, 0, e.val * 128] (S3 1 192 128).size h).overlay X (shapeCast (S3 1 192 128) w hc) i
      = if (i 0).val = p.val ∧ (i 2).val / 128 = e.val then w (ix2 (i 1) ⟨(i 2).val % 128, Nat.mod_lt _ (by decide)⟩) else X i := by
  have b2 : (i 2).val < 256 := (i 2).isLt
  have b1 : (i 1).val < 192 := (i 1).isLt
  by_cases hi : (i 0).val = p.val ∧ (i 2).val / 128 = e.val
  · rw [if_pos hi]
    obtain ⟨hp, he⟩ := hi
    refine (overlay_at _ _ _ (j := (ix3 (0 : Fin 1) (⟨(i 1).val, b1⟩ : Fin 192) (⟨(i 2).val % 128, Nat.mod_lt _ (by decide)⟩ : Fin 128) : (S3 1 192 128).Idx)) ?_).trans ?_
    · funext a; apply Fin.ext; rw [emb_val]
      fin_cases a
      · show p.val + 0 = _; rw [Nat.add_zero]; exact hp.symm
      · show 0 + (i 1).val = (i 1).val; rw [Nat.zero_add]
      · show e.val * 128 + (i 2).val % 128 = (i 2).val; omega
    · refine (shapeCast_addUnit_apply ![192, 128] w hc _).trans (congrArg w ?_)
      funext a
      fin_cases a
      · rfl
      · rfl
  · rw [if_neg hi]
    refine Rect.overlay_of_not_mem _ _ _ ?_
    rw [Rect.mem_set_unit]
    intro h
    have x0 := h 0; have x2 := h 2
    change p.val ≤ (i 0).val ∧ (i 0).val < p.val + 1 at x0
    change e.val * 128 ≤ (i 2).val ∧ (i 2).val < e.val * 128 + 128 at x2
    exact hi ⟨by omega, by omega⟩

/-- One head's tile written. -/
theorem prepBias_run (κ : Consts F) (p : Fin 4) (e : Fin 2) (σ I : PSt F) (hI : σ .rel = I .rel) :
    ((prepBias κ p e).run σ).2 = Function.update σ .bias fun i =>
      if (i 0).val = p.val ∧ (i 2).val / 128 = e.val then biasVal κ I i else σ .bias i := by
  have h0 : tileVal κ σ p e = tileVal κ I p e := by unfold tileVal prd; rw [hI]
  have h1 : ((prepBias κ p e).run σ).2 = Function.update σ .bias ((Rect.unit (s := S3 4 192 256) ![p.val, 0, e.val * 128] (S3 1 192 128).size
      (in3 (by omega) (by decide) (by omega))).overlay (σ .bias) (shapeCast (S3 1 192 128) (tileVal κ σ p e) (by decide))) := rfl
  rw [h1, h0]
  refine congrArg (Function.update σ .bias) (funext fun i => (tile_overlay ..).trans ?_)
  by_cases hi : (i 0).val = p.val ∧ (i 2).val / 128 = e.val
  · rw [if_pos hi, if_pos hi]
    have hp' : (i 0 : Fin 4) = p := Fin.ext hi.1
    have he' : (⟨(i 2).val / 128, by have : (i 2).val < 256 := (i 2).isLt; omega⟩ : Fin 2) = e := Fin.ext hi.2
    unfold biasVal
    rw [he']
    exact congrArg (fun p => tileVal κ I p e _) hp'.symm
  · rw [if_neg hi, if_neg hi]

theorem prepPair_run (κ : Consts F) (p : Fin 4) (σ I : PSt F) (hI : σ .rel = I .rel) :
    ((prepPair κ p).run σ).2 = Function.update σ .bias fun i => if (i 0).val = p.val then biasVal κ I i else σ .bias i := by
  have e : ((prepPair κ p).run σ).2 = ((prepBias κ p 1).run ((prepBias κ p 0).run σ).2).2 := by unfold prepPair; rw [Cmd.run_bind]
  rw [e, prepBias_run κ p 0 σ I hI, prepBias_run κ p 1 _ I (by rw [Function.update_of_ne (by decide)]; exact hI), Function.update_idem, Function.update_self]
  refine congrArg (Function.update σ .bias) (funext fun i => ?_)
  have b2 : (i 2).val < 256 := (i 2).isLt
  by_cases hp : (i 0).val = p.val
  · by_cases h : (i 2).val / 128 = 1
    · rw [if_pos ⟨hp, h⟩, if_pos hp]
    · rw [if_neg fun x => h x.2, if_pos ⟨hp, by show _ = 0; omega⟩, if_pos hp]
  · rw [if_neg fun x => hp x.1, if_neg fun x => hp x.1, if_neg hp]

/-- What is prepared once. -/
theorem prepOnce_run (κ : Consts F) (σ I : PSt F) (hp : σ .poolW = I .poolW) (hI : σ .rel = I .rel) :
    ((prepOnce κ).run σ).2 = Function.update (Function.update σ .pool (prepared κ I .pool)) .bias (prepared κ I .bias) := by
  have e : ((prepOnce κ).run σ).2 = ((prepPair κ 3).run ((prepPair κ 2).run ((prepPair κ 1).run ((prepPair κ 0).run (prepPool.run σ).2).2).2).2).2 := by
    unfold prepOnce; rw [Cmd.run_bind, Cmd.run_bind, Cmd.run_bind, Cmd.run_bind]
  have e0 : (prepPool.run σ).2 = Function.update σ .pool (prepared κ I .pool) := by
    have h : poolVal' σ = poolVal' I := by unfold poolVal' prd; rw [hp]
    refine (?_ : _ = Function.update σ .pool (poolVal' I))
    rw [← h, ← overlay_whole ![0, 0, 0] (in3 (by decide) (by decide) (by decide)) (σ .pool) (poolVal' σ)]
    rfl
  have h0 : Function.update σ .pool (prepared κ I .pool) .rel = I .rel := by rw [Function.update_of_ne (by decide)]; exact hI
  rw [e, e0, prepPair_run κ 0 _ I h0, prepPair_run κ 1 _ I (by rw [Function.update_of_ne (by decide)]; exact h0), Function.update_idem,
    prepPair_run κ 2 _ I (by rw [Function.update_of_ne (by decide)]; exact h0), Function.update_idem,
    prepPair_run κ 3 _ I (by rw [Function.update_of_ne (by decide)]; exact h0), Function.update_idem]
  refine congrArg (Function.update (Function.update σ .pool (prepared κ I .pool)) .bias) (funext fun i => ?_)
  simp only [Function.update_self]
  have b0 : (i 0).val < 4 := (i 0).isLt
  show _ = biasVal κ I i
  by_cases h3 : (i 0).val = (3 : Fin 4).val
  · rw [if_pos h3]
  rw [if_neg h3]
  by_cases h2 : (i 0).val = (2 : Fin 4).val
  · rw [if_pos h2]
  rw [if_neg h2]
  by_cases h1 : (i 0).val = (1 : Fin 4).val
  · rw [if_pos h1]
  rw [if_neg h1, if_pos]
  change (i 0).val ≠ 3 at h3; change (i 0).val ≠ 2 at h2; change (i 0).val ≠ 1 at h1; change (i 0).val = 0
  omega

/-- The results are functions of the operands. -/
theorem prepared_congr (κ : Consts F) {I J : PSt F} (h : ∀ b, b.isIn = true → J b = I b) (b : PSlot) (hb : (b.isIn || b.each || b == .pool || b == .bias) = true) :
    prepared κ J b = prepared κ I b := by
  have h1 := h .wIn rfl; have h2 := h .wOut rfl; have h3 := h .poolW rfl; have h4 := h .rel rfl
  have hw : wInVal J = wInVal I := by funext c; unfold wInVal prd; rw [h1]
  cases b with
  | main => show mainVal J = mainVal I; unfold mainVal; rw [hw]
  | qvt => show qvtVal J = qvtVal I; unfold qvtVal; rw [hw]
  | out => show outVal J = outVal I; unfold outVal prd; rw [h2]
  | pool => show poolVal' J = poolVal' I; unfold poolVal' prd; rw [h3]
  | bias => show biasVal κ J = biasVal κ I; unfold biasVal tileVal prd; rw [h4]
  | wIn => exact h1
  | wOut => exact h2
  | poolW => exact h3
  | rel => exact h4

/-- The kernel run: its operands stay, its results are the values, the pooling weights and the bias at the first point only. -/
theorem prep_run (κ : Consts F) (first : Bool) (I σ : PSt F) (hin : ∀ b, b.isIn = true → σ b = I b) (b : PSlot) :
    ((prep κ first).run σ).2 b = if b.isIn || b.each || first then prepared κ I b else σ b := by
  have hc := prepared_congr κ (I := I) (J := σ) hin
  rw [each_run]
  cases first with
  | false =>
    show afterEach κ σ σ b = _
    unfold afterEach
    cases b with
    | main => exact hc .main rfl
    | qvt => exact hc .qvt rfl
    | out => exact hc .out rfl
    | pool => exact (if_neg (by decide)).trans (if_neg (by decide)).symm
    | bias => exact (if_neg (by decide)).trans (if_neg (by decide)).symm
    | wIn => exact hin .wIn rfl
    | wOut => exact hin .wOut rfl
    | poolW => exact hin .poolW rfl
    | rel => exact hin .rel rfl
  | true =>
    show ((prepOnce κ).run (afterEach κ σ σ)).2 b = _
    have hp : afterEach κ σ σ .poolW = I .poolW := hin .poolW rfl
    have hr : afterEach κ σ σ .rel = I .rel := hin .rel rfl
    have ho : ∀ b, b ≠ .pool → b ≠ .bias → afterEach κ σ σ b = prepared κ I b := fun b h h' => by
      cases b with
      | main => exact hc .main rfl
      | qvt => exact hc .qvt rfl
      | out => exact hc .out rfl
      | pool => exact absurd rfl h
      | bias => exact absurd rfl h'
      | wIn => exact hin .wIn rfl
      | wOut => exact hin .wOut rfl
      | poolW => exact hin .poolW rfl
      | rel => exact hin .rel rfl
    have e := prepOnce_run κ (afterEach κ σ σ) I hp hr
    generalize afterEach κ σ σ = ρ at e ho
    rw [e, if_pos (by rw [Bool.or_true])]
    by_cases hb : b = .bias
    · subst hb; rw [Function.update_self]
    rw [Function.update_of_ne hb]
    by_cases hb' : b = .pool
    · subst hb'; rw [Function.update_self]
    rw [Function.update_of_ne hb']
    exact ho b hb' hb

end Cert.Hybrid

end
-- ==== Proof.PrepIdeal.lean ====
/-
  The preparing call of the idealized program over its grid: what each of its staging buffers holds at each point,
  and its body's obligation.
-/
module

public import proofs.«01_k».proof.Proof.MirrorIdeal
public import proofs.«01_k».proof.Proof.Prep
public import proofs.«01_k».proof.Proof.Gen.KernelIdeal.Launch
public import proofs.«01_k».proof.Proof.Gen.KernelIdeal.Points
public import Idealize.ShloMosaic.Lib.Pipeline.FrameBody

@[expose] public section

noncomputable section

namespace Cert.KernelIdeal

open Idealize.ShloMosaic Idealize.ShloMosaic.TcCoe Cert.Hybrid Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]
variable {U : Type} [URA U]

local notation "𝕄" => MT nD τ sig Unit (Elt F) ℕ U ℕ

/-! ## The buffers -/

/-- The staging buffers in use at a point. -/
noncomputable def mem0 (t : Fin cfg0.N) : (b : PSlot) → Memref sig .tc .vmem b.sh b.el
  | .wIn => win0_0.stage (cfg0.slots t 0)
  | .wOut => win0_1.stage (cfg0.slots t 1)
  | .poolW => win0_2.stage (cfg0.slots t 2)
  | .rel => win0_3.stage (cfg0.slots t 3)
  | .main => win0_4.stage (cfg0.slots t 4)
  | .qvt => win0_5.stage (cfg0.slots t 5)
  | .out => win0_6.stage (cfg0.slots t 6)
  | .pool => win0_7.stage (cfg0.slots t 7)
  | .bias => win0_8.stage (cfg0.slots t 8)

theorem mem0_whole (t : Fin cfg0.N) (b : PSlot) : (mem0 t b).IsWhole := by
  cases b with
  | wIn => exact hstage0_0 ((cfg0.slots t 0).cast nbuf0_0)
  | wOut => exact hstage0_1 ((cfg0.slots t 1).cast nbuf0_1)
  | poolW => exact hstage0_2 ((cfg0.slots t 2).cast nbuf0_2)
  | rel => exact hstage0_3 ((cfg0.slots t 3).cast nbuf0_3)
  | main => exact hstage0_4 ((cfg0.slots t 4).cast nbuf0_4)
  | qvt => exact hstage0_5 ((cfg0.slots t 5).cast nbuf0_5)
  | out => exact hstage0_6 ((cfg0.slots t 6).cast nbuf0_6)
  | pool => exact hstage0_7 ((cfg0.slots t 7).cast nbuf0_7)
  | bias => exact hstage0_8 ((cfg0.slots t 8).cast nbuf0_8)

/-- Whether the point is the first. -/
abbrev once (t : Fin cfg0.N) : Bool := k0_cond1 (grid0.coords t) == 1#1

theorem body0 (t : Fin cfg0.N) : (defs₀ (F := F)) .tc cfg0.body (cfg0.bodyArgs t (cfg0.slots t))
    = (prep consts (once t)).denote (mem0 t) (mem0_whole t) :=
  prep_eq (F := F) (grid0.coords t) (mem0 t) (mem0_whole t)

/-- All the buffers owned, one by one. -/
theorem owned0 (c : Dev nD) (m : (b : PSlot) → Memref sig .tc .vmem b.sh b.el) (σ : PSt F) :
    (Cmd.owned c m σ : sProp 𝕄) = iprop(owns (c : Thread nD τ) (m .wIn) fullShare (σ .wIn) ∗ owns (c : Thread nD τ) (m .wOut) fullShare (σ .wOut)
      ∗ owns (c : Thread nD τ) (m .poolW) fullShare (σ .poolW) ∗ owns (c : Thread nD τ) (m .rel) fullShare (σ .rel)
      ∗ owns (c : Thread nD τ) (m .main) fullShare (σ .main) ∗ owns (c : Thread nD τ) (m .qvt) fullShare (σ .qvt)
      ∗ owns (c : Thread nD τ) (m .out) fullShare (σ .out) ∗ owns (c : Thread nD τ) (m .pool) fullShare (σ .pool)
      ∗ owns (c : Thread nD τ) (m .bias) fullShare (σ .bias)) :=
  bigSep_univ_eq_bigSepL [PSlot.wIn, .wOut, .poolW, .rel, .main, .qvt, .out, .pool, .bias] (by decide) (by decide) _

/-! ## The contents -/

variable (V : (c : Dev nD) → (b : Ref sig .tc) → Buf (Elt F) ((c : Thread nD τ).loc b))

/-- The operands' blocks at a point. -/
noncomputable def in0 (c : Dev nD) (t : Fin cfg0.N) : PSt F
  | .wIn => (win0_0.blk t).view.read (Elt F) (V c main_call0_v0)
  | .wOut => (win0_1.blk t).view.read (Elt F) (V c main_call0_v1)
  | .poolW => (win0_2.blk t).view.read (Elt F) (V c main_call0_v2)
  | .rel => (win0_3.blk t).view.read (Elt F) (V c main_call0_v3)
  | _ => fun _ => Classical.arbitrary _

/-- What the buffers hold after a point. -/
abbrev out0 (c : Dev nD) (t : Fin cfg0.N) : PSt F := prepared consts (in0 V c t)

/-- The call's proof data from the contents `V`. -/
noncomputable def dat0 (c : Dev nD) : Dat τ (Elt F) Unit ℕ U ℕ cfg0 c where
  A w := V c (Pipeline.arrRef spec0 w)
  after w t := match w with
    | ⟨0, _⟩ => out0 V c t .wIn
    | ⟨1, _⟩ => out0 V c t .wOut
    | ⟨2, _⟩ => out0 V c t .poolW
    | ⟨3, _⟩ => out0 V c t .rel
    | ⟨4, _⟩ => out0 V c t .main
    | ⟨5, _⟩ => out0 V c t .qvt
    | ⟨6, _⟩ => out0 V c t .out
    | ⟨7, _⟩ => out0 V c t0_0 .pool
    | ⟨8, _⟩ => out0 V c t0_0 .bias
  Φ _ := Pipeline.scopedRest spec0 c
  q _ := fullShare
  owed _ := 0

theorem once_t0 (t : Fin cfg0.N) : once t = true ↔ t.val = 0 := by
  revert t; show ∀ t : Fin grid0.N, (k0_cond1 (grid0.coords t) == 1#1) = true ↔ t.val = 0
  intro t
  rcases fin_N0 t with rfl | rfl | rfl | rfl | rfl | rfl | rfl | rfl <;> decide

/-- An operand's buffer holds the operand's block. -/
theorem before0_0 (c : Dev nD) (t : Fin cfg0.N) (d) : (dat0 (U := U) V c).before 0 t d = in0 V c t .wIn :=
  (Dat.before_in_eq_fetched _ 0 rfl (fun _ => rfl) (fun _ _ _ => rfl) (fun _ => rfl) t d).trans rfl

theorem before0_1 (c : Dev nD) (t : Fin cfg0.N) (d) : (dat0 (U := U) V c).before 1 t d = in0 V c t .wOut :=
  (Dat.before_in_eq_fetched _ 1 rfl (fun _ => rfl) (fun _ _ _ => rfl) (fun _ => rfl) t d).trans rfl

theorem before0_2 (c : Dev nD) (t : Fin cfg0.N) (d) : (dat0 (U := U) V c).before 2 t d = in0 V c t .poolW :=
  (Dat.before_in_eq_fetched _ 2 rfl (fun _ => rfl) (fun _ _ _ => rfl) (fun _ => rfl) t d).trans rfl

theorem before0_3 (c : Dev nD) (t : Fin cfg0.N) (d) : (dat0 (U := U) V c).before 3 t d = in0 V c t .rel :=
  (Dat.before_in_eq_fetched _ 3 rfl (fun _ => rfl) (fun _ _ _ => rfl) (fun _ => rfl) t d).trans rfl

/-- A result's buffer at a point after the first. -/
theorem before_step {c : Dev nD} (D : Dat τ (Elt F) Unit ℕ U ℕ cfg0 c) (w : Fin 9) (hw : (cfg0.win w).isOut = true) (t s : Fin cfg0.N) (h : t.val = s.val + 1) (d) :
    D.before w t d = if (cfg0.win w).flush s then d else D.left w s d := by
  obtain rfl : s = ⟨t.val - 1, Nat.lt_of_le_of_lt (Nat.sub_le _ _) t.isLt⟩ := Fin.ext (by show s.val = t.val - 1; omega)
  exact D.before_of_pos w t (by omega) ((cfg0.win w).fetch_out hw t) d

theorem once_later (t : Fin cfg0.N) (h : t.val ≠ 0) : once t = false := Bool.eq_false_iff.2 ((once_t0 t).not.2 h)

theorem idle_later (t : Fin cfg0.N) (h : t.val ≠ 0) : (!once t) = true := by rw [once_later t h]; rfl

/-- What the first point left, the later ones find. -/
theorem before0_7 (c : Dev nD) (d) (n : ℕ) : ∀ t : Fin cfg0.N, t.val = n + 1 → (dat0 (U := U) V c).before 7 t d = out0 V c t0_0 .pool := by
  induction n with
  | zero =>
    intro t ht
    rw [before_step _ 7 rfl t t0_0 ht, if_neg (by rw [flush0_7]; decide)]
    unfold Dat.left
    rw [show cfg0.idle 7 (cfg0.grid.coords t0_0) = false by decide]
    rfl
  | succ n ih =>
    intro t ht
    have hN : t.val < 8 := lt_of_lt_of_eq t.isLt N_0
    obtain ⟨s, hs⟩ : ∃ s : Fin cfg0.N, s.val = n + 1 := ⟨⟨n + 1, by have := t.isLt; omega⟩, rfl⟩
    rw [before_step _ 7 rfl t s (by omega), if_neg (by rw [flush0_7]; omega)]
    unfold Dat.left
    rw [show cfg0.idle 7 (cfg0.grid.coords s) = true from idle_later s (by omega)]
    exact ih s hs

theorem before0_8 (c : Dev nD) (d) (n : ℕ) : ∀ t : Fin cfg0.N, t.val = n + 1 → (dat0 (U := U) V c).before 8 t d = out0 V c t0_0 .bias := by
  induction n with
  | zero =>
    intro t ht
    rw [before_step _ 8 rfl t t0_0 ht, if_neg (by rw [flush0_8]; decide)]
    unfold Dat.left
    rw [show cfg0.idle 8 (cfg0.grid.coords t0_0) = false by decide]
    rfl
  | succ n ih =>
    intro t ht
    have hN : t.val < 8 := lt_of_lt_of_eq t.isLt N_0
    obtain ⟨s, hs⟩ : ∃ s : Fin cfg0.N, s.val = n + 1 := ⟨⟨n + 1, by have := t.isLt; omega⟩, rfl⟩
    rw [before_step _ 8 rfl t s (by omega), if_neg (by rw [flush0_8]; omega)]
    unfold Dat.left
    rw [show cfg0.idle 8 (cfg0.grid.coords s) = true from idle_later s (by omega)]
    exact ih s hs

/-- What a point leaves of a result written once. -/
theorem leave0_7 (c : Dev nD) (t : Fin cfg0.N) (d) :
    (owns (c : Thread nD τ) (mem0 t .pool) fullShare (if (PSlot.isIn .pool || PSlot.each .pool || once t) = true then out0 V c t .pool else (dat0 (U := U) V c).before 7 t d) : sProp 𝕄)
      ⊢ match cfg0.idle 7 (cfg0.grid.coords t) with
        | true =>
          match (cfg0.win 7).flush t with
          | false => iprop(∃ d, owns (c : Thread nD τ) ((cfg0.win 7).stage (cfg0.slots t 7)) fullShare ((dat0 (U := U) V c).before 7 t d))
          | true => owns (c : Thread nD τ) ((cfg0.win 7).stage (cfg0.slots t 7)) fullShare ((dat0 (U := U) V c).after 7 t)
        | false => owns (c : Thread nD τ) ((cfg0.win 7).stage (cfg0.slots t 7)) fullShare ((dat0 (U := U) V c).after 7 t) := by
  by_cases h : t.val = 0
  · obtain rfl : t = t0_0 := Fin.ext h
    rw [(once_t0 t0_0).2 rfl, show cfg0.idle 7 (cfg0.grid.coords t0_0) = false by decide]
    exact BI.Entails.refl _
  · rw [once_later t h, show cfg0.idle 7 (cfg0.grid.coords t) = true from idle_later t h]
    have hb := before0_7 (U := U) V c d (t.val - 1) t (by omega)
    cases hf : (cfg0.win 7).flush t with
    | false =>
      show owns _ _ _ ((dat0 (U := U) V c).before 7 t d) ⊢ iprop(∃ d, owns (c : Thread nD τ) (mem0 t .pool) fullShare ((dat0 (U := U) V c).before 7 t d))
      iintro H
      iexists d
      iexact H
    | true =>
      show owns _ _ _ ((dat0 (U := U) V c).before 7 t d) ⊢ _
      rw [hb]
      exact BI.Entails.refl _

theorem leave0_8 (c : Dev nD) (t : Fin cfg0.N) (d) :
    (owns (c : Thread nD τ) (mem0 t .bias) fullShare (if (PSlot.isIn .bias || PSlot.each .bias || once t) = true then out0 V c t .bias else (dat0 (U := U) V c).before 8 t d) : sProp 𝕄)
      ⊢ match cfg0.idle 8 (cfg0.grid.coords t) with
        | true =>
          match (cfg0.win 8).flush t with
          | false => iprop(∃ d, owns (c : Thread nD τ) ((cfg0.win 8).stage (cfg0.slots t 8)) fullShare ((dat0 (U := U) V c).before 8 t d))
          | true => owns (c : Thread nD τ) ((cfg0.win 8).stage (cfg0.slots t 8)) fullShare ((dat0 (U := U) V c).after 8 t)
        | false => owns (c : Thread nD τ) ((cfg0.win 8).stage (cfg0.slots t 8)) fullShare ((dat0 (U := U) V c).after 8 t) := by
  by_cases h : t.val = 0
  · obtain rfl : t = t0_0 := Fin.ext h
    rw [(once_t0 t0_0).2 rfl, show cfg0.idle 8 (cfg0.grid.coords t0_0) = false by decide]
    exact BI.Entails.refl _
  · rw [once_later t h, show cfg0.idle 8 (cfg0.grid.coords t) = true from idle_later t h]
    have hb := before0_8 (U := U) V c d (t.val - 1) t (by omega)
    cases hf : (cfg0.win 8).flush t with
    | false =>
      show owns _ _ _ ((dat0 (U := U) V c).before 8 t d) ⊢ iprop(∃ d, owns (c : Thread nD τ) (mem0 t .bias) fullShare ((dat0 (U := U) V c).before 8 t d))
      iintro H
      iexists d
      iexact H
    | true =>
      show owns _ _ _ ((dat0 (U := U) V c).before 8 t d) ⊢ _
      rw [hb]
      exact BI.Entails.refl _

/-- The body's obligation. -/
theorem body_obligation0 (c : Dev nD) : BodyObligation (dat0 (U := U) V c) (defs₀ (F := F)) Variants.none () Set.univ := fun t => by
  rw [bigSep_W0, bigSep_W0, body0]
  rw [show (dat0 (U := U) V c).owesAt () t.succ = (dat0 (U := U) V c).owesAt () t.castSucc from rfl]
  rw [show (dat0 (U := U) V c).Φ t.succ = (dat0 (U := U) V c).Φ t.castSucc from rfl]
  dsimp only
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0, before0_1, before0_2, before0_3]
  let σ : PSt F := fun
    | .main => (dat0 (U := U) V c).before 4 t d4
    | .qvt => (dat0 (U := U) V c).before 5 t d5
    | .out => (dat0 (U := U) V c).before 6 t d6
    | .pool => (dat0 (U := U) V c).before 7 t d7
    | .bias => (dat0 (U := U) V c).before 8 t d8
    | b => in0 V c t b
  have hin : ∀ b, b.isIn = true → σ b = in0 V c t b := fun b hb => by cases b <;> first | rfl | exact absurd hb (by decide)
  have hrun := prep_run consts (once t) (in0 V c t) σ hin
  iapply (Cmd.wp_denote (σ := σ))
  isplitl [H0 H1 H2 H3 H4 H5 H6 H7 H8]
  · rw [owned0]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  rw [owned0, hrun, hrun, hrun, hrun, hrun, hrun, hrun, hrun, hrun]
  iintro ⟨H0, H1, H2, H3, H4, H5, H6, H7, H8⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leave0_7 (U := U) V c t d7)
    iexact H7
  · iapply (leave0_8 (U := U) V c t d8)
    iexact H8

end Cert.KernelIdeal

end
-- ==== Proof.BlockIdeal.lean ====
/-
  The block call of the idealized program over its grid: the operands' blocks, the halos that pass from a tile to
  the next, and the body's obligation.
-/
module

public import proofs.«01_k».proof.Proof.MirrorIdeal
public import proofs.«01_k».proof.Proof.Halo
public import proofs.«01_k».proof.Proof.Gen.KernelIdeal.Launch
public import proofs.«01_k».proof.Proof.Gen.KernelIdeal.Points
public import Idealize.ShloMosaic.Lib.Pipeline.FrameBody

@[expose] public section

noncomputable section

namespace Cert.KernelIdeal

open Idealize.ShloMosaic Idealize.ShloMosaic.TcCoe Cert.Hybrid Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]
variable {U : Type} [URA U]

local notation "𝕄" => MT nD τ sig Unit (Elt F) ℕ U ℕ

/-! ## The buffers -/

/-- The buffers in use at a point. -/
noncomputable def mem1 (t : Fin cfg1.N) : (b : Slot) → Memref sig .tc .vmem b.sh b.el
  | .x => win1_0.stage (cfg1.slots t 0)
  | .gIn => win1_1.stage (cfg1.slots t 1)
  | .wMain => win1_2.stage (cfg1.slots t 2)
  | .wQvt => win1_3.stage (cfg1.slots t 3)
  | .poolW => win1_4.stage (cfg1.slots t 4)
  | .poolScale => win1_5.stage (cfg1.slots t 5)
  | .bias => win1_6.stage (cfg1.slots t 6)
  | .wOut => win1_7.stage (cfg1.slots t 7)
  | .gOut => win1_8.stage (cfg1.slots t 8)
  | .out => win1_9.stage (cfg1.slots t 9)
  | .h => Memref.whole cc1_scratch0
  | .k => Memref.whole cc1_scratch1
  | .ind => Memref.whole cc1_scratch2
  | .vt => Memref.whole cc1_scratch3
  | .qt => Memref.whole cc1_scratch4
  | .gate => Memref.whole cc1_scratch5
  | .pgate => Memref.whole cc1_scratch6
  | .y => Memref.whole cc1_scratch7
  | .pv => Memref.whole cc1_scratch8
  | .s => Memref.whole cc1_scratch9
  | .m => Memref.whole cc1_scratch10

theorem mem1_whole (t : Fin cfg1.N) (b : Slot) : (mem1 t b).IsWhole := by
  cases b with
  | x => exact hstage1_0 ((cfg1.slots t 0).cast nbuf1_0)
  | gIn => exact hstage1_1 ((cfg1.slots t 1).cast nbuf1_1)
  | wMain => exact hstage1_2 ((cfg1.slots t 2).cast nbuf1_2)
  | wQvt => exact hstage1_3 ((cfg1.slots t 3).cast nbuf1_3)
  | poolW => exact hstage1_4 ((cfg1.slots t 4).cast nbuf1_4)
  | poolScale => exact hstage1_5 ((cfg1.slots t 5).cast nbuf1_5)
  | bias => exact hstage1_6 ((cfg1.slots t 6).cast nbuf1_6)
  | wOut => exact hstage1_7 ((cfg1.slots t 7).cast nbuf1_7)
  | gOut => exact hstage1_8 ((cfg1.slots t 8).cast nbuf1_8)
  | out => exact hstage1_9 ((cfg1.slots t 9).cast nbuf1_9)
  | _ => exact Memref.isWhole_whole _

/-- Whether the point is a sequence's first. -/
abbrev starts (t : Fin cfg1.N) : Bool := decide (isFirst (grid1.coords t) = 1#1)

/-- The tile's number in its sequence. -/
abbrev tile (t : Fin cfg1.N) : BitVec 32 := BitVec.ofNat 32 (grid1.coords t 1).val

theorem body1 (t : Fin cfg1.N) : (defs₀ (F := F)) .tc cfg1.body (cfg1.bodyArgs t (cfg1.slots t))
    = (block consts (starts t) (tile t)).denote (mem1 t) (mem1_whole t) :=
  block_eq (F := F) (grid1.coords t) (mem1 t) (mem1_whole t)

/-- The kernel's own buffers owned, one by one. -/
def scratch (c : Dev nD) (σ : BSt F) : sProp 𝕄 :=
  iprop(owns (c : Thread nD τ) (Memref.whole cc1_scratch0) fullShare (σ .h) ∗ owns (c : Thread nD τ) (Memref.whole cc1_scratch1) fullShare (σ .k)
    ∗ owns (c : Thread nD τ) (Memref.whole cc1_scratch2) fullShare (σ .ind) ∗ owns (c : Thread nD τ) (Memref.whole cc1_scratch3) fullShare (σ .vt)
    ∗ owns (c : Thread nD τ) (Memref.whole cc1_scratch4) fullShare (σ .qt) ∗ owns (c : Thread nD τ) (Memref.whole cc1_scratch5) fullShare (σ .gate)
    ∗ owns (c : Thread nD τ) (Memref.whole cc1_scratch6) fullShare (σ .pgate) ∗ owns (c : Thread nD τ) (Memref.whole cc1_scratch7) fullShare (σ .y)
    ∗ owns (c : Thread nD τ) (Memref.whole cc1_scratch8) fullShare (σ .pv) ∗ owns (c : Thread nD τ) (Memref.whole cc1_scratch9) fullShare (σ .s)
    ∗ owns (c : Thread nD τ) (Memref.whole cc1_scratch10) fullShare (σ .m))

/-- All the buffers owned: the windows' one by one, and the kernel's own. -/
theorem owned1 (c : Dev nD) (t : Fin cfg1.N) (σ : BSt F) :
    (Cmd.owned c (mem1 t) σ : sProp 𝕄) = iprop(owns (c : Thread nD τ) (mem1 t .x) fullShare (σ .x) ∗ owns (c : Thread nD τ) (mem1 t .gIn) fullShare (σ .gIn)
      ∗ owns (c : Thread nD τ) (mem1 t .wMain) fullShare (σ .wMain) ∗ owns (c : Thread nD τ) (mem1 t .wQvt) fullShare (σ .wQvt)
      ∗ owns (c : Thread nD τ) (mem1 t .poolW) fullShare (σ .poolW) ∗ owns (c : Thread nD τ) (mem1 t .poolScale) fullShare (σ .poolScale)
      ∗ owns (c : Thread nD τ) (mem1 t .bias) fullShare (σ .bias) ∗ owns (c : Thread nD τ) (mem1 t .wOut) fullShare (σ .wOut)
      ∗ owns (c : Thread nD τ) (mem1 t .gOut) fullShare (σ .gOut) ∗ owns (c : Thread nD τ) (mem1 t .out) fullShare (σ .out) ∗ scratch c σ) :=
  bigSep_univ_eq_bigSepL [Slot.x, .gIn, .wMain, .wQvt, .poolW, .poolScale, .bias, .wOut, .gOut, .out, .h, .k, .ind, .vt, .qt, .gate, .pgate, .y, .pv, .s, .m]
    (by decide) (by decide) _

/-! ## The contents -/

variable (V : (c : Dev nD) → (b : Ref sig .tc) → Buf (Elt F) ((c : Thread nD τ).loc b))

/-- The operands' blocks at a point. -/
noncomputable def in1 (c : Dev nD) (t : Fin cfg1.N) : BSt F
  | .x => (win1_0.blk t).view.read (Elt F) (V c main_arg0)
  | .gIn => (win1_1.blk t).view.read (Elt F) (V c main_call0_v6)
  | .wMain => (win1_2.blk t).view.read (Elt F) (V c main_call0_v4_0)
  | .wQvt => (win1_3.blk t).view.read (Elt F) (V c main_call0_v4_1)
  | .poolW => (win1_4.blk t).view.read (Elt F) (V c main_call0_v4_3)
  | .poolScale => (win1_5.blk t).view.read (Elt F) (V c main_call0_v8)
  | .bias => (win1_6.blk t).view.read (Elt F) (V c main_call0_v4_4)
  | .wOut => (win1_7.blk t).view.read (Elt F) (V c main_call0_v4_2)
  | .gOut => (win1_8.blk t).view.read (Elt F) (V c main_call0_v9)
  | .vt => fun _ => (Scalar.ofBits .bf16 0x0000#16 : F .bf16)
  | _ => fun _ => Classical.arbitrary _

/-- Contents with the operands of one state and the rest of another. -/
def withIn (I H : BSt F) : BSt F := fun b => if b.isIn then I b else H b

/-- A point from its number. -/
def pt (n : ℕ) : Fin cfg1.N := ⟨n % 64, lt_of_lt_of_eq (Nat.mod_lt _ (by decide)) N_1.symm⟩

theorem pt_val (t : Fin cfg1.N) : pt t.val = t := Fin.ext (Nat.mod_eq_of_lt (lt_of_lt_of_eq t.isLt N_1))

/-- What a tile starts from: its operands, and the halos the tile before left, or those before a sequence. -/
noncomputable def start (c : Dev nD) : ℕ → BSt F
  | 0 => withIn (in1 V c (pt 0)) (halo0 (in1 V c (pt 0)))
  | n + 1 => withIn (in1 V c (pt (n + 1))) (if (n + 1) % 8 = 0 then halo0 (in1 V c (pt (n + 1)))
      else next (model consts (tile (pt n)) (start c n) (0, true)))

/-- What it leaves. -/
noncomputable def done1 (c : Dev nD) (n : ℕ) : BSt F := model consts (tile (pt n)) (start V c n) (0, true)

theorem start_in (c : Dev nD) (n : ℕ) (b : Slot) (hb : b.isIn = true) : start V c n b = in1 V c (pt n) b := by
  cases n <;> exact if_pos hb

theorem start_first (c : Dev nD) (n : ℕ) (hn : n % 8 = 0) (b : Slot) (i) (hb : haloEntries b i) : start V c n b i = halo0 (start V c n) b i := by
  have h : ∀ H : BSt F, withIn (in1 V c (pt n)) (halo0 H) b i = halo0 (start V c n) b i := fun H => by
    cases b <;> first | exact hb.elim | rfl
  cases n with
  | zero => exact h _
  | succ n =>
    show withIn _ (if (n + 1) % 8 = 0 then _ else _) b i = _
    rw [if_pos hn]; exact h _

theorem start_later (c : Dev nD) (n : ℕ) (hn : (n + 1) % 8 ≠ 0) (b : Slot) (i) (hb : haloEntries b i) :
    start V c (n + 1) b i = next (done1 V c n) b i := by
  show withIn _ (if (n + 1) % 8 = 0 then _ else _) b i = _
  rw [if_neg hn]
  cases b <;> first | exact hb.elim | rfl

/-- The call's invariant after `n` points. -/
def inv1 (c : Dev nD) (n : ℕ) : sProp 𝕄 :=
  iprop((∃ σ : BSt F, ⌜n % 8 = 0 ∨ ∀ b i, haloEntries b i → σ b i = start V c n b i⌝ ∗ scratch c σ)
    ∗ Pipeline.scopedRestBut (Ix := Unit) (Name := ℕ) (U := U) (Lvl := ℕ) (Val := Elt F) spec1 c [cc1_scratch0, cc1_scratch1, cc1_scratch2, cc1_scratch3, cc1_scratch4, cc1_scratch5, cc1_scratch6, cc1_scratch7, cc1_scratch8, cc1_scratch9, cc1_scratch10])

/-- The call's proof data from the contents `V`. -/
noncomputable def dat1 (c : Dev nD) : Dat τ (Elt F) Unit ℕ U ℕ cfg1 c where
  A w := V c (Pipeline.arrRef spec1 w)
  after w t := match w with
    | ⟨0, _⟩ => in1 V c t .x
    | ⟨1, _⟩ => in1 V c t .gIn
    | ⟨2, _⟩ => in1 V c t .wMain
    | ⟨3, _⟩ => in1 V c t .wQvt
    | ⟨4, _⟩ => in1 V c t .poolW
    | ⟨5, _⟩ => in1 V c t .poolScale
    | ⟨6, _⟩ => in1 V c t .bias
    | ⟨7, _⟩ => in1 V c t .wOut
    | ⟨8, _⟩ => in1 V c t .gOut
    | ⟨9, _⟩ => done1 V c t.val .out
  Φ t := inv1 V c t.val
  q _ := fullShare
  owed _ := 0

/-- An operand's buffer holds the operand's block. -/
theorem before1_0 (c : Dev nD) (t : Fin cfg1.N) (d) : (dat1 (U := U) V c).before 0 t d = in1 V c t .x :=
  (Dat.before_in_eq_fetched _ 0 rfl (fun _ => rfl) (fun _ _ _ => rfl) (fun _ => rfl) t d).trans rfl
theorem before1_1 (c : Dev nD) (t : Fin cfg1.N) (d) : (dat1 (U := U) V c).before 1 t d = in1 V c t .gIn :=
  (Dat.before_in_eq_fetched _ 1 rfl (fun _ => rfl) (fun _ _ _ => rfl) (fun _ => rfl) t d).trans rfl
theorem before1_2 (c : Dev nD) (t : Fin cfg1.N) (d) : (dat1 (U := U) V c).before 2 t d = in1 V c t .wMain :=
  (Dat.before_in_eq_fetched _ 2 rfl (fun _ => rfl) (fun _ _ _ => rfl) (fun _ => rfl) t d).trans rfl
theorem before1_3 (c : Dev nD) (t : Fin cfg1.N) (d) : (dat1 (U := U) V c).before 3 t d = in1 V c t .wQvt :=
  (Dat.before_in_eq_fetched _ 3 rfl (fun _ => rfl) (fun _ _ _ => rfl) (fun _ => rfl) t d).trans rfl
theorem before1_4 (c : Dev nD) (t : Fin cfg1.N) (d) : (dat1 (U := U) V c).before 4 t d = in1 V c t .poolW :=
  (Dat.before_in_eq_fetched _ 4 rfl (fun _ => rfl) (fun _ _ _ => rfl) (fun _ => rfl) t d).trans rfl
theorem before1_5 (c : Dev nD) (t : Fin cfg1.N) (d) : (dat1 (U := U) V c).before 5 t d = in1 V c t .poolScale :=
  (Dat.before_in_eq_fetched _ 5 rfl (fun _ => rfl) (fun _ _ _ => rfl) (fun _ => rfl) t d).trans rfl
theorem before1_6 (c : Dev nD) (t : Fin cfg1.N) (d) : (dat1 (U := U) V c).before 6 t d = in1 V c t .bias :=
  (Dat.before_in_eq_fetched _ 6 rfl (fun _ => rfl) (fun _ _ _ => rfl) (fun _ => rfl) t d).trans rfl
theorem before1_7 (c : Dev nD) (t : Fin cfg1.N) (d) : (dat1 (U := U) V c).before 7 t d = in1 V c t .wOut :=
  (Dat.before_in_eq_fetched _ 7 rfl (fun _ => rfl) (fun _ _ _ => rfl) (fun _ => rfl) t d).trans rfl
theorem before1_8 (c : Dev nD) (t : Fin cfg1.N) (d) : (dat1 (U := U) V c).before 8 t d = in1 V c t .gOut :=
  (Dat.before_in_eq_fetched _ 8 rfl (fun _ => rfl) (fun _ _ _ => rfl) (fun _ => rfl) t d).trans rfl

theorem starts_iff (t : Fin cfg1.N) : starts t = true ↔ t.val % 8 = 0 := by
  have h : ∀ t : Fin grid1.N, decide (isFirst (grid1.coords t) = 1#1) = decide (t.val % 8 = 0) := by decide +kernel
  show decide (isFirst (grid1.coords t) = 1#1) = true ↔ _
  rw [h t, decide_eq_true_iff]

/-- The body's obligation. -/
theorem body_obligation1 (c : Dev nD) : BodyObligation (dat1 (U := U) V c) (defs₀ (F := F)) Variants.none () Set.univ := fun t => by
  rw [bigSep_W1, bigSep_W1, body1]
  rw [show (dat1 (U := U) V c).owesAt () t.succ = (dat1 (U := U) V c).owesAt () t.castSucc from rfl]
  rw [show (dat1 (U := U) V c).Φ t.castSucc = inv1 V c t.val from rfl, show (dat1 (U := U) V c).Φ t.succ = inv1 V c (t.val + 1) from rfl]
  dsimp only
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before1_0, before1_1, before1_2, before1_3, before1_4, before1_5, before1_6, before1_7, before1_8]
  unfold inv1
  icases HΦ with ⟨⟨%ρ, %hρ, Hs⟩, Hrest⟩
  let σ : BSt F := fun b => if b.isIn then in1 V c t b else Function.update ρ .out ((dat1 (U := U) V c).before 9 t d9) b
  have hI : ∀ b, b.isIn = true → start V c t.val b = in1 V c t b := fun b hb => by rw [start_in V c _ b hb, pt_val]
  have hin : ∀ b, b.isIn = true → σ b = start V c t.val b := fun b hb => by rw [hI b hb]; exact if_pos hb
  have hρσ : ∀ b, b.isIn = false → b ≠ .out → σ b = ρ b := fun b hb h => by
    show (if b.isIn then _ else _) = _
    rw [hb, if_neg (by decide), Function.update_of_ne h]
  have hrun := block_run consts (starts t) (tile t) (start V c t.val) σ hin
    (fun h b i hb => start_first V c _ ((starts_iff t).1 h) b i hb)
    (fun h b i hb => by
      have h' : ¬ t.val % 8 = 0 := fun h'' => by rw [(starts_iff t).2 h''] at h; cases h
      rw [← hρ.resolve_left h' b i hb]
      refine congrFun (hρσ b ?_ ?_) i
      · cases b <;> first | exact hb.elim | rfl
      · rintro rfl; exact hb.elim)
  obtain ⟨r₁, r₂, r₃⟩ := hrun
  iapply (Cmd.wp_denote (σ := σ))
  isplitl [H0 H1 H2 H3 H4 H5 H6 H7 H8 H9 Hs]
  · rw [owned1]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hs
  rw [owned1, r₁ .x rfl, r₁ .gIn rfl, r₁ .wMain rfl, r₁ .wQvt rfl, r₁ .poolW rfl, r₁ .poolScale rfl, r₁ .bias rfl, r₁ .wOut rfl, r₁ .gOut rfl, r₂,
    hI .x rfl, hI .gIn rfl, hI .wMain rfl, hI .wQvt rfl, hI .poolW rfl, hI .poolScale rfl, hI .bias rfl, hI .wOut rfl, hI .gOut rfl]
  iintro ⟨H0, H1, H2, H3, H4, H5, H6, H7, H8, H9, Hs⟩
  isplitl [Hs Hrest]
  · isplitl [Hs]
    · iexists _
      isplitr; swap; · iexact Hs
      ipureintro
      by_cases h : (t.val + 1) % 8 = 0
      · exact .inl h
      · refine .inr fun b i hb => ?_
        rw [r₃ b i hb, start_later V c _ h b i hb]
        unfold done1
        rw [pt_val]
    · iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [show (dat1 (U := U) V c).after 9 t = model consts (tile t) (start V c t.val) (0, true) .out from by
    show done1 V c t.val .out = _; unfold done1; rw [pt_val]]
  iexact H9

end Cert.KernelIdeal

end
-- ==== Proof.RunIdeal.lean ====
/-
  The idealized program run: the two calls and the host operations between them, from any memory; every argument ends as it
  began and the result holds what the block call wrote back.
-/
module

public import proofs.«01_k».proof.Proof.PrepIdeal
public import proofs.«01_k».proof.Proof.BlockIdeal
public import proofs.«01_k».proof.Proof.Gen.KernelIdeal.Regions
public import Idealize.ShloMosaic.Lib.Pipeline.RegionArraysS

@[expose] public section

noncomputable section

namespace Cert.KernelIdeal

open Idealize.ShloMosaic Idealize.ShloMosaic.TcCoe Cert.Hybrid Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg RegionSeg ucRefs afterRegion)

variable {F : FTy → Type} [FloatOps F] [Named F]

abbrev UU : Type := UR sig nD τ × Counters

local notation "𝕄" => MT nD τ sig Unit (Elt F) ℕ UU ℕ

abbrev EP : Emb (UR sig nD τ) (MT nD τ sig Unit (Elt F) ℕ UU ℕ) := embL

variable (m : (ℓ : Loc nD τ sig) → Buf (Elt F) ℓ)

/-! ## The buffers' contents between the calls -/

/-- Buffer contents as a call's proof data take them. -/
abbrev at_ (W : Dev nD → Valuation τ sig (Elt F)) : (c : Dev nD) → (b : Ref sig .tc) → Buf (Elt F) ((c : Thread nD τ).loc b) := fun c b => W c b

/-- The preparing call's proof data. -/
abbrev D0 (c : Dev nD) : Dat τ (Elt F) Unit ℕ UU ℕ cfg0 c := dat0 (at_ (V1 m)) c

/-- What the preparing call leaves. -/
def outs0 : Outs (F := F) := fun _ r c => afterRegion (D0 m c) (V1 m c) r

/-- The block call's proof data. -/
abbrev D1 (c : Dev nD) : Dat τ (Elt F) Unit ℕ UU ℕ cfg1 c := dat1 (at_ (V3 m (outs0 m))) c

/-- What the calls leave. -/
def outs : Outs (F := F) := fun J r c => if J = 2 then outs0 m J r c else afterRegion (D1 m c) (V3 m (outs0 m) c) r

theorem V3_outs (c : Dev nD) : V3 m (outs m) c = V3 m (outs0 m) c := rfl

/-- The result. -/
abbrev result (c : Dev nD) : Buf (Elt F) ((c : Thread nD τ).loc main_v0) := (D1 m c).arrAt 9 cfg1.N

theorem outs_result (c : Dev nD) : outs m 4 main_v0 c = result m c :=
  Pipeline.afterRegion_arr (D1 m c) (V3 m (outs0 m) c) launch1.win.arr_inj 9

/-- After the preparing call the buffers hold what the segments' contents say. -/
theorem after0 (c : Dev nD) : ∀ b ∈ ucRefs τ sig, afterRegion (D0 m c) (V1 m c) b = V2 m (outs m) c b := fun b hb => by
  obtain ⟨r, rfl⟩ : ∃ r : Ref sig .tc, b = Proc.devRef .tc r := by
    have := (Finset.mem_filter.1 hb).1
    unfold StableHlo.tcRefs at this
    obtain ⟨r, -, e⟩ := Finset.mem_map.1 this
    exact ⟨r, e.symm⟩
  by_cases hr : r ∈ ([main_call0_v4_0, main_call0_v4_1, main_call0_v4_2, main_call0_v4_3, main_call0_v4_4] : List (Ref sig .tc))
  · simp only [List.mem_cons, List.not_mem_nil, or_false] at hr
    rcases hr with rfl | rfl | rfl | rfl | rfl <;>
      (symm; unfold V2; repeat rw [Function.update_of_ne (by decide)]) <;> exact Function.update_self _ _ _
  · rw [V2_of m (outs m) c r hr]
    refine Pipeline.afterRegion_keeps (D0 m c) (V1 m c) launch0.win.arr_inj (fun _ => rfl) r fun w hw => ?_
    subst hw
    revert hr
    revert w
    decide

theorem after1 (c : Dev nD) : ∀ b ∈ ucRefs τ sig, afterRegion (D1 m c) (V3 m (outs0 m) c) b = V4 m (outs m) c b := fun b hb => by
  obtain ⟨r, rfl⟩ : ∃ r : Ref sig .tc, b = Proc.devRef .tc r := by
    have := (Finset.mem_filter.1 hb).1
    unfold StableHlo.tcRefs at this
    obtain ⟨r, -, e⟩ := Finset.mem_map.1 this
    exact ⟨r, e.symm⟩
  by_cases hr : r ∈ ([main_v0] : List (Ref sig .tc))
  · simp only [List.mem_cons, List.not_mem_nil, or_false] at hr
    subst hr
    symm; unfold V4; exact Function.update_self _ _ _
  · rw [V4_of m (outs m) c r hr]
    refine Pipeline.afterRegion_keeps (D1 m c) (V3 m (outs0 m) c) launch1.win.arr_inj (fun _ => rfl) r fun w hw => ?_
    subst hw
    revert hr
    revert w
    decide

/-! ## The calls as segments -/

/-- Both calls' proof data. -/
noncomputable def pdats : (p : Fin 2) → (c : Dev nD) → Dat τ (Elt F) Unit ℕ UU ℕ (cfgs p) c
  | ⟨0, _⟩ => fun c => D0 m c
  | ⟨1, _⟩ => fun c => D1 m c

abbrev L : GSem nD τ sig → Finset Unit := fun g => if g.1.2 = .tc then {()} else ∅
abbrev lv : GSem nD τ sig → Unit → ℕ := fun _ _ => 0

theorem cut (p : Fin 2) : Pipeline.LevelCut (pcfgs (F := F)) adm () L lv p (fun _ => (0 : CellTallies nD τ sig Unit)) fun _ => 0 where
  hι c w s := by unfold L; rw [if_pos rfl]; exact Finset.mem_singleton_self _
  hιb c w s := le_refl _
  hD c g i h := absurd h (by exact lt_irrefl 0)

theorem own_in (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  rw [owns_whole_eq]
  iintro H
  iexists f
  isplitr; · ipureintro; rfl
  iexact H

theorem own_out (c : Dev nD) (b : Ref sig .tc) (f : Buf (Elt F) ((c : Thread nD τ).loc b)) :
    (owns (c : Thread nD τ) (Memref.whole b) fullShare f : sProp 𝕄) ⊢ iprop(∃ f : Buf (Elt F) ((c : Thread nD τ).loc b), ((c : Thread nD τ).loc b) ↦{fullShare} f) := by
  rw [owns_whole_eq]
  iintro ⟨%g, -, H⟩
  iexists g
  iexact H

/-- The block call's own buffers, at whatever they hold, make its invariant before its first point. -/
theorem inv_in (c : Dev nD) : (Pipeline.scopedRest spec1 c : sProp 𝕄) ⊢ inv1 (at_ (V3 m (outs0 m))) c 0 := by
  rw [scopedRest1_split]
  unfold inv1
  refine sep_mono ?_ .rfl
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩
  iexists (fun | .h => f0 | .k => f1 | .ind => f2 | .vt => f3 | .qt => f4 | .gate => f5 | .pgate => f6 | .y => f7 | .pv => f8 | .s => f9 | .m => f10 | b => in1 (at_ (V3 m (outs0 m))) c (pt 0) b : BSt F)
  isplitr; · ipureintro; exact .inl rfl
  unfold scratch
  isplitl [H0]; · iapply (own_in c cc1_scratch0 f0) $$ H0
  isplitl [H1]; · iapply (own_in c cc1_scratch1 f1) $$ H1
  isplitl [H2]; · iapply (own_in c cc1_scratch2 f2) $$ H2
  isplitl [H3]; · iapply (own_in c cc1_scratch3 f3) $$ H3
  isplitl [H4]; · iapply (own_in c cc1_scratch4 f4) $$ H4
  isplitl [H5]; · iapply (own_in c cc1_scratch5 f5) $$ H5
  isplitl [H6]; · iapply (own_in c cc1_scratch6 f6) $$ H6
  isplitl [H7]; · iapply (own_in c cc1_scratch7 f7) $$ H7
  isplitl [H8]; · iapply (own_in c cc1_scratch8 f8) $$ H8
  isplitl [H9]; · iapply (own_in c cc1_scratch9 f9) $$ H9
  iapply (own_in c cc1_scratch10 f10) $$ H10

theorem scratch_out (c : Dev nD) (σ : BSt F) : (scratch c σ : sProp 𝕄) ⊢ iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f) ∗ (∃ f : Buf (Elt F) ((c : Thread nD τ).loc cc1_scratch6), ((c : Thread nD τ).loc cc1_scratch6) ↦{fullShare} f) ∗ (∃ f : Buf (Elt F) ((c : Thread nD τ).loc cc1_scratch7), ((c : Thread nD τ).loc cc1_scratch7) ↦{fullShare} f) ∗ (∃ f : Buf (Elt F) ((c : Thread nD τ).loc cc1_scratch8), ((c : Thread nD τ).loc cc1_scratch8) ↦{fullShare} f) ∗ (∃ f : Buf (Elt F) ((c : Thread nD τ).loc cc1_scratch9), ((c : Thread nD τ).loc cc1_scratch9) ↦{fullShare} f) ∗ (∃ f : Buf (Elt F) ((c : Thread nD τ).loc cc1_scratch10), ((c : Thread nD τ).loc cc1_scratch10) ↦{fullShare} f)) := by
  unfold scratch
  iintro ⟨H0, H1, H2, H3, H4, H5, H6, H7, H8, H9, H10⟩
  isplitl [H0]; · iapply (own_out c cc1_scratch0 _) $$ H0
  isplitl [H1]; · iapply (own_out c cc1_scratch1 _) $$ H1
  isplitl [H2]; · iapply (own_out c cc1_scratch2 _) $$ H2
  isplitl [H3]; · iapply (own_out c cc1_scratch3 _) $$ H3
  isplitl [H4]; · iapply (own_out c cc1_scratch4 _) $$ H4
  isplitl [H5]; · iapply (own_out c cc1_scratch5 _) $$ H5
  isplitl [H6]; · iapply (own_out c cc1_scratch6 _) $$ H6
  isplitl [H7]; · iapply (own_out c cc1_scratch7 _) $$ H7
  isplitl [H8]; · iapply (own_out c cc1_scratch8 _) $$ H8
  isplitl [H9]; · iapply (own_out c cc1_scratch9 _) $$ H9
  iapply (own_out c cc1_scratch10 _) $$ H10

/-- And they come back from it. -/
theorem inv_out (c : Dev nD) (n : ℕ) : inv1 (at_ (V3 m (outs0 m))) c n ⊢ (Pipeline.scopedRest spec1 c : sProp 𝕄) := by
  rw [scopedRest1_split]
  unfold inv1
  refine sep_mono ?_ .rfl
  iintro ⟨%σ, -, H⟩
  iapply (scratch_out c σ) $$ H

theorem rest_in {A B : sProp 𝕄} (h : A ⊢ B) : iprop(A ∗ emp) ⊢ B := by
  iintro ⟨H, -⟩
  iapply h $$ H

theorem rest_out {A B : sProp 𝕄} (h : A ⊢ B) : A ⊢ iprop(B ∗ emp) := by
  iintro H
  isplitl [H]; · iapply h $$ H
  iempintro

set_option backward.isDefEq.respectTransparency.types false in
/-- The preparing call. -/
noncomputable def R0 : RegionSeg (pcfgs (F := F)) adm (pdats m) () defs₀ Variants.none L lv 0 :=
  RegionSeg.ofHeldIn (pcfgs (F := F)) adm (pdats m) () defs₀ Variants.none L lv 0 (fun _ => 0) (ucRefs τ sig) (fun _ => iprop(emp)) (fun _ => iprop(emp))
    launch0.toP rfl (fun c => (body_obligation0 (at_ (V1 m)) c).loose) (fun _ _ => rfl) (fun _ => rfl)
    (fun c => (D0 m c).share_full fun _ => rfl)
    (fun c => rest_in (.rfl : (Pipeline.scopedRest spec0 c : sProp 𝕄) ⊢ _))
    (fun c => rest_out (.rfl : (Pipeline.scopedRest spec0 c : sProp 𝕄) ⊢ _))
    (fun _ => 0) (cut 0) (fun _ => iprop(emp)) (V1 m) (fun c w => rfl)

set_option backward.isDefEq.respectTransparency.types false in
/-- The block call. -/
noncomputable def R1 : RegionSeg (pcfgs (F := F)) adm (pdats m) () defs₀ Variants.none L lv 1 :=
  RegionSeg.ofHeldIn (pcfgs (F := F)) adm (pdats m) () defs₀ Variants.none L lv 1 (fun _ => 0) (ucRefs τ sig) (fun _ => iprop(emp)) (fun _ => iprop(emp))
    launch1.toP rfl (fun c => (body_obligation1 (at_ (V3 m (outs0 m))) c).loose) (fun _ _ => rfl) (fun _ => rfl)
    (fun c => (D1 m c).share_full fun _ => rfl)
    (fun c => rest_in (inv_in m c))
    (fun c => rest_out (inv_out m c _))
    (fun _ => 0) (cut 1) (fun _ => iprop(emp)) (V3 m (outs0 m)) (fun c w => rfl)

/-- What a core owes between the segments: nothing. -/
abbrev EE : Fin 3 → Dev nD → sProp 𝕄 := fun _ c => iprop(∃ W, owes (c : Thread nD τ) (0 : CellTallies nD τ sig Unit) W)

theorem link_in {A A1 A2 O : sProp 𝕄} (e : A = iprop(A1 ∗ A2)) : iprop(A ∗ O) ⊢ iprop(A1 ∗ emp ∗ (A2 ∗ emp) ∗ O) := by
  subst e
  iintro ⟨⟨H1, H2⟩, HO⟩
  isplitl [H1]; · iexact H1
  isplitr; · iempintro
  isplitl [H2]
  · isplitl [H2]; · iexact H2
    iempintro
  iexact HO

theorem link_out {A A' O B : sProp 𝕄} (h : B ⊢ iprop(A ∗ (O ∗ emp ∗ emp))) (e : A = A') : B ⊢ iprop(A' ∗ O) := by
  subst e
  iintro H
  ihave H' := h $$ H
  icases H' with ⟨HA, HO, -, -⟩
  isplitl [HA]; · iexact HA
  iexact HO

theorem refs0 : Pipeline.arrRefs (τ := τ) ((pcfgs (F := F)) 0).spec ⊆ ucRefs τ sig :=
  Pipeline.arrRefs_sub_ucRefs _ (show ∀ w : Fin 9, (Pipeline.arrRef spec0 w).isScoped = false from by decide)
theorem refs1 : Pipeline.arrRefs (τ := τ) ((pcfgs (F := F)) 1).spec ⊆ ucRefs τ sig :=
  Pipeline.arrRefs_sub_ucRefs _ (show ∀ w : Fin 10, (Pipeline.arrRef spec1 w).isScoped = false from by decide)

set_option backward.isDefEq.respectTransparency.types false in
theorem hpre0 (c : Dev nD) : iprop(StableHlo.held (c : Thread nD τ) (ucRefs τ sig) (V1 m c) ∗ EE 0 c) ⊢ (R0 m).pre c := by
  unfold R0
  exact link_in (StableHlo.held_sub_split (c.tc : Thread nD τ) (refs0 (F := F)) _)

set_option backward.isDefEq.respectTransparency.types false in
theorem hpost0 (c : Dev nD) : (R0 m).post c ⊢ iprop(StableHlo.held (c : Thread nD τ) (ucRefs τ sig) (V2 m (outs m) c) ∗ EE 1 c) := by
  unfold R0
  exact link_out (RegionSeg.ofHeldIn_post (pcs := pcfgs (F := F)) (a := adm) (pdats := pdats m) (ι := ()) (defs₀ := defs₀) (𝒱₀ := Variants.none) (L := L) (lv := lv) (p := 0) (S := ucRefs τ sig) (refs0 (F := F)) c) (StableHlo.held_congr _ (after0 m c))

set_option backward.isDefEq.respectTransparency.types false in
theorem hpre1 (c : Dev nD) : iprop(StableHlo.held (c : Thread nD τ) (ucRefs τ sig) (V3 m (outs m) c) ∗ EE 1 c) ⊢ (R1 m).pre c := by
  unfold R1
  exact link_in (StableHlo.held_sub_split (c.tc : Thread nD τ) (refs1 (F := F)) _)

set_option backward.isDefEq.respectTransparency.types false in
theorem hpost1 (c : Dev nD) : (R1 m).post c ⊢ iprop(StableHlo.held (c : Thread nD τ) (ucRefs τ sig) (V4 m (outs m) c) ∗ EE 2 c) := by
  unfold R1
  exact link_out (RegionSeg.ofHeldIn_post (pcs := pcfgs (F := F)) (a := adm) (pdats := pdats m) (ι := ()) (defs₀ := defs₀) (𝒱₀ := Variants.none) (L := L) (lv := lv) (p := 1) (S := ucRefs τ sig) (refs1 (F := F)) c) (StableHlo.held_congr _ (after1 m c))

/-! ## The run -/

/-- The launch's ghost state. -/
abbrev u₀ : UU := (initOf (Pipeline.cells cfgs cellOf_inj) (Pipeline.launchToks cfgs cellOf_inj), 1)

theorem launch_ghost : (ownU u₀ : sProp 𝕄) ⊢ |={Set.univ}=> iprop(BI.own (EP (initOf (Pipeline.cells cfgs cellOf_inj) (Pipeline.launchToks cfgs cellOf_inj)))
    ∗ bigSep Finset.univ fun _ : Dev nD => iprop(emp)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem launch_owes1 (ρ : Dev nD → PrngReg) (c : Dev nD) : (iprop(unscopedSems0 c ∗ owes (c : Thread nD τ) (0 : CellTallies nD τ sig Unit) ∅
      ∗ Pipeline.launchCred (0 : Dev nD → CellTallies nD τ sig Unit) c ∗ prngReg c (ρ c) ∗ emp) : sProp 𝕄) ⊢ EE (F := F) 0 c := by
  iintro ⟨-, HO, -⟩
  iexists ∅
  iexact HO

theorem launch_owes (ρ : Dev nD → PrngReg) : iprop((bigSep Finset.univ fun c : Dev nD => iprop(unscopedSems0 c ∗ owes (c : Thread nD τ) (0 : CellTallies nD τ sig Unit) ∅
      ∗ Pipeline.launchCred (0 : Dev nD → CellTallies nD τ sig Unit) c ∗ prngReg c (ρ c) ∗ emp)) ∗ levAts L lv)
    ⊢ (|={Set.univ}=> bigSep Finset.univ (EE (F := F) 0) : sProp 𝕄) := by
  iintro ⟨H, -⟩
  imodintro
  have h : (bigSep Finset.univ fun c : Dev nD => iprop(unscopedSems0 c ∗ owes (c : Thread nD τ) (0 : CellTallies nD τ sig Unit) ∅
      ∗ Pipeline.launchCred (0 : Dev nD → CellTallies nD τ sig Unit) c ∗ prngReg c (ρ c) ∗ emp) : sProp 𝕄) ⊢ bigSep Finset.univ (EE (F := F) 0) :=
    bigSep_mono fun c _ => launch_owes1 (F := F) ρ c
  iapply h $$ H

/-- The program's arguments. -/
abbrev args : List (Ref sig .tc) := [main_arg0, main_arg1, main_arg2, main_arg3, main_arg4, main_arg5, main_arg6, main_arg7]

theorem V4_arg (c : Dev nD) (b : Ref sig .tc) (hb : b ∈ args) : V4 m (outs m) c b = m ((c : Thread nD τ).loc b) := by
  simp only [args, List.mem_cons, List.not_mem_nil, or_false] at hb
  rcases hb with rfl | rfl | rfl | rfl | rfl | rfl | rfl | rfl
  exacts [V4_main_arg0 .., V4_main_arg1 .., V4_main_arg2 .., V4_main_arg3 .., V4_main_arg4 .., V4_main_arg5 .., V4_main_arg6 .., V4_main_arg7 ..]

theorem V4_result (c : Dev nD) : V4 m (outs m) c main_v0 = result m c := by
  unfold V4
  exact (Function.update_self _ _ _).trans (outs_result m c)

/-- From any memory the program ends with every argument as it was, its result what the block call wrote back, and every semaphore at zero. -/
theorem run_main (ρ : Dev nD → PrngReg) : θ_run defs (onTc (τ := τ) (main (F := F))) ⟨m, fun _ => 0, ρ⟩ (fun r => (∀ c : Dev nD,
      r.2.mem ((c : Thread nD τ).loc main_v0) = result m c ∧ ∀ b ∈ args, r.2.mem ((c : Thread nD τ).loc b) = m ((c : Thread nD τ).loc b))
      ∧ r.2.sem = fun _ => 0) := by
  refine Pipeline.θ_run_regions_kit_dev_sems (pcfgs (F := F)) adm (pdats m) () cellOf_inj EP defs₀ Variants.none L lv m ρ main
    (segs m (outs m) Variants.none L lv EE () (pdats m) (R0 m) (R1 m))
    (fun c Q => by
      rewrite [main_chain c, Seg.run_eq_chain,
        show (segs m (outs m) Variants.none L lv EE () (pdats m) (R0 m) (R1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) 0 (fun g h => if_neg h) (fun _ => iprop(emp)) u₀ launch_ghost
    (T₀ := fun c => iprop(StableHlo.held (c : Thread nD τ) (ucRefs τ sig) (V0 m c) ∗ EE 0 c))
    (Tₙ := fun c => StableHlo.held (c : Thread nD τ) (ucRefs τ sig) (V4 m (outs m) c))
    (hch := fun c => ⟨.rfl, hpre0 m c, hpost0 m c, hpre1 m c, hpost1 m c⟩)
    (hinit := ?_)
    (QY := fun c s => s.mem ((c : Thread nD τ).loc main_v0) = result m c ∧ ∀ b ∈ args, s.mem ((c : Thread nD τ).loc b) = m ((c : Thread nD τ).loc b))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ emp))
        ⊢ (iprop((bigSep Finset.univ fun c : Dev nD => StableHlo.held (c : Thread nD τ) (ucRefs τ sig) (V0 m c))
            ∗ bigSep Finset.univ fun c : Dev nD => iprop(unscopedSems0 c ∗ owes (c : Thread nD τ) (0 : CellTallies nD τ sig Unit) ∅
              ∗ Pipeline.launchCred (0 : Dev nD → CellTallies nD τ sig Unit) c ∗ prngReg c (ρ c) ∗ emp)) : sProp 𝕄) := by
      rw [← bigSep_sep']
      exact bigSep_mono fun c _ => by
        rw [← Pipeline.unscopedBufs_held (Ix := Unit) (Name := ℕ) (U := UU) (Lvl := ℕ) c (V0 m c)]
        exact BI.Entails.refl _
    iintro ⟨H, Hla⟩
    ihave H' := hsplit $$ H
    icases H' with ⟨Hh, Hr⟩
    imod (launch_owes ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_v0) (Finset.mem_filter.mpr ⟨StableHlo.devRef_mem_tcRefs main_v0, by decide⟩)).trans (V4_result m c),
        fun b hb => (h (Proc.devRef .tc b) (Finset.mem_filter.mpr ⟨StableHlo.devRef_mem_tcRefs b, by revert b; decide⟩)).trans (V4_arg m c b hb)⟩
    · iexact HSI

end Cert.KernelIdeal

end
-- ==== Proof.ValuePrep.lean ====
/-
  What the preparing call leaves over the extended reals: the weights in the block call's layout, and the biases.
-/
module

public import proofs.«01_k».proof.Proof.ValueArgs
public import proofs.«01_k».proof.Proof.RunIdeal
public import Idealize.ShloMosaic.Lib.Pipeline.ValueKit

@[expose] public section

set_option maxRecDepth 16384

noncomputable section

namespace Cert.KernelIdeal

open Idealize.ShloMosaic Idealize.ShloMosaic.TcCoe Cert.Hybrid Cert.Spec Gen
open Idealize.ShloMosaic.Pipeline (Dat Cfg Window)

variable (m : (ℓ : Loc nD τ sig) → Buf (Elt Ideal) ℓ) (c : Dev nD)

/-- A core's arguments. -/
def args_ : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7))

/-! ## The host's reshapes -/

theorem V1_v0 : At2 (A := 1024) (B := 3072) (V1 m c main_call0_v0) (args_ m c).w := by
  have e : V1 m c main_call0_v0 = shapeCast S1024x3072 (m ((c : Thread nD τ).loc main_arg2)) shapeCasts_S1x1024x3072_S1024x3072 := by
    unfold_abbrev_sides
    after_results
    rfl
  rw [e]
  exact At3.down (argsOf_w _ _ _ _ _ _ _ _) _

theorem V1_v1 : At2 (A := 1024) (B := 1024) (V1 m c main_call0_v1) (args_ m c).wo := by
  have e : V1 m c main_call0_v1 = shapeCast S1024x1024 (m ((c : Thread nD τ).loc main_arg6)) shapeCasts_S1x1024x1024_S1024x1024 := by
    unfold_abbrev_sides
    after_results
    rfl
  rw [e]
  exact At3.down (argsOf_wo _ _ _ _ _ _ _ _) _

theorem V1_v2 : At3 (A := 4) (B := 128) (C := 128) (V1 m c main_call0_v2) (args_ m c).pw := by
  have e : V1 m c main_call0_v2 = shapeCast S4x128x128 (m ((c : Thread nD τ).loc main_arg3)) shapeCasts_S1x4x128x128_S4x128x128 := by
    unfold_abbrev_sides
    after_results
    rfl
  rw [e]
  intro g d e
  rw [shapeCast_dropUnit_apply]
  exact (congrArg _ (by funext i; fin_cases i <;> rfl)).trans (argsOf_pw _ _ _ (m ((c : Thread nD τ).loc main_arg3)) _ _ _ _ 0 g d e)

theorem V1_v3 : At2 (A := 8) (B := 129) (V1 m c main_call0_v3) (args_ m c).rb := by
  have e : V1 m c main_call0_v3 = shapeCast S8x129 (m ((c : Thread nD τ).loc main_arg5)) shapeCasts_S1x8x129_S8x129 := by
    unfold_abbrev_sides
    after_results
    rfl
  rw [e]
  exact At3.down (argsOf_rb _ _ _ _ _ _ _ _) _

/-! ## The preparing call's operands at a point -/

theorem index0_0 : ∀ t : Fin grid0.N, (win0_0.index t 0, win0_0.index t 1) = (t.val, 0) := by decide +kernel
theorem index0_1 : ∀ t : Fin grid0.N, (win0_1.index t 0, win0_1.index t 1) = (t.val, 0) := by decide +kernel
theorem index0_2 : ∀ t : Fin grid0.N, (win0_2.index t 0, win0_2.index t 1, win0_2.index t 2) = (0, 0, 0) := by decide +kernel
theorem index0_3 : ∀ t : Fin grid0.N, (win0_3.index t 0, win0_3.index t 1) = (0, 0) := by decide +kernel
theorem index0_4 : ∀ t : Fin grid0.N, (win0_4.index t 0, win0_4.index t 1) = (t.val, 0) := by decide +kernel
theorem index0_5 : ∀ t : Fin grid0.N, (win0_5.index t 0, win0_5.index t 1) = (0, t.val) := by decide +kernel
theorem index0_6 : ∀ t : Fin grid0.N, (win0_6.index t 0, win0_6.index t 1) = (t.val, 0) := by decide +kernel
theorem index0_7 : ∀ t : Fin grid0.N, (win0_7.index t 0, win0_7.index t 1, win0_7.index t 2) = (0, 0, 0) := by decide +kernel
theorem index0_8 : ∀ t : Fin grid0.N, (win0_8.index t 0, win0_8.index t 1, win0_8.index t 2) = (0, 0, 0) := by decide +kernel

theorem in0_wIn (t : Fin cfg0.N) : At2 (A := 128) (B := 3072) (in0 (at_ (V1 m)) c t .wIn) fun r e => (args_ m c).w (t.val * 128 + r) e := by
  intro r e
  refine (At2.at_ (V1_v0 m c) ((win0_0.blk t).view.emb (ix2 r e))).trans ?_
  have h0 : win0_0.index t 0 = t.val := congrArg Prod.fst (index0_0 t)
  have h1 : win0_0.index t 1 = 0 := congrArg Prod.snd (index0_0 t)
  blk_simp [h0, h1]

theorem in0_wOut (t : Fin cfg0.N) : At2 (A := 128) (B := 1024) (in0 (at_ (V1 m)) c t .wOut) fun r e => (args_ m c).wo (t.val * 128 + r) e := by
  intro r e
  refine (At2.at_ (V1_v1 m c) ((win0_1.blk t).view.emb (ix2 r e))).trans ?_
  have h0 : win0_1.index t 0 = t.val := congrArg Prod.fst (index0_1 t)
  have h1 : win0_1.index t 1 = 0 := congrArg Prod.snd (index0_1 t)
  blk_simp [h0, h1]

theorem in0_poolW (t : Fin cfg0.N) : At3 (A := 4) (B := 128) (C := 128) (in0 (at_ (V1 m)) c t .poolW) (args_ m c).pw := by
  intro g r e
  refine (At3.at_ (V1_v2 m c) ((win0_2.blk t).view.emb (ix3 g r e))).trans ?_
  have h0 : win0_2.index t 0 = 0 := congrArg Prod.fst (index0_2 t)
  have h1 : win0_2.index t 1 = 0 := congrArg (fun x => x.2.1) (index0_2 t)
  have h2 : win0_2.index t 2 = 0 := congrArg (fun x => x.2.2) (index0_2 t)
  blk_simp [h0, h1, h2]

theorem in0_rel (t : Fin cfg0.N) : At2 (A := 8) (B := 129) (in0 (at_ (V1 m)) c t .rel) (args_ m c).rb := by
  intro r e
  refine (At2.at_ (V1_v3 m c) ((win0_3.blk t).view.emb (ix2 r e))).trans ?_
  have h0 : win0_3.index t 0 = 0 := congrArg Prod.fst (index0_3 t)
  have h1 : win0_3.index t 1 = 0 := congrArg Prod.snd (index0_3 t)
  blk_simp [h0, h1]

/-! ## Its results at a point -/

theorem wInVal_at (t : Fin cfg0.N) (k : Fin 6) : At2 (wInVal (in0 (at_ (V1 m)) c t) k) fun r e => (args_ m c).w (t.val * 128 + r) (k.val * 512 + e) :=
  At2.cast (At2.to ((in0_wIn m c t).read (s₀ := 128) (s₁ := 512) (o₀ := 0) (o₁ := k.val * 512) (in2 (by decide) (by omega))) fun r e => by simp only [Nat.zero_add]) _

theorem mainVal_at (t : Fin cfg0.N) : At2 (mainVal (in0 (at_ (V1 m)) c t)) fun r e => (args_ m c).w (t.val * 128 + r) (mainCol e) := by
  intro r e
  have h0 := wInVal_at m c t 0
  have h1 := wInVal_at m c t 1
  have h3 := wInVal_at m c t 3
  have h5 := wInVal_at m c t 5
  unfold mainVal
  generalize wInVal (in0 (at_ (V1 m)) c t) 0 = v0 at h0 ⊢
  generalize wInVal (in0 (at_ (V1 m)) c t) 1 = v1 at h1 ⊢
  generalize wInVal (in0 (at_ (V1 m)) c t) 3 = v3 at h3 ⊢
  generalize wInVal (in0 (at_ (V1 m)) c t) 5 = v5 at h5 ⊢
  pointwise [S2]
  unfold mainCol
  have he := e.isLt
  split
  · rw [h0]
    simp only [if_pos (show e.val < 1024 by omega)]
    congr 1
    simp
  split
  · rw [h1]
    simp only [if_pos (show e.val < 1024 by omega)]
    congr 1
    simp only [Fin.val_one]
    omega
  split
  · rw [h3]
    simp only [if_neg (show ¬ e.val < 1024 by omega), if_pos (show e.val < 1536 by omega)]
    congr 1
    show 3 * 512 + _ = _
    omega
  · rw [h5]
    simp only [if_neg (show ¬ e.val < 1024 by omega), if_neg (show ¬ e.val < 1536 by omega)]
    congr 1
    show 5 * 512 + _ = _
    omega

theorem qvtVal_at (t : Fin cfg0.N) : At2 (qvtVal (in0 (at_ (V1 m)) c t)) fun r e => (args_ m c).w (t.val * 128 + e) (qvtCol r) := by
  intro r e
  have h2 := wInVal_at m c t 2
  have h4 := wInVal_at m c t 4
  unfold qvtVal
  generalize wInVal (in0 (at_ (V1 m)) c t) 2 = v2 at h2 ⊢
  generalize wInVal (in0 (at_ (V1 m)) c t) 4 = v4 at h4 ⊢
  pointwise [S2]
  unfold qvtCol
  have he := r.isLt
  by_cases h : r.val < 512
  · rw [dif_pos h, h2]
    simp only [if_pos h]
    congr 1
  · rw [dif_neg h, h4]
    simp only [if_neg h]
    congr 1

theorem outVal_at (t : Fin cfg0.N) : At2 (outVal (in0 (at_ (V1 m)) c t)) fun r e => (args_ m c).wo (t.val * 128 + r) e :=
  At2.cast (At2.to ((in0_wOut m c t).read (s₀ := 128) (s₁ := 1024) (o₀ := 0) (o₁ := 0) (in2 (by decide) (by decide))) fun r e => by simp only [Nat.zero_add]) _

theorem poolVal'_at (t : Fin cfg0.N) : At3 (poolVal' (in0 (at_ (V1 m)) c t)) (args_ m c).pw := by
  have h := At3.to (g := (args_ m c).pw) ((in0_poolW m c t).read (s₀ := 4) (s₁ := 128) (s₂ := 128) (o₀ := 0) (o₁ := 0) (o₂ := 0) (in3 (by decide) (by decide) (by decide)))
    fun g r e => by simp only [Nat.zero_add]
  unfold poolVal'
  rw [shapeCast_self]
  exact h

theorem biasVal_at (t : Fin cfg0.N) : At3 (A := 4) (B := 192) (C := 256) (biasVal consts (in0 (at_ (V1 m)) c t)) fun p r e =>
    ((args_ m c).rb (p * 2 + e / 128) (min 128 (r - e % 128)) - (args_ m c).rb (p * 2 + e / 128) 0) * (((Real.log 2)⁻¹ : ℝ) : EReal) := by
  intro p r e
  have hr := in0_rel m c t
  have hl : (consts (F := Ideal)).log2e = (((Real.log 2)⁻¹ : ℝ) : EReal) := IdealRules.named_const.ideal_named_scalar _ _ _ _ rfl
  have h := biasTile_at consts (prd (in0 (at_ (V1 m)) c t) .rel ![p.val * 2 + e.val / 128, 0] (S2 1 128).size (in2 (by omega) (by decide)))
    (prd (in0 (at_ (V1 m)) c t) .rel ![p.val * 2 + e.val / 128, 128] (S2 1 1).size (in2 (by omega) (by decide)))
    (prd (in0 (at_ (V1 m)) c t) .rel ![p.val * 2 + e.val / 128, 0] (S2 1 1).size (in2 (by omega) (by decide)))
    ((args_ m c).rb (p.val * 2 + e.val / 128))
    (At2.to (hr.read (s₀ := 1) (s₁ := 128) (o₀ := p.val * 2 + e.val / 128) (o₁ := 0) (in2 (by omega) (by decide))) fun a d => by
      have : a.val = 0 := by omega
      simp only [this, Nat.zero_add, Nat.add_zero])
    (hr.read (s₀ := 1) (s₁ := 1) (o₀ := p.val * 2 + e.val / 128) (o₁ := 128) (in2 (by omega) (by decide)) 0 0)
    (hr.read (s₀ := 1) (s₁ := 1) (o₀ := p.val * 2 + e.val / 128) (o₁ := 0) (in2 (by omega) (by decide)) 0 0)
    r ⟨e.val % 128, by omega⟩
  rw [hl] at h
  exact h

/-! ## What it leaves in the arrays -/

theorem main_arr : At2 (A := 1024) (B := 2048) ((D0 m c).arrAt 4 cfg0.N) fun r e => (args_ m c).w r (mainCol e) := by
  intro r e
  refine congrFun ((D0 m c).arrAt_eq_of_covers 4 (fun i : (S2 1024 2048).Idx => (args_ m c).w (i 0).val (mainCol (i 1).val)) (by decide +kernel) fun t hf y => ?_) (ix2 r e)
  have h0 : win0_4.index t 0 = t.val := congrArg Prod.fst (index0_4 t)
  have h1 : win0_4.index t 1 = 0 := congrArg Prod.snd (index0_4 t)
  refine (At2.at_ (mainVal_at m c t) y).trans ?_
  blk_simp [h0, h1]

theorem qvt_arr : At2 (A := 1024) (B := 1024) ((D0 m c).arrAt 5 cfg0.N) fun r e => (args_ m c).w e (qvtCol r) := by
  intro r e
  refine congrFun ((D0 m c).arrAt_eq_of_covers 5 (fun i : (S2 1024 1024).Idx => (args_ m c).w (i 1).val (qvtCol (i 0).val)) (by decide +kernel) fun t hf y => ?_) (ix2 r e)
  have h0 : win0_5.index t 0 = 0 := congrArg Prod.fst (index0_5 t)
  have h1 : win0_5.index t 1 = t.val := congrArg Prod.snd (index0_5 t)
  refine (At2.at_ (qvtVal_at m c t) y).trans ?_
  blk_simp [h0, h1]

theorem out_arr : At2 (A := 1024) (B := 1024) ((D0 m c).arrAt 6 cfg0.N) (args_ m c).wo := by
  intro r e
  refine congrFun ((D0 m c).arrAt_eq_of_covers 6 (fun i : (S2 1024 1024).Idx => (args_ m c).wo (i 0).val (i 1).val) (by decide +kernel) fun t hf y => ?_) (ix2 r e)
  have h0 : win0_6.index t 0 = t.val := congrArg Prod.fst (index0_6 t)
  have h1 : win0_6.index t 1 = 0 := congrArg Prod.snd (index0_6 t)
  refine (At2.at_ (outVal_at m c t) y).trans ?_
  blk_simp [h0, h1]

theorem pool_arr : At3 (A := 4) (B := 128) (C := 128) ((D0 m c).arrAt 7 cfg0.N) (args_ m c).pw := by
  intro g r e
  refine congrFun ((D0 m c).arrAt_eq_of_covers 7 (fun i : (S3 4 128 128).Idx => (args_ m c).pw (i 0).val (i 1).val (i 2).val) (by decide +kernel) fun t hf y => ?_) (ix3 g r e)
  have h0 : win0_7.index t 0 = 0 := congrArg Prod.fst (index0_7 t)
  have h1 : win0_7.index t 1 = 0 := congrArg (fun x => x.2.1) (index0_7 t)
  have h2 : win0_7.index t 2 = 0 := congrArg (fun x => x.2.2) (index0_7 t)
  refine (At3.at_ (poolVal'_at m c t0_0) y).trans ?_
  blk_simp [h0, h1, h2]

theorem bias_arr : At3 (A := 4) (B := 192) (C := 256) ((D0 m c).arrAt 8 cfg0.N) fun p r e =>
    ((args_ m c).rb (p * 2 + e / 128) (min 128 (r - e % 128)) - (args_ m c).rb (p * 2 + e / 128) 0) * (((Real.log 2)⁻¹ : ℝ) : EReal) := by
  intro p r e
  refine congrFun ((D0 m c).arrAt_eq_of_covers 8 (fun i : (S3 4 192 256).Idx =>
    ((args_ m c).rb ((i 0).val * 2 + (i 2).val / 128) (min 128 ((i 1).val - (i 2).val % 128)) - (args_ m c).rb ((i 0).val * 2 + (i 2).val / 128) 0) * (((Real.log 2)⁻¹ : ℝ) : EReal))
    (by decide +kernel) fun t hf y => ?_) (ix3 p r e)
  have h0 : win0_8.index t 0 = 0 := congrArg Prod.fst (index0_8 t)
  have h1 : win0_8.index t 1 = 0 := congrArg (fun x => x.2.1) (index0_8 t)
  have h2 : win0_8.index t 2 = 0 := congrArg (fun x => x.2.2) (index0_8 t)
  refine (At3.at_ (biasVal_at m c t0_0) y).trans ?_
  blk_simp [h0, h1, h2]

end Cert.KernelIdeal

end
-- ==== Proof.ValueKernel.lean ====
/-
  The kernel program's result over the extended reals is the layer's.
-/
module

public import proofs.«01_k».proof.Proof.ValuePrep

@[expose] public section

set_option maxRecDepth 16384

noncomputable section

namespace Cert.KernelIdeal

open Idealize.ShloMosaic Idealize.ShloMosaic.TcCoe Cert.Hybrid Cert.Spec Gen
open Idealize.ShloMosaic.Pipeline (Dat Cfg Window)

variable (m : (ℓ : Loc nD τ sig) → Buf (Elt Ideal) ℓ) (c : Dev nD)

/-! ## The arrays the block call reads -/

theorem V3_x : At3 (A := 8) (B := 8192) (C := 1024) (V3 m (outs0 m) c main_arg0) (args_ m c).x := by
  have e : V3 m (outs0 m) c main_arg0 = m ((c : Thread nD τ).loc main_arg0) := by
    rw [V3_of m (outs0 m) c main_arg0 (by decide), V2_of m (outs0 m) c main_arg0 (by decide), V1_of m c main_arg0 (by decide)]
  rw [e]
  exact argsOf_x _ _ _ _ _ _ _ _

theorem V3_gIn : At2 (A := 1) (B := 1024) (V3 m (outs0 m) c main_call0_v6) fun _ => (args_ m c).gIn := by
  have e : V3 m (outs0 m) c main_call0_v6 = broadcastInDim S1x1024 ![1] bcast_S1024_S1x1024_1 (shapeCast S1024 (m ((c : Thread nD τ).loc main_arg1)) shapeCasts_S1x1024_S1024) := by
    unfold_abbrev_sides
    after_results
    rfl
  have h := argsOf_gIn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
  rw [e]
  intro a d
  refine Eq.trans ?_ (h 0 d)
  generalize (m ((c : Thread nD τ).loc main_arg1) : FVec Ideal (S2 1 1024) .f32) = v
  show broadcastInDim (S2 1 1024) ![1] bcast_S1024_S1x1024_1 (shapeCast (S1 1024) v shapeCasts_S1x1024_S1024) (ix2 a d) = v (ix2 0 d)
  pointwise [S1, S2]

theorem V3_ps : At2 (A := 1) (B := 512) (V3 m (outs0 m) c main_call0_v8) fun _ => (args_ m c).ps := by
  have e : V3 m (outs0 m) c main_call0_v8 = broadcastInDim S1x512 ![1] bcast_S512_S1x512_1 (shapeCast S512 (m ((c : Thread nD τ).loc main_arg4)) shapeCasts_S1x512_S512) := by
    unfold_abbrev_sides
    after_results
    rfl
  have h := argsOf_ps (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
  rw [e]
  intro a d
  refine Eq.trans ?_ (h 0 d)
  generalize (m ((c : Thread nD τ).loc main_arg4) : FVec Ideal (S2 1 512) .f32) = v
  show broadcastInDim (S2 1 512) ![1] bcast_S512_S1x512_1 (shapeCast (S1 512) v shapeCasts_S1x512_S512) (ix2 a d) = v (ix2 0 d)
  pointwise [S1, S2]

theorem V3_gOut : At2 (A := 1) (B := 1024) (V3 m (outs0 m) c main_call0_v9) fun _ => (args_ m c).gOut := by
  have e : V3 m (outs0 m) c main_call0_v9 = broadcastInDim S1x1024 ![1] bcast_S1024_S1x1024_1 (m ((c : Thread nD τ).loc main_arg7)) := by
    unfold_abbrev_sides
    after_results
    rfl
  have h := argsOf_gOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
  rw [e]
  intro a d
  refine Eq.trans ?_ (h d)
  generalize (m ((c : Thread nD τ).loc main_arg7) : FVec Ideal (S1 1024) .f32) = v
  show broadcastInDim (S2 1 1024) ![1] bcast_S1024_S1x1024_1 v (ix2 a d) = v (ix1 d)
  pointwise [S1, S2]

theorem V3_main : At2 (A := 1024) (B := 2048) (V3 m (outs0 m) c main_call0_v4_0) fun r e => (args_ m c).w r (mainCol e) := by
  have e : V3 m (outs0 m) c main_call0_v4_0 = (D0 m c).arrAt 4 cfg0.N := by
    rw [V3_of m (outs0 m) c main_call0_v4_0 (by decide)]
    exact Pipeline.afterRegion_arr (D0 m c) (V1 m c) launch0.win.arr_inj 4
  rw [e]; exact main_arr m c

theorem V3_qvt : At2 (A := 1024) (B := 1024) (V3 m (outs0 m) c main_call0_v4_1) fun r e => (args_ m c).w e (qvtCol r) := by
  have e : V3 m (outs0 m) c main_call0_v4_1 = (D0 m c).arrAt 5 cfg0.N := by
    rw [V3_of m (outs0 m) c main_call0_v4_1 (by decide)]
    exact Pipeline.afterRegion_arr (D0 m c) (V1 m c) launch0.win.arr_inj 5
  rw [e]; exact qvt_arr m c

theorem V3_wo : At2 (A := 1024) (B := 1024) (V3 m (outs0 m) c main_call0_v4_2) (args_ m c).wo := by
  have e : V3 m (outs0 m) c main_call0_v4_2 = (D0 m c).arrAt 6 cfg0.N := by
    rw [V3_of m (outs0 m) c main_call0_v4_2 (by decide)]
    exact Pipeline.afterRegion_arr (D0 m c) (V1 m c) launch0.win.arr_inj 6
  rw [e]; exact out_arr m c

theorem V3_pw : At3 (A := 4) (B := 128) (C := 128) (V3 m (outs0 m) c main_call0_v4_3) (args_ m c).pw := by
  have e : V3 m (outs0 m) c main_call0_v4_3 = (D0 m c).arrAt 7 cfg0.N := by
    rw [V3_of m (outs0 m) c main_call0_v4_3 (by decide)]
    exact Pipeline.afterRegion_arr (D0 m c) (V1 m c) launch0.win.arr_inj 7
  rw [e]; exact pool_arr m c

theorem V3_bias : At3 (A := 4) (B := 192) (C := 256) (V3 m (outs0 m) c main_call0_v4_4) fun p r e =>
    ((args_ m c).rb (p * 2 + e / 128) (min 128 (r - e % 128)) - (args_ m c).rb (p * 2 + e / 128) 0) * (((Real.log 2)⁻¹ : ℝ) : EReal) := by
  have e : V3 m (outs0 m) c main_call0_v4_4 = (D0 m c).arrAt 8 cfg0.N := by
    rw [V3_of m (outs0 m) c main_call0_v4_4 (by decide)]
    exact Pipeline.afterRegion_arr (D0 m c) (V1 m c) launch0.win.arr_inj 8
  rw [e]; exact bias_arr m c

/-! ## The block call's operands at a point -/

theorem index1_0 : ∀ t : Fin grid1.N, (win1_0.index t 0, win1_0.index t 1, win1_0.index t 2) = (t.val / 8, t.val % 8, 0) := by decide +kernel
theorem index1_1 : ∀ t : Fin grid1.N, (win1_1.index t 0, win1_1.index t 1) = (0, 0) := by decide +kernel
theorem index1_2 : ∀ t : Fin grid1.N, (win1_2.index t 0, win1_2.index t 1) = (0, 0) := by decide +kernel
theorem index1_3 : ∀ t : Fin grid1.N, (win1_3.index t 0, win1_3.index t 1) = (0, 0) := by decide +kernel
theorem index1_4 : ∀ t : Fin grid1.N, (win1_4.index t 0, win1_4.index t 1, win1_4.index t 2) = (0, 0, 0) := by decide +kernel
theorem index1_5 : ∀ t : Fin grid1.N, (win1_5.index t 0, win1_5.index t 1) = (0, 0) := by decide +kernel
theorem index1_6 : ∀ t : Fin grid1.N, (win1_6.index t 0, win1_6.index t 1, win1_6.index t 2) = (0, 0, 0) := by decide +kernel
theorem index1_7 : ∀ t : Fin grid1.N, (win1_7.index t 0, win1_7.index t 1) = (0, 0) := by decide +kernel
theorem index1_8 : ∀ t : Fin grid1.N, (win1_8.index t 0, win1_8.index t 1) = (0, 0) := by decide +kernel
theorem index1_9 : ∀ t : Fin grid1.N, (win1_9.index t 0, win1_9.index t 1, win1_9.index t 2) = (t.val / 8, t.val % 8, 0) := by decide +kernel
theorem tile_eq : ∀ t : Fin grid1.N, (grid1.coords t 1).val = t.val % 8 := by decide +kernel

abbrev in1_ (t : Fin cfg1.N) : BSt Ideal := in1 (at_ (V3 m (outs0 m))) c t

theorem in1_x (t : Fin cfg1.N) : At3 (A := 1) (B := 1024) (C := 1024) (in1_ m c t .x) fun _ r d => (args_ m c).x (t.val / 8) (t.val % 8 * 1024 + r) d := by
  intro a r d
  refine (At3.at_ (V3_x m c) ((win1_0.blk t).view.emb (ix3 a r d))).trans ?_
  have h0 : win1_0.index t 0 = t.val / 8 := congrArg Prod.fst (index1_0 t)
  have h1 : win1_0.index t 1 = t.val % 8 := congrArg (fun x => x.2.1) (index1_0 t)
  have h2 : win1_0.index t 2 = 0 := congrArg (fun x => x.2.2) (index1_0 t)
  have ha : a.val = 0 := by omega
  blk_simp [h0, h1, h2, ha]

theorem in1_gIn (t : Fin cfg1.N) : At2 (A := 1) (B := 1024) (in1_ m c t .gIn) fun _ => (args_ m c).gIn := by
  intro a d
  refine (At2.at_ (V3_gIn m c) ((win1_1.blk t).view.emb (ix2 a d))).trans ?_
  have h0 : win1_1.index t 0 = 0 := congrArg Prod.fst (index1_1 t)
  have h1 : win1_1.index t 1 = 0 := congrArg Prod.snd (index1_1 t)
  blk_simp [h0, h1]

theorem in1_wMain (t : Fin cfg1.N) : At2 (A := 1024) (B := 2048) (in1_ m c t .wMain) fun r e => (args_ m c).w r (mainCol e) := by
  intro a d
  refine (At2.at_ (V3_main m c) ((win1_2.blk t).view.emb (ix2 a d))).trans ?_
  have h0 : win1_2.index t 0 = 0 := congrArg Prod.fst (index1_2 t)
  have h1 : win1_2.index t 1 = 0 := congrArg Prod.snd (index1_2 t)
  blk_simp [h0, h1]

theorem in1_wQvt (t : Fin cfg1.N) : At2 (A := 1024) (B := 1024) (in1_ m c t .wQvt) fun r e => (args_ m c).w e (qvtCol r) := by
  intro a d
  refine (At2.at_ (V3_qvt m c) ((win1_3.blk t).view.emb (ix2 a d))).trans ?_
  have h0 : win1_3.index t 0 = 0 := congrArg Prod.fst (index1_3 t)
  have h1 : win1_3.index t 1 = 0 := congrArg Prod.snd (index1_3 t)
  blk_simp [h0, h1]

theorem in1_poolW (t : Fin cfg1.N) : At3 (A := 4) (B := 128) (C := 128) (in1_ m c t .poolW) (args_ m c).pw := by
  intro a r d
  refine (At3.at_ (V3_pw m c) ((win1_4.blk t).view.emb (ix3 a r d))).trans ?_
  have h0 : win1_4.index t 0 = 0 := congrArg Prod.fst (index1_4 t)
  have h1 : win1_4.index t 1 = 0 := congrArg (fun x => x.2.1) (index1_4 t)
  have h2 : win1_4.index t 2 = 0 := congrArg (fun x => x.2.2) (index1_4 t)
  blk_simp [h0, h1, h2]

theorem in1_poolScale (t : Fin cfg1.N) : At2 (A := 1) (B := 512) (in1_ m c t .poolScale) fun _ => (args_ m c).ps := by
  intro a d
  refine (At2.at_ (V3_ps m c) ((win1_5.blk t).view.emb (ix2 a d))).trans ?_
  have h0 : win1_5.index t 0 = 0 := congrArg Prod.fst (index1_5 t)
  have h1 : win1_5.index t 1 = 0 := congrArg Prod.snd (index1_5 t)
  blk_simp [h0, h1]

theorem in1_bias (t : Fin cfg1.N) : At3 (A := 4) (B := 192) (C := 256) (in1_ m c t .bias) fun p r e =>
    ((args_ m c).rb (p * 2 + e / 128) (min 128 (r - e % 128)) - (args_ m c).rb (p * 2 + e / 128) 0) * (((Real.log 2)⁻¹ : ℝ) : EReal) := by
  intro a r d
  refine (At3.at_ (V3_bias m c) ((win1_6.blk t).view.emb (ix3 a r d))).trans ?_
  have h0 : win1_6.index t 0 = 0 := congrArg Prod.fst (index1_6 t)
  have h1 : win1_6.index t 1 = 0 := congrArg (fun x => x.2.1) (index1_6 t)
  have h2 : win1_6.index t 2 = 0 := congrArg (fun x => x.2.2) (index1_6 t)
  blk_simp [h0, h1, h2]

theorem in1_wOut (t : Fin cfg1.N) : At2 (A := 1024) (B := 1024) (in1_ m c t .wOut) (args_ m c).wo := by
  intro a d
  refine (At2.at_ (V3_wo m c) ((win1_7.blk t).view.emb (ix2 a d))).trans ?_
  have h0 : win1_7.index t 0 = 0 := congrArg Prod.fst (index1_7 t)
  have h1 : win1_7.index t 1 = 0 := congrArg Prod.snd (index1_7 t)
  blk_simp [h0, h1]

theorem in1_gOut (t : Fin cfg1.N) : At2 (A := 1) (B := 1024) (in1_ m c t .gOut) fun _ => (args_ m c).gOut := by
  intro a d
  refine (At2.at_ (V3_gOut m c) ((win1_8.blk t).view.emb (ix2 a d))).trans ?_
  have h0 : win1_8.index t 0 = 0 := congrArg Prod.fst (index1_8 t)
  have h1 : win1_8.index t 1 = 0 := congrArg Prod.snd (index1_8 t)
  blk_simp [h0, h1]

/-! ## What a tile starts from -/

abbrev start_ (n : ℕ) : BSt Ideal := start (at_ (V3 m (outs0 m))) c n

theorem tile_n (n : ℕ) (hn : n < 64) : tile (pt n) = BitVec.ofNat 32 (n % 8) := by
  have h : (pt n).val = n := Nat.mod_eq_of_lt hn
  show BitVec.ofNat 32 (grid1.coords (pt n) 1).val = _
  rw [tile_eq (pt n), h]

/-- The operands and, given the halos, the whole of it. -/
theorem tileIn_of (n : ℕ) (hn : n < 64)
    (hk : ∀ (r : Fin 1536) (d : Fin 512), r.val < 512 → start_ m c n .k (ix2 r d) = padded (n % 8) 512 r.val (pS (args_ m c) (n / 8) (n % 8 * 1024 + r.val - 512) (1536 + d.val)))
    (hv : ∀ (g : Fin 12) (d : Fin 512) (l : Fin 128), g.val < 4 →
      start_ m c n .vt (ix3 g d l) = padded (n % 8) 512 (g.val * 128 + l.val) (pS (args_ m c) (n / 8) (n % 8 * 1024 + (g.val * 128 + l.val) - 512) (2048 + d.val)))
    (hp : ∀ (r : Fin 1040) (d : Fin 512), r.val < 16 → start_ m c n .pv (ix2 r d) = padded (n % 8) 16 r.val (pS (args_ m c) (n / 8) (n % 8 * 1024 + r.val - 16) d.val))
    (hi : At2 (A := 1536) (B := 128) (start_ m c n .ind) fun r d => if n % 8 * 1024 + r < 512 ∧ d = 0 then 1 else 0) :
    TileIn (args_ m c) (n / 8) (n % 8) (start_ m c n) := by
  have h : (pt n).val = n := Nat.mod_eq_of_lt hn
  have hin := fun b hb => start_in (at_ (V3 m (outs0 m))) c n b hb
  refine ⟨?_, ?_, ?_, ?_, ?_, ?_, ?_, ?_, ?_, hk, hv, hp, hi⟩
  · have := in1_x m c (pt n)
    rw [h] at this
    show At3 (start (at_ (V3 m (outs0 m))) c n .x) _
    rw [hin .x rfl]; exact this
  · show At2 (start (at_ (V3 m (outs0 m))) c n .gIn) _
    rw [hin .gIn rfl]; exact in1_gIn m c (pt n)
  · show At2 (start (at_ (V3 m (outs0 m))) c n .wMain) _
    rw [hin .wMain rfl]; exact in1_wMain m c (pt n)
  · show At2 (start (at_ (V3 m (outs0 m))) c n .wQvt) _
    rw [hin .wQvt rfl]; exact in1_wQvt m c (pt n)
  · show At3 (start (at_ (V3 m (outs0 m))) c n .poolW) _
    rw [hin .poolW rfl]; exact in1_poolW m c (pt n)
  · show At2 (start (at_ (V3 m (outs0 m))) c n .poolScale) _
    rw [hin .poolScale rfl]; exact in1_poolScale m c (pt n)
  · show At3 (start (at_ (V3 m (outs0 m))) c n .bias) _
    rw [hin .bias rfl]; exact in1_bias m c (pt n)
  · show At2 (start (at_ (V3 m (outs0 m))) c n .wOut) _
    rw [hin .wOut rfl]; exact in1_wOut m c (pt n)
  · show At2 (start (at_ (V3 m (outs0 m))) c n .gOut) _
    rw [hin .gOut rfl]; exact in1_gOut m c (pt n)

theorem zero16 : Scalar.ofBits (F := Ideal) .bf16 0x0000#16 = (0 : EReal) := by
  show Ideal.ofBits .bf16 0x0000#16 = 0
  simp [Ideal.ofBits, Ideal.ieee]

theorem zero32 : Scalar.ofBits (F := Ideal) .f32 0x00000000#32 = (0 : EReal) := by
  show Ideal.ofBits .f32 0x00000000#32 = 0
  simp [Ideal.ofBits, Ideal.ieee]

theorem indicator_at : At2 (indicator (F := Ideal)) fun _ d => if d = 0 then 1 else 0 := by
  intro r d
  have h : ∀ d : Fin 128, IntOp.cmpi .eq (BitVec.ofNat 32 d.val) 0#32 = if d.val = 0 then 1#1 else 0#1 := by decide
  pointwise [indicator, S2]
  rw [h d]
  split <;> rfl

theorem tileIn_first (n : ℕ) (hn : n < 64) (h8 : n % 8 = 0) : TileIn (args_ m c) (n / 8) (n % 8) (start_ m c n) := by
  have hs := fun b i hb => start_first (at_ (V3 m (outs0 m))) c n h8 b i hb
  refine tileIn_of m c n hn (fun r d hr => ?_) (fun g d l hg => ?_) (fun r d hr => ?_) fun r d => ?_
  · rw [padded, if_pos (by omega)]
    exact (hs .k (ix2 r d) hr).trans zero16
  · rw [padded, if_pos (by omega)]
    exact (hs .vt (ix3 g d l) hg).trans zero16
  · rw [padded, if_pos (by omega)]
    exact (hs .pv (ix2 r d) hr).trans zero32
  · refine (hs .ind (ix2 r d) trivial).trans ?_
    show (if r.val < 512 then indicator (ix2 (Fin.ofNat 512 r.val) d) else (Scalar.ofBits .bf16 0x0000#16 : Ideal .bf16)) = _
    by_cases h : r.val < 512
    · rw [if_pos h, indicator_at _ d]
      simp only [h8, Nat.zero_mul, Nat.zero_add, h, true_and]
    · rw [if_neg h]
      refine zero16.trans ?_
      simp only [if_neg (show ¬(n % 8 * 1024 + r.val < 512 ∧ d.val = 0) by omega)]

theorem tileIn_later (n : ℕ) (hn : n + 1 < 64) (h8 : (n + 1) % 8 ≠ 0) (ih : TileIn (args_ m c) (n / 8) (n % 8) (start_ m c n)) :
    TileIn (args_ m c) ((n + 1) / 8) ((n + 1) % 8) (start_ m c (n + 1)) := by
  have hs := fun b i hb => start_later (at_ (V3 m (outs0 m))) c n h8 b i hb
  have eb : (n + 1) / 8 = n / 8 := by omega
  have et : (n + 1) % 8 = n % 8 + 1 := by omega
  refine tileIn_of m c (n + 1) hn (fun r d hr => ?_) (fun g d l hg => ?_) (fun r d hr => ?_) fun r d => ?_
  · refine (hs .k (ix2 r d) hr).trans ((k_at ih consts _ _).trans ?_)
    have e : (Fin.ofNat 1536 (r.val + 1024)).val = r.val + 1024 := Nat.mod_eq_of_lt (by omega)
    show padded _ _ (Fin.ofNat 1536 (r.val + 1024)).val (pS _ _ (_ + (Fin.ofNat 1536 (r.val + 1024)).val - 512) (1536 + d.val)) = _
    rw [e, eb, et]
    unfold padded
    rw [if_neg (by omega), if_neg (by omega), show n % 8 * 1024 + (r.val + 1024) = (n % 8 + 1) * 1024 + r.val by omega]
  · refine (hs .vt (ix3 g d l) hg).trans ((vt_at ih consts _ _ _).trans ?_)
    have e : (Fin.ofNat 12 (g.val + 8)).val = g.val + 8 := Nat.mod_eq_of_lt (by omega)
    show padded _ _ ((Fin.ofNat 12 (g.val + 8)).val * 128 + l.val) (pS _ _ (_ + ((Fin.ofNat 12 (g.val + 8)).val * 128 + l.val) - 512) (2048 + d.val)) = _
    rw [e, eb, et]
    unfold padded
    rw [if_neg (by omega), if_neg (by omega), show n % 8 * 1024 + ((g.val + 8) * 128 + l.val) = (n % 8 + 1) * 1024 + (g.val * 128 + l.val) by omega]
  · refine (hs .pv (ix2 r d) hr).trans ((pv_at ih consts _ _).trans ?_)
    have e : (Fin.ofNat 1040 (r.val + 1024)).val = r.val + 1024 := Nat.mod_eq_of_lt (by omega)
    show padded _ _ (Fin.ofNat 1040 (r.val + 1024)).val (pS _ _ (_ + (Fin.ofNat 1040 (r.val + 1024)).val - 16) d.val) = _
    rw [e, eb, et]
    unfold padded
    rw [if_neg (by omega), if_neg (by omega), show n % 8 * 1024 + (r.val + 1024) = (n % 8 + 1) * 1024 + r.val by omega]
  · refine (hs .ind (ix2 r d) trivial).trans ?_
    simp only [if_neg (show ¬((n + 1) % 8 * 1024 + r.val < 512 ∧ d.val = 0) by omega)]
    show (if r.val < 512 then (Scalar.ofBits .bf16 0x0000#16 : Ideal .bf16) else start_ m c n .ind (ix2 r d)) = _
    by_cases h : r.val < 512
    · rw [if_pos h]; exact zero16
    · rw [if_neg h, ih.ind r d]
      simp only [if_neg (show ¬(n % 8 * 1024 + r.val < 512 ∧ d.val = 0) by omega)]

theorem tileIn (n : ℕ) (hn : n < 64) : TileIn (args_ m c) (n / 8) (n % 8) (start_ m c n) := by
  induction n with
  | zero => exact tileIn_first m c 0 hn rfl
  | succ n ih =>
    by_cases h8 : (n + 1) % 8 = 0
    · exact tileIn_first m c (n + 1) hn h8
    · exact tileIn_later m c n hn h8 (ih (by omega))

/-! ## The result -/

/-- What the kernel returns is the layer's output, at every entry. -/
theorem result_at (hA : (args_ m c).Finite) : At3 (A := 8) (B := 8192) (C := 1024) (result m c) (outS (args_ m c)) := by
  have hm : (consts (F := Ideal)).mask = (⊥ : EReal) := IdealRules.named_const.ideal_named_scalar _ _ _ _ rfl
  have hl : (consts (F := Ideal)).log2e = (((Real.log 2)⁻¹ : ℝ) : EReal) := IdealRules.named_const.ideal_named_scalar _ _ _ _ rfl
  have hq : (consts (F := Ideal)).qscale = (((8 * Real.log 2)⁻¹ : ℝ) : EReal) := IdealRules.named_const.ideal_named_scalar _ _ _ _ rfl
  intro b s e
  refine congrFun ((D1 m c).arrAt_eq_of_covers 9 (fun i : (S3 8 8192 1024).Idx => outS (args_ m c) (i 0).val (i 1).val (i 2).val) (by decide +kernel) fun t hf y => ?_) (ix3 b s e)
  have ht : t.val < 64 := t.isLt
  have h := out_at (tileIn m c t.val ht) hA (Nat.mod_lt _ (by decide)) consts hm hl hq
  rw [← tile_n t.val ht] at h
  refine (At3.at_ (v := done1 (at_ (V3 m (outs0 m))) c t.val .out) h y).trans ?_
  have h0 : win1_9.index t 0 = t.val / 8 := congrArg Prod.fst (index1_9 t)
  have h1 : win1_9.index t 1 = t.val % 8 := congrArg (fun x => x.2.1) (index1_9 t)
  have h2 : win1_9.index t 2 = 0 := congrArg (fun x => x.2.2) (index1_9 t)
  have hy : (y 0).val = 0 := by
    have : (y 0).val < 1 := (y 0).isLt
    omega
  blk_simp [h0, h1, h2, hy]

end Cert.KernelIdeal

end
-- ==== Proof.ValueWindow.lean ====
/-
  A window's sum along the rows, padded before the first, read at an index.
-/
module

public import proofs.«01_k».proof.Proof.ValueArgs
public import proofs.«01_k».proof.Proof.Gen.ReferenceIdeal.Run
public import Idealize.ShloMosaic.Lib.Pointwise

@[expose] public section

noncomputable section

namespace Cert.ReferenceIdeal

open Idealize.ShloMosaic Cert.Spec Cert.Hybrid Cert.ReferenceIdeal.Gen Cert.ReferenceIdeal.Value

/-- The window's sum is that of the last rows there are. -/
theorem window_at (v : FVec Ideal (S3 8 8192 128) .f32) (i : FVec Ideal S_ .f32) (w : ℕ) (h : (S3 8 8192 128).ReduceWindows ![1, w, 1] ![1, 1, 1] ![0, w - 1, 0] ![0, 0, 0] (S3 8 8192 128)) (f : ℕ → ℕ → ℕ → EReal) (hv : At3 v f) (b : Fin 8) (s : Fin 8192) (e : Fin 128) (hi : i ix0 = 0) :
  Host.reduceWindowAdd ![1, w, 1] ![1, 1, 1] ![0, w - 1, 0] ![0, 0, 0] v i h h_S_ (ix3 b s e) = ∑ k ∈ Finset.range w, if k ≤ s.val then f b.val (s.val - k) e.val else 0 := by
  show Host.reduceWindow (· + ·) ![1, w, 1] ![1, 1, 1] ![0, w - 1, 0] ![0, 0, 0] v (fun _ : (⟨0, ![]⟩ : Shape).Idx => i (Shape.Idx.first h_S_)) h (by decide) (ix3 b s e) = _
  unfold Host.reduceWindow
  have key : ∀ (l : List (Fin (Shape.mk 3 ![1, w, 1]).numel)) (f : Fin (Shape.mk 3 ![1, w, 1]).numel → EReal) (a : EReal), l.foldl (fun r n => r + f n) a = a + (l.map f).sum := by
    intro l f
    induction l with
    | nil => intro a; simp
    | cons x l ih => intro a; rw [List.foldl_cons, ih, List.map_cons, List.sum_cons, add_assoc]
  refine (key _ _ _).trans ?_
  rw [← List.ofFn_eq_map, List.sum_ofFn]
  have h0 : i (Shape.Idx.first h_S_) = 0 := (congrArg i (funext fun a => a.elim0)).trans hi
  have tot : ∀ (z : EReal) (G : Fin (Shape.mk 3 ![1, w, 1]).numel → EReal), z = 0 → (∀ n, G n = if w - 1 - ((Shape.mk 3 ![1, w, 1]).rowMajor.symm n 1).val ≤ s.val
      then f b.val (s.val - (w - 1 - ((Shape.mk 3 ![1, w, 1]).rowMajor.symm n 1).val)) e.val else 0) →
      z + ∑ n, G n = ∑ k ∈ Finset.range w, if k ≤ s.val then f b.val (s.val - k) e.val else 0 := by
    intro z G hz hG
    rw [hz, zero_add, Finset.sum_congr rfl fun n _ => hG n]
    rw [Equiv.sum_comp (Shape.mk 3 ![1, w, 1]).rowMajor.symm (fun q : (Shape.mk 3 ![1, w, 1]).Idx => if w - 1 - (q 1).val ≤ s.val then f b.val (s.val - (w - 1 - (q 1).val)) e.val else 0)]
    refine Finset.sum_bij (fun q _ => w - 1 - (q 1).val) ?_ ?_ ?_ ?_
    · intro q _
      have q1 : (q 1).val < w := (q 1).isLt
      exact Finset.mem_range.2 (by omega)
    · intro q _ q' _ hqq
      have q1 : (q 1).val < w := (q 1).isLt
      have q1' : (q' 1).val < w := (q' 1).isLt
      have q0 : (q 0).val < 1 := (q 0).isLt
      have q0' : (q' 0).val < 1 := (q' 0).isLt
      have q2 : (q 2).val < 1 := (q 2).isLt
      have q2' : (q' 2).val < 1 := (q' 2).isLt
      funext a
      apply Fin.ext
      match a with
      | ⟨0, _⟩ => show (q 0).val = (q' 0).val; omega
      | ⟨1, _⟩ => show (q 1).val = (q' 1).val; simp only at hqq; omega
      | ⟨2, _⟩ => show (q 2).val = (q' 2).val; omega
    · intro k hk
      have hk := Finset.mem_range.1 hk
      exact ⟨(ix3 (0 : Fin 1) (⟨w - 1 - k, by omega⟩ : Fin w) (0 : Fin 1) : (S3 1 w 1).Idx), Finset.mem_univ _, by show w - 1 - (w - 1 - k) = k; omega⟩
    · intro q _
      rfl
  refine tot _ _ h0 fun n => ?_
  have q0 : ((Shape.mk 3 ![1, w, 1]).rowMajor.symm n 0).val < 1 := ((Shape.mk 3 ![1, w, 1]).rowMajor.symm n 0).isLt
  have q1 : ((Shape.mk 3 ![1, w, 1]).rowMajor.symm n 1).val < w := ((Shape.mk 3 ![1, w, 1]).rowMajor.symm n 1).isLt
  have q2 : ((Shape.mk 3 ![1, w, 1]).rowMajor.symm n 2).val < 1 := ((Shape.mk 3 ![1, w, 1]).rowMajor.symm n 2).isLt
  have hb := b.isLt
  have hs := s.isLt
  have he := e.isLt
  by_cases hc : w - 1 - ((Shape.mk 3 ![1, w, 1]).rowMajor.symm n 1).val ≤ s.val
  · rw [if_pos hc, dif_pos]
    · refine (At3.at_ hv _).trans ?_
      show f (b.val * 1 + ((Shape.mk 3 ![1, w, 1]).rowMajor.symm n 0).val - 0) (s.val * 1 + ((Shape.mk 3 ![1, w, 1]).rowMajor.symm n 1).val - (w - 1)) (e.val * 1 + ((Shape.mk 3 ![1, w, 1]).rowMajor.symm n 2).val - 0) = _
      congr 1 <;> omega
    · intro a
      match a with
      | ⟨0, _⟩ =>
        show 0 ≤ b.val * 1 + ((Shape.mk 3 ![1, w, 1]).rowMajor.symm n 0).val ∧ b.val * 1 + ((Shape.mk 3 ![1, w, 1]).rowMajor.symm n 0).val - 0 < 8
        omega
      | ⟨1, _⟩ =>
        show w - 1 ≤ s.val * 1 + ((Shape.mk 3 ![1, w, 1]).rowMajor.symm n 1).val ∧ s.val * 1 + ((Shape.mk 3 ![1, w, 1]).rowMajor.symm n 1).val - (w - 1) < 8192
        omega
      | ⟨2, _⟩ =>
        show 0 ≤ e.val * 1 + ((Shape.mk 3 ![1, w, 1]).rowMajor.symm n 2).val ∧ e.val * 1 + ((Shape.mk 3 ![1, w, 1]).rowMajor.symm n 2).val - 0 < 128
        omega
  · rw [if_neg hc, dif_neg]
    · exact h0
    · intro hin
      have := (hin 1).1
      change w - 1 ≤ s.val * 1 + ((Shape.mk 3 ![1, w, 1]).rowMajor.symm n 1).val at this
      omega

end Cert.ReferenceIdeal

end
-- ==== Proof.ValueWords.lean ====
/-
  The reference's integer words: its mask over chunks and its clipped distance.
-/
module

public import proofs.«01_k».proof.Proof.ValueArgs
public import proofs.«01_k».proof.Proof.Gen.ReferenceIdeal.Run
public import Idealize.ShloMosaic.Lib.Pointwise

@[expose] public section

noncomputable section

namespace Cert.ReferenceIdeal

open Idealize.ShloMosaic Cert.Spec Cert.Hybrid Cert.ReferenceIdeal.Gen Cert.ReferenceIdeal.Value

theorem chunk_word : ∀ s : Fin 8192, IntOp.shrsi .host (BitVec.ofNat 32 s.val) 6#32 = BitVec.ofNat 32 (s.val / 64) := by decide +kernel

theorem back_word : ∀ a b : Fin 128, IntOp.andi (IntOp.cmpi .sge (IntOp.subi (BitVec.ofNat 32 a.val) (BitVec.ofNat 32 b.val)) 0#32)
   (IntOp.cmpi .sle (IntOp.subi (BitVec.ofNat 32 a.val) (BitVec.ofNat 32 b.val)) 8#32) = if b.val ≤ a.val ∧ a.val ≤ b.val + 8 then 1#1 else 0#1 := by decide +kernel

theorem clip_word : ∀ n : Fin 16384, IntOp.addi (IntOp.minsi 64#32 (IntOp.maxsi 4294967232#32 (BitVec.ofNat 32 n.val - 8192#32))) 64#32 = BitVec.ofNat 32 (min 128 (n.val - 8128)) := by decide +kernel

/-- How many rows a window holds. -/
theorem count_word : ∀ (s : Fin 8192) (g : Fin 4), (IntOp.minsi (IntOp.addi (BitVec.ofNat 32 s.val) 1#32) (BitVec.ofNat 32 (windowOf g.val))).toInt
    = ((min (s.val + 1) (windowOf g.val) : ℕ) : ℤ) := by decide +kernel

/-- The mask: 1 at a key that the query sees. -/
theorem seen_word (q k : Fin 8192) : IntOp.andi
      (IntOp.cmpi .sge (IntOp.subi (IntOp.shrsi .host (BitVec.ofNat 32 q.val) 6#32) (IntOp.shrsi .host (BitVec.ofNat 32 k.val) 6#32)) 0#32)
      (IntOp.cmpi .sle (IntOp.subi (IntOp.shrsi .host (BitVec.ofNat 32 q.val) 6#32) (IntOp.shrsi .host (BitVec.ofNat 32 k.val) 6#32)) 8#32)
    = if seen q.val k.val then 1#1 else 0#1 := by
  rw [chunk_word, chunk_word]
  exact back_word ⟨q.val / 64, by omega⟩ ⟨k.val / 64, by omega⟩

/-- The clipped distance from query to key, as the table's row. -/
theorem dist_word (q k : Fin 8192) :
    IntOp.addi (IntOp.minsi 64#32 (IntOp.maxsi 4294967232#32 (IntOp.subi (BitVec.ofNat 32 k.val) (BitVec.ofNat 32 q.val)))) 64#32
      = BitVec.ofNat 32 (min 128 (k.val + 64 - q.val)) := by
  have h := clip_word ⟨k.val + 8192 - q.val, by omega⟩
  have e : BitVec.ofNat 32 (k.val + 8192 - q.val) - 8192#32 = IntOp.subi (BitVec.ofNat 32 k.val) (BitVec.ofNat 32 q.val) := by
    show _ = BitVec.ofNat 32 k.val - BitVec.ofNat 32 q.val
    apply BitVec.eq_of_toNat_eq
    simp only [BitVec.toNat_sub, BitVec.toNat_ofNat]
    omega
  rw [show ((⟨k.val + 8192 - q.val, by omega⟩ : Fin 16384)).val = k.val + 8192 - q.val from rfl, e] at h
  exact h.trans (congrArg (BitVec.ofNat 32) (by show min 128 (k.val + 8192 - q.val - 8128) = _; omega))

end Cert.ReferenceIdeal

end
-- ==== Proof.ValueRef.lean ====
/-
  The reference's projection at an index: the normalised rows times the input weights.
-/
module

public import proofs.«01_k».proof.Proof.ValueWindow
public import proofs.«01_k».proof.Proof.ValueWords
public import proofs.«01_k».proof.Proof.Gen.ReferenceIdeal.Run
public import Idealize.ShloMosaic.Lib.Pointwise

@[expose] public section

noncomputable section

namespace Cert.ReferenceIdeal

open Idealize.ShloMosaic Cert.Spec Cert.Hybrid Cert.ReferenceIdeal.Gen Cert.ReferenceIdeal.Value

/-- A row's normalisation as the reference spells it. -/
theorem rms_at (v : FVec Ideal (S3 8 8192 1024) .f32) (g : FVec Ideal (S1 1024) .f32) (f : ℕ → ℕ → ℕ → EReal) (γ : ℕ → EReal)
    (hv : At3 v f) (hg : ∀ a : Fin 1024, g (ix1 a) = γ a.val) :
    At3 (A := 8) (B := 8192) (C := 1024) (mulf (mulf v (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf v v) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g)))
      fun b s d => rmsS (f b s) γ d := by
  intro b s d
  pointwise [S1, S2, S3, S4, S8x8192x1024, S8x8192x1, S8x8192, S_, S1x1x1024, S1024]
  simp only [hv b s, hg]; rfl

abbrev refArgs (V0 : Valuation τ sig (Elt Ideal)) : Args :=
  argsOf (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))

variable (V0 : Valuation τ sig (Elt Ideal))

/-- The projection. -/
theorem v15_at : At3 (A := 8) (B := 8192) (C := 3072) (res_main_v15 V0) (pS (refArgs V0)) := by
  have hx := argsOf_x (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
  have hg := argsOf_gIn (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
  have hw := argsOf_w (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
  have hn := rms_at (V0 (Proc.devRef .tc main_arg0)) (shapeCast S1024 (V0 (Proc.devRef .tc main_arg1)) shapeCasts_S1x1024_S1024) _ (refArgs V0).gIn hx
    (by
      intro a
      refine Eq.trans ?_ (hg 0 a)
      generalize (V0 (Proc.devRef .tc main_arg1) : FVec Ideal (S2 1 1024) .f32) = g
      show shapeCast (S1 1024) g shapeCasts_S1x1024_S1024 (ix1 a) = g (ix2 0 a)
      pointwise [S1, S2])
  unfold res_main_v15
  intro b s e
  have key : ∀ (v : FVec Ideal (S3 8 8192 1024) .f32) (w : FVec Ideal (S3 1 1024 3072) .f32) (f : ℕ → ℕ → ℕ → EReal) (k : ℕ → ℕ → EReal), At3 v f → At3 w (fun _ => k) →
      Host.dotGeneral dot_S8x8192x1024_S1024x3072_S8x8192x3072_2_0_01_1_n_n none v (shapeCast S1024x3072 w shapeCasts_S1x1024x3072_S1024x3072) (ix3 b s e)
        = ∑ d : Fin 1024, f b.val s.val d.val * k d.val e.val := by
    intro v w f k hv hw
    pointwise [S1, S2, S3, S4, S8x8192x1024, S1024x3072, S8x8192x3072]
    simp only [hv b s, hw 0]
  exact key _ _ _ _ hn hw

theorem v16_at : At3 (A := 8) (B := 8192) (C := 512) (res_main_v16 V0) fun b s e => pS (refArgs V0) b s e := by
  have h := v15_at V0
  unfold res_main_v16
  generalize res_main_v15 V0 = w at h ⊢
  intro b s e
  show extractStridedSlice (S3 8 8192 512) ![0, 0, 0] (w : FVec Ideal (S3 8 8192 3072) .f32) slices_S8x8192x3072_S8x8192x512_0_0_0 (ix3 b s e) = _
  pointwise [S3]
  simp only [h b s]

theorem v17_at : At3 (A := 8) (B := 8192) (C := 512) (res_main_v17 V0) fun b s e => pS (refArgs V0) b s (512 + e) := by
  have h := v15_at V0
  unfold res_main_v17
  generalize res_main_v15 V0 = w at h ⊢
  intro b s e
  show extractStridedSlice (S3 8 8192 512) ![0, 0, 512] (w : FVec Ideal (S3 8 8192 3072) .f32) slices_S8x8192x3072_S8x8192x512_0_0_512 (ix3 b s e) = _
  pointwise [S3]
  simp only [h b s]

theorem v24_at : At3 (A := 8) (B := 8192) (C := 512) (res_main_v24 V0) fun b s e => pS (refArgs V0) b s (2560 + e) := by
  have h := v15_at V0
  unfold res_main_v24
  generalize res_main_v15 V0 = w at h ⊢
  intro b s e
  show extractStridedSlice (S3 8 8192 512) ![0, 0, 2560] (w : FVec Ideal (S3 8 8192 3072) .f32) slices_S8x8192x3072_S8x8192x512_0_0_2560 (ix3 b s e) = _
  pointwise [S3]
  simp only [h b s]

/-! ## The gate -/

theorem exp_nonneg (v : EReal) : 0 ≤ Ideal.exp v := by
  induction v with
  | bot => simp
  | top => simp
  | coe r => rw [Ideal.exp_coe]; exact_mod_cast (Real.exp_pos r).le

theorem silu_eq (v : EReal) : v * Ideal.div 1 (1 + Ideal.exp (-v)) = siluS v := by
  have h : (1 + Ideal.exp (-v) : EReal) ≠ 0 := by
    have : (0 : EReal) < 1 + Ideal.exp (-v) := lt_of_lt_of_le zero_lt_one (le_add_of_nonneg_right (exp_nonneg _))
    exact this.ne'
  unfold siluS Ideal.div
  rw [zero_sub, if_neg h, if_neg h, one_mul]

theorem one_bits : Ideal.ofBits .f32 0x3F800000#32 = 1 := by
  simp [Ideal.ofBits, Ideal.ieee]
  rw [← EReal.coe_mul]; norm_num

theorem silu_at (v : FVec Ideal (S3 8 8192 512) .f32) (f : ℕ → ℕ → ℕ → EReal) (hv : At3 v f) :
    At3 (A := 8) (B := 8192) (C := 512) (mulf v (Host.divf (broadcastInDim S8x8192x512 ![] bcast_S_S8x8192x512 (constant S_ .f32 0x3F800000#32)) (addf (broadcastInDim S8x8192x512 ![] bcast_S_S8x8192x512 (constant S_ .f32 0x3F800000#32)) (Host.exp (Host.negf v)))))
      fun b s e => siluS (f b s e) := by
  intro b s e
  pointwise [S1, S2, S3, S4, S8x8192x512, S_]
  simp only [hv b s]
  exact silu_eq _

/-! ## The pooling heads -/

theorem zero_bits : broadcastInDim S_ ![] bcast_S_S_ (constant (F := Ideal) S_ .f32 0x00000000#32) ix0 = (0 : EReal) := by
  show Ideal.ofBits .f32 0x00000000#32 = 0
  simp [Ideal.ofBits, Ideal.ieee]

/-- A head: its rows' window means less themselves, times its weights. -/
theorem pool_head (A : Args) (g : ℕ) (hg : g < 4) (P : FVec Ideal (S3 8 8192 128) .f32) (hP : At3 P fun b s c => pS A b s (g * 128 + c))
    (W : FVec Ideal (S2 128 128) .f32) (hW : At2 W (A.pw g))
    (h : (S3 8 8192 128).ReduceWindows ![1, windowOf g, 1] ![1, 1, 1] ![0, windowOf g - 1, 0] ![0, 0, 0] (S3 8 8192 128)) :
    At3 (A := 8) (B := 8192) (C := 128) (Host.dotGeneral dot_S8x8192x128_S128x128_S8x8192x128_2_0_01_1_n_n none (subf (Host.divf (Host.reduceWindowAdd ![1, windowOf g, 1] ![1, 1, 1] ![0, windowOf g - 1, 0] ![0, 0, 0] P (broadcastInDim S_ ![] bcast_S_S_ (constant S_ .f32 0x00000000#32)) h h_S_) (broadcastInDim S8x8192x128 ![0, 1, 2] bcast_S1x8192x1_S8x8192x128_0_1_2 (broadcastInDim S1x8192x1 ![1] bcast_S8192_S1x8192x1_1 (sitofp .f32 (minsi (addi (res_main_v27 V0) (broadcastInDim S8192 ![] bcast_S_S8192 (constantI S_ 32 1#32))) (broadcastInDim S8192 ![] bcast_S_S8192 (constantI S_ 32 (BitVec.ofNat 32 (windowOf g))))))))) P) W)
      fun b s c => ∑ k : Fin 128, diffS A b s g k.val * A.pw g k.val c := by
  have hwin := fun b s e => window_at P (broadcastInDim S_ ![] bcast_S_S_ (constant S_ .f32 0x00000000#32)) (windowOf g) h _ hP b s e zero_bits
  generalize Host.reduceWindowAdd ![1, windowOf g, 1] ![1, 1, 1] ![0, windowOf g - 1, 0] ![0, 0, 0] P (broadcastInDim S_ ![] bcast_S_S_ (constant S_ .f32 0x00000000#32)) h h_S_ = R at hwin ⊢
  intro b s c
  pointwise [res_main_v27, S1, S2, S3, S4, S8x8192x128, S1x8192x1, S8192, S_, S128x128]
  have hc : (FloatOps.sitofp (F := Ideal) .f32 (IntOp.minsi (IntOp.addi (BitVec.ofNat 32 s.val) 1#32) (BitVec.ofNat 32 (windowOf g))) : EReal)
      = (((min (s.val + 1) (windowOf g) : ℕ) : ℝ) : EReal) := by
    have := count_word s ⟨g, hg⟩
    show (((IntOp.minsi (IntOp.addi (BitVec.ofNat 32 s.val) 1#32) (BitVec.ofNat 32 (windowOf g))).toInt : ℝ) : EReal) = _
    rw [this]
    norm_cast
  have hW' : ∀ x : Fin 128, W (ix2 x c) = A.pw g x.val c.val := fun x => hW x c
  simp only [hwin b s, hP b s, hW', hc]
  rfl

/-- The heads beside one another, scaled and gated. -/
theorem pool_at : At3 (A := 8) (B := 8192) (C := 512) (res_main_v93 V0) fun b s e => poolS (refArgs V0) b s (e / 128) (e % 128) := by
  have hps := argsOf_ps (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
  have hpw := argsOf_pw (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
  have key : ∀ (r0 r1 r2 r3 : FVec Ideal (S3 8 8192 128) .f32) (z : FVec Ideal (S3 8 8192 512) .f32) (p : FVec Ideal (S2 1 512) .f32) (f0 f1 f2 f3 f : ℕ → ℕ → ℕ → EReal) (π : ℕ → EReal),
      At3 r0 f0 → At3 r1 f1 → At3 r2 f2 → At3 r3 f3 → At3 z f → At2 p (fun _ => π) → ∀ (b : Fin 8) (s : Fin 8192) (e : Fin 512),
      mulf (mulf (concatenate S8x8192x512 2 [⟨S8x8192x128, r0⟩, ⟨S8x8192x128, r1⟩, ⟨S8x8192x128, r2⟩, ⟨S8x8192x128, r3⟩] concatenates_S8x8192x128_S8x8192x128_S8x8192x128_S8x8192x128_S8x8192x512_d2)
        (broadcastInDim S8x8192x512 ![0, 1, 2] bcast_S1x1x512_S8x8192x512_0_1_2 (broadcastInDim S1x1x512 ![2] bcast_S512_S1x1x512_2 (shapeCast S512 p shapeCasts_S1x512_S512)))) z (ix3 b s e)
      = (if e.val < 128 then f0 b s e else if e.val < 256 then f1 b s (e - 128) else if e.val < 384 then f2 b s (e - 256) else f3 b s (e - 384)) * π e * f b s e := by
    intro r0 r1 r2 r3 z p f0 f1 f2 f3 f π h0 h1 h2 h3 hz hp b s e
    pointwise [S1, S2, S3, S4, S8x8192x512, S8x8192x128, S1x1x512, S512]
    simp only [hz b s, hp 0]
    by_cases c0 : e.val < 128
    · rw [dif_pos c0, if_pos c0, h0 b s]
    rw [dif_neg c0, if_neg c0]
    by_cases c1 : e.val < 256
    · rw [dif_pos (by omega), if_pos c1, h1 b s]
    rw [dif_neg (by omega), if_neg c1]
    by_cases c2 : e.val < 384
    · rw [dif_pos (by omega), if_pos c2, h2 b s]
      rfl
    rw [dif_neg (by omega), if_neg c2, h3 b s]
    rfl
  have hv := v16_at V0
  have hs := silu_at (res_main_v17 V0) _ (v17_at V0)
  have slice : ∀ (g : ℕ) (hg : g < 4) (h : (S3 8 8192 512).Slices ![0, 0, g * 128] (S3 8 8192 128)),
      At3 (extractStridedSlice (S3 8 8192 128) ![0, 0, g * 128] (res_main_v16 V0 : FVec Ideal (S3 8 8192 512) .f32) h) fun b s c => pS (refArgs V0) b s (g * 128 + c) := by
    intro g hg h b s c
    generalize (res_main_v16 V0 : FVec Ideal (S3 8 8192 512) .f32) = w at hv ⊢
    refine (At3.at_ hv _).trans ?_
    show pS _ (0 + b.val) (0 + s.val) (g * 128 + c.val) = _
    rw [Nat.zero_add, Nat.zero_add]
  have wts : ∀ (g : ℕ) (hg : g < 4) (h : (S3 4 128 128).Slices ![g, 0, 0] (S3 1 128 128)),
      At2 (shapeCast S128x128 (extractStridedSlice (S3 1 128 128) ![g, 0, 0] (shapeCast S4x128x128 (V0 (Proc.devRef .tc main_arg3) : FVec Ideal (S4 1 4 128 128) .f32) shapeCasts_S1x4x128x128_S4x128x128) h) shapeCasts_S1x128x128_S128x128) ((refArgs V0).pw g) := by
    intro g hg h r c
    refine Eq.trans ?_ (hpw 0 ⟨g, hg⟩ r c)
    generalize (V0 (Proc.devRef .tc main_arg3) : FVec Ideal (S4 1 4 128 128) .f32) = w
    interval_cases g <;> pointwise [S1, S2, S3, S4, S128x128, S4x128x128]
  unfold res_main_v93
  intro b s e
  refine (key _ _ _ _ _ _ _ _ _ _ _ _
    (by exact pool_head V0 (refArgs V0) 0 (by decide) _ (slice 0 (by decide) _) _ (wts 0 (by decide) _) _)
    (by exact pool_head V0 (refArgs V0) 1 (by decide) _ (slice 1 (by decide) _) _ (wts 1 (by decide) _) _)
    (by exact pool_head V0 (refArgs V0) 2 (by decide) _ (slice 2 (by decide) _) _ (wts 2 (by decide) _) _)
    (by exact pool_head V0 (refArgs V0) 3 (by decide) _ (slice 3 (by decide) _) _ (wts 3 (by decide) _) _) hs hps b s e).trans ?_
  have split : ∀ g : ℕ, e.val / 128 = g → poolS (refArgs V0) b s (e.val / 128) (e.val % 128)
      = (∑ k : Fin 128, diffS (refArgs V0) b s g k.val * (refArgs V0).pw g k.val (e.val - g * 128)) * (refArgs V0).ps e.val * siluS (pS (refArgs V0) b s (512 + e.val)) := by
    intro g hg
    unfold poolS
    rw [hg, show e.val % 128 = e.val - g * 128 by omega, show g * 128 + (e.val - g * 128) = e.val by omega]
  by_cases c0 : e.val < 128
  · rw [if_pos c0]; exact (split 0 (by omega)).symm
  rw [if_neg c0]
  by_cases c1 : e.val < 256
  · rw [if_pos c1]; exact (split 1 (by omega)).symm
  rw [if_neg c1]
  by_cases c2 : e.val < 384
  · rw [if_pos c2]; exact (split 2 (by omega)).symm
  rw [if_neg c2]; exact (split 3 (by omega)).symm

end Cert.ReferenceIdeal

end
-- ==== Proof.ValueGather.lean ====
/-
  A row of the bias table taken at computed positions, read at an index.
-/
module

public import proofs.«01_k».proof.Proof.ValueArgs
public import proofs.«01_k».proof.Proof.Gen.ReferenceIdeal.Run
public import Idealize.ShloMosaic.Lib.Pointwise

@[expose] public section

noncomputable section

namespace Cert.ReferenceIdeal

open Idealize.ShloMosaic Cert.Spec Cert.Hybrid Cert.ReferenceIdeal.Gen Cert.ReferenceIdeal.Value

/-- The take reads the table at the position's number. -/
theorem gather_at (x : FVec Ideal (S2 8 129) .f32) (idx : IVec (S3 8192 8192 1) 32) (h : Fin 8) (s e : Fin 8192) (j : ℕ) (hj : j < 129)
    (hi : idx (ix3 s e 0) = BitVec.ofNat 32 j) :
    Host.gather gather_S8x129_S8192x8192x1_S8x8192x8192_0_1_n_n_1_2_81 x idx (ix3 h s e) = x (ix2 h ⟨j, hj⟩) := by
  unfold Host.gather
  refine congrArg x (funext fun a => Fin.ext ?_)
  match a with
  | ⟨0, _⟩ =>
    show GatherDims.start _ (ix3 h s e) idx 0 + GatherDims.batchCoord _ (ix3 h s e) 0 + GatherDims.offCoord _ (ix3 h s e) 0 = h.val
    rw [GatherDims.batchCoord_eq_zero _ _ _ (by exact List.not_mem_nil)]
    unfold GatherDims.start
    rw [dif_neg (by decide)]
    simp only [Nat.add_zero, Nat.zero_add]
    rfl
  | ⟨1, _⟩ =>
    have hm : (1 : Fin 2) ∈ gather_S8x129_S8192x8192x1_S8x8192x8192_0_1_n_n_1_2_81.startIndexMap := List.mem_singleton.2 rfl
    show GatherDims.start _ (ix3 h s e) idx 1 + GatherDims.batchCoord _ (ix3 h s e) 1 + GatherDims.offCoord _ (ix3 h s e) 1 = j
    rw [GatherDims.batchCoord_eq_zero _ _ _ (by exact List.not_mem_nil), GatherDims.offCoord_eq_zero _ _ _ (by decide)]
    simp only [Nat.add_zero]
    unfold GatherDims.start
    rw [dif_pos hm]
    have hsi : GatherDims.siIdx gather_S8x129_S8192x8192x1_S8x8192x8192_0_1_n_n_1_2_81 (ix3 h s e) ⟨List.idxOf 1 gather_S8x129_S8192x8192x1_S8x8192x8192_0_1_n_n_1_2_81.startIndexMap, List.idxOf_lt_length_iff.2 hm⟩ = ix3 s e 0 := by
      funext b
      match b with
      | ⟨0, _⟩ => rfl
      | ⟨1, _⟩ => rfl
      | ⟨2, _⟩ => rfl
    rw [hsi, hi]
    have hn : ∀ j : Fin 129, (BitVec.ofNat 32 j.val).toInt.toNat = j.val := by decide
    rw [hn ⟨j, hj⟩]
    show min j (129 - 1) = j
    omega

end Cert.ReferenceIdeal

end
-- ==== Proof.ValueMax.lean ====
/-
  The greatest of a row of scores is a real number where no score is +∞ and one is not -∞.
-/
module

public import proofs.«01_k».proof.Proof.ValueArgs
public import proofs.«01_k».proof.Proof.Gen.ReferenceIdeal.Run
public import Idealize.ShloMosaic.Lib.Pointwise

@[expose] public section

noncomputable section

namespace Cert.ReferenceIdeal

open Idealize.ShloMosaic Cert.Spec Cert.Hybrid Cert.ReferenceIdeal.Gen Cert.ReferenceIdeal.Value

/-- A row's greatest score. -/
theorem max_at (w : FVec Ideal (S4 8 8 8192 8192) .f32) (b h : Fin 8) (s e₀ : Fin 8192) (ht : ∀ i, w i ≠ ⊤) (hb : w (ix4 b h s e₀) ≠ ⊥) :
    ∃ μ : ℝ, (Host.reduce FloatOps.maximumf w (constant S_ .f32 0xFF800000#32) reducesTo_S8x8x8192x8192_S8x8x8192_d3 h_S_) (ix3 b h s) = (μ : EReal) := by
  rw [Host.reduce_eq_fold]
  have e0 : (constant (F := Ideal) S_ .f32 0xFF800000#32) (Shape.Idx.first h_S_) = (⊥ : EReal) := by
    show Ideal.ofBits .f32 0xFF800000#32 = ⊥
    simp [Ideal.ofBits, Ideal.ieee]
  rw [e0]
  have hlt : Finset.fold FloatOps.maximumf (⊥ : EReal) w {i | reducesTo_S8x8x8192x8192_S8x8x8192_d3.drop i = ix3 b h s} < ⊤ :=
    (Finset.fold_max_lt (⊤ : EReal)).2 ⟨bot_lt_top, fun i _ => lt_top_iff_ne_top.2 (ht i)⟩
  have hgt : ⊥ < Finset.fold FloatOps.maximumf (⊥ : EReal) w {i | reducesTo_S8x8x8192x8192_S8x8x8192_d3.drop i = ix3 b h s} := by
    refine (Finset.lt_fold_max (⊥ : EReal)).2 (.inr ⟨ix4 b h s e₀, Finset.mem_filter.2 ⟨Finset.mem_univ _, ?_⟩, bot_lt_iff_ne_bot.2 hb⟩)
    funext a
    apply Fin.ext
    match a with
    | ⟨0, _⟩ => rfl
    | ⟨1, _⟩ => rfl
    | ⟨2, _⟩ => rfl
  exact ⟨_, (EReal.coe_toReal hlt.ne hgt.ne').symm⟩
/-- A row's exponentials from its greatest score. -/
theorem exp_at (p : FVec Ideal (S4 8 8 8192 8192) .f32) (m : FVec Ideal (S3 8 8 8192) .f32) (b h : Fin 8) (q k : Fin 8192) :
    Host.exp (subf p (broadcastInDim S8x8x8192x8192 ![0, 1, 2, 3] bcast_S8x8x8192x1_S8x8x8192x8192_0_1_2_3 (broadcastInDim S8x8x8192x1 ![0, 1, 2] bcast_S8x8x8192_S8x8x8192x1_0_1_2 m))) (ix4 b h q k)
      = Ideal.exp (p (ix4 b h q k) - m (ix3 b h q)) := by
  pointwise [S1, S2, S3, S4, S8x8x8192x8192, S8x8x8192x1, S8x8x8192, S_]

theorem floor_at (z : FVec Ideal S_ .f32) (hz : z ix0 = (⊥ : EReal)) (m : FVec Ideal (S3 8 8 8192) .f32) (i : (S3 8 8 8192).Idx) :
    maximumf (broadcastInDim S8x8x8192 ![] bcast_S_S8x8x8192 z) m i = m i := by
  show max (z _) (m i) = _
  rw [show ∀ i, z i = z ix0 from fun i => congrArg z (funext fun a => a.elim0), hz]
  exact max_eq_right bot_le

theorem bot_at : constant (F := Ideal) S_ .f32 0xFF800000#32 ix0 = (⊥ : EReal) := by
  show Ideal.ofBits .f32 0xFF800000#32 = ⊥
  simp [Ideal.ofBits, Ideal.ieee]

/-- The exponentials of a row of scores, of which one is not -∞: from some real number. -/
theorem exps_of (p : FVec Ideal (S4 8 8 8192 8192) .f32) (b h : Fin 8) (q e₀ : Fin 8192) (ht : ∀ i, p i ≠ ⊤) (hb : p (ix4 b h q e₀) ≠ ⊥) :
    ∃ μ : ℝ, ∀ k : Fin 8192, Host.exp (subf p (broadcastInDim S8x8x8192x8192 ![0, 1, 2, 3] bcast_S8x8x8192x1_S8x8x8192x8192_0_1_2_3 (broadcastInDim S8x8x8192x1 ![0, 1, 2] bcast_S8x8x8192_S8x8x8192x1_0_1_2 (maximumf (broadcastInDim S8x8x8192 ![] bcast_S_S8x8x8192 (constant S_ .f32 0xFF800000#32)) (Host.reduce FloatOps.maximumf p (constant S_ .f32 0xFF800000#32) reducesTo_S8x8x8192x8192_S8x8x8192_d3 h_S_))))) (ix4 b h q k)
      = Ideal.exp (p (ix4 b h q k) - μ) := by
  obtain ⟨μ, hμ⟩ := max_at p b h q e₀ ht hb
  refine ⟨μ, fun k => (exp_at p _ b h q k).trans ?_⟩
  rw [floor_at _ bot_at, hμ]

end Cert.ReferenceIdeal

end
-- ==== Proof.ValueRefAttn.lean ====
/-
  The reference's attention at an index: the mean of the values a query sees, by the exponentials of its scores.
-/
module

public import proofs.«01_k».proof.Proof.ValueRef
public import proofs.«01_k».proof.Proof.ValueGather
public import proofs.«01_k».proof.Proof.ValueMax

@[expose] public section

noncomputable section

namespace Cert.ReferenceIdeal

open Idealize.ShloMosaic Cert.Spec Cert.Hybrid Cert.ReferenceIdeal.Gen Cert.ReferenceIdeal.Value

variable (V0 : Valuation τ sig (Elt Ideal))

/-- The mask over queries and keys. -/
theorem mask_at (q k : Fin 8192) : (andi (cmpi .sge (res_main_v112 V0) (broadcastInDim S8192x8192 ![] bcast_S_S8192x8192 (constantI S_ 32 0#32))) (cmpi .sle (res_main_v112 V0) (broadcastInDim S8192x8192 ![] bcast_S_S8192x8192 (constantI S_ 32 8#32)))) (ix2 q k)
    = if seen q.val k.val then 1#1 else 0#1 := by
  refine Eq.trans ?_ (seen_word q k)
  pointwise [res_main_v112, res_main_v96, res_main_v98, S1, S2, S3, S4, S8192x8192, S_, S8192x1, S1x8192, S8192]

/-- The bias table's row for a query and a key. -/
theorem row_at (q k : Fin 8192) : (addi (minsi (broadcastInDim S8192x8192 ![] bcast_S_S8192x8192 (id (constantI S_ 32 64#32))) (maxsi (broadcastInDim S8192x8192 ![] bcast_S_S8192x8192 (id (constantI S_ 32 4294967232#32))) (subi (broadcastInDim S8192x8192 ![0, 1] bcast_S1x8192_S8192x8192_0_1 (res_main_v98 V0)) (broadcastInDim S8192x8192 ![0, 1] bcast_S8192x1_S8192x8192_0_1 (res_main_v96 V0))))) (broadcastInDim S8192x8192 ![] bcast_S_S8192x8192 (constantI S_ 32 64#32))) (ix2 q k)
    = BitVec.ofNat 32 (min 128 (k.val + 64 - q.val)) := by
  refine Eq.trans ?_ (dist_word q k)
  pointwise [res_main_v112, res_main_v96, res_main_v98, S1, S2, S3, S4, S8192x8192, S_, S8192x1, S1x8192, S8192]
  rfl

/-- The bias over queries and keys. -/
theorem bias_at (w : FVec Ideal (S3 1 8 129) .f32) (rb : ℕ → ℕ → EReal) (hw : At3 w fun _ => rb) (i : IVec (S2 8192 8192) 32)
    (hi : ∀ q k : Fin 8192, i (ix2 q k) = BitVec.ofNat 32 (min 128 (k.val + 64 - q.val))) :
    At3 (A := 8) (B := 8192) (C := 8192) (Host.gather gather_S8x129_S8192x8192x1_S8x8192x8192_0_1_n_n_1_2_81 (shapeCast S8x129 w shapeCasts_S1x8x129_S8x129) (broadcastInDim S8192x8192x1 ![0, 1] bcast_S8192x8192_S8192x8192x1_0_1 i))
      fun h q k => rb h (min 128 (k + 64 - q)) := by
  intro h q k
  refine (gather_at _ _ h q k (min 128 (k.val + 64 - q.val)) (by omega) ?_).trans ?_
  · refine Eq.trans ?_ (hi q k)
    pointwise [S1, S2, S3, S4, S8192x8192, S8192x8192x1]
  · refine Eq.trans ?_ (hw 0 h ⟨min 128 (k.val + 64 - q.val), by omega⟩)
    pointwise [S1, S2, S3, S4, S8x129]

theorem eighth_bits : Ideal.ofBits .f32 0x3E000000#32 = ((1 / 8 : ℝ) : EReal) := by
  simp [Ideal.ofBits, Ideal.ieee]
  rw [← EReal.coe_mul]; norm_num

theorem bot_bits : Ideal.ofBits .f32 0xFF800000#32 = (⊥ : EReal) := by
  simp [Ideal.ofBits, Ideal.ieee]

/-- The masked scores. -/
theorem scores_of (A : Args) (hA : A.Finite) (P : FVec Ideal (S3 8 8192 3072) .f32) (hP : At3 P (pS A)) (M : IVec (S2 8192 8192) 1)
    (hM : ∀ q k : Fin 8192, M (ix2 q k) = if seen q.val k.val then 1#1 else 0#1) (G : FVec Ideal (S3 8 8192 8192) .f32)
    (hG : At3 G fun h q k => A.rb h (min 128 (k + 64 - q))) (b h : Fin 8) (q k : Fin 8192) :
    select (broadcastInDim S8x8x8192x8192 ![0, 1, 2, 3] bcast_S1x1x8192x8192_S8x8x8192x8192_0_1_2_3 (broadcastInDim S1x1x8192x8192 ![2, 3] bcast_S8192x8192_S1x1x8192x8192_2_3 M)) (addf (mulf (Host.dotGeneral dot_S8x8192x8x64_S8x8192x8x64_S8x8x8192x8192_3_3_1_1_02_02 none (shapeCast S8x8192x8x64 (extractStridedSlice S8x8192x512 ![0, 0, 1024] P slices_S8x8192x3072_S8x8192x512_0_0_1024) shapeCasts_S8x8192x512_S8x8192x8x64) (shapeCast S8x8192x8x64 (extractStridedSlice S8x8192x512 ![0, 0, 1536] P slices_S8x8192x3072_S8x8192x512_0_0_1536) shapeCasts_S8x8192x512_S8x8192x8x64)) (broadcastInDim S8x8x8192x8192 ![] bcast_S_S8x8x8192x8192 (constant S_ .f32 0x3E000000#32))) (broadcastInDim S8x8x8192x8192 ![0, 1, 2, 3] bcast_S1x8x8192x8192_S8x8x8192x8192_0_1_2_3 (broadcastInDim S1x8x8192x8192 ![1, 2, 3] bcast_S8x8192x8192_S1x8x8192x8192_1_2_3 G))) (broadcastInDim S8x8x8192x8192 ![] bcast_S_S8x8x8192x8192 (id (constant S_ .f32 0xFF800000#32))) (ix4 b h q k)
      = Soft.score (seen q.val k.val) (scoreR A b h q k) := by
  pointwise [S1, S2, S3, S4, S8x8x8192x8192, S1x1x8192x8192, S8x8192x8x64, S8x8192x512, S1x8x8192x8192, S8x8192x8192, S_]
  have hk : ∀ (κ : EReal) (hκ : κ = (⊥ : EReal)) (x : EReal), x = (scoreR A b h q k : EReal) → Scalar.select (M (ix2 q k)) x κ = Soft.score (seen q.val k.val) (scoreR A b h q k) := by
    intro κ hκ x hx
    rw [hM, hκ, hx]
    unfold Soft.score
    split
    · exact sel_one
    · exact sel_zero
  refine hk _ bot_bits _ ?_
  obtain ⟨r, hr⟩ := hA.rb h.val (min 128 (k.val + 64 - q.val))
  have hP' : ∀ (i : Fin 8192) (e : Fin 3072), P (ix3 b i e) = (pR A b.val i.val e.val : EReal) := fun i e => (hP b i e).trans (pS_coe A hA _ _ _)
  rw [hG h q k, eighth_bits]
  unfold scoreR
  simp only [hP', hr, ← EReal.coe_mul, ← Soft.coe_sum, ← EReal.coe_add, EReal.toReal_coe]

/-- The values' mean. -/
theorem mean_of (P : FVec Ideal (S3 8 8192 3072) .f32) (f : ℕ → ℕ → ℕ → EReal) (hP : At3 P f) (E : FVec Ideal (S4 8 8 8192 8192) .f32) (b : Fin 8) (s : Fin 8192) (e : Fin 512) :
    shapeCast S8x8192x512 (transpose S8x8192x8x64 [0, 3, 1, 2] (Host.dotGeneral dot_S8x8192x8x64_S8x8x8192x8192_S8x8x64x8192_1_3_3_2_02_01 none (shapeCast S8x8192x8x64 (extractStridedSlice S8x8192x512 ![0, 0, 2048] P slices_S8x8192x3072_S8x8192x512_0_0_2048) shapeCasts_S8x8192x512_S8x8192x8x64) (Host.divf E (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduceAdd E (constant S_ .f32 0x00000000#32) reducesTo_S8x8x8192x8192_S8x8x8192_d3 h_S_))))) transposes_S8x8x64x8192_S8x8192x8x64_0_3_1_2) shapeCasts_S8x8192x8x64_S8x8192x512 (ix3 b s e)
      = ∑ k : Fin 8192, f b.val k.val (2048 + (e.val / 64 * 64 + e.val % 64)) * Ideal.div (E (ix4 b ⟨e.val / 64, by omega⟩ s k)) (∑ j : Fin 8192, E (ix4 b ⟨e.val / 64, by omega⟩ s j)) := by
  pointwise [S1, S2, S3, S4, S8x8x8192x8192, S8x8x8192x1, S8x8x8192, S8x8192x8x64, S8x8192x512, S8x8x64x8192, S_]
  simp only [fun k : Fin 8192 => hP b k, show e.val / 64 * 64 + e.val % 64 = e.val by omega]

end Cert.ReferenceIdeal

end
-- ==== Proof.ValueRefOut.lean ====
/-
  The reference's result at an index.
-/
module

public import proofs.«01_k».proof.Proof.ValueRefAttn

@[expose] public section

noncomputable section

namespace Cert.ReferenceIdeal

open Idealize.ShloMosaic Cert.Spec Cert.Hybrid Cert.ReferenceIdeal.Gen Cert.ReferenceIdeal.Value

variable (V0 : Valuation τ sig (Elt Ideal))

theorem v125_at (hA : (refArgs V0).Finite) (b h : Fin 8) (q k : Fin 8192) :
    (res_main_v125 V0 : FVec Ideal (S4 8 8 8192 8192) .f32) (ix4 b h q k) = Soft.score (seen q.val k.val) (scoreR (refArgs V0) b h q k) := by
  have hrb := argsOf_rb (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
  unfold res_main_v125
  exact scores_of (refArgs V0) hA _ (v15_at V0) _ (mask_at V0) _ (bias_at _ _ hrb _ (row_at V0)) b h q k

theorem seen_self (q : ℕ) : seen q q := ⟨le_rfl, by omega⟩

theorem v132_at (hA : (refArgs V0).Finite) (b h : Fin 8) (q : Fin 8192) :
    ∃ μ : ℝ, ∀ k : Fin 8192, (res_main_v132 V0 : FVec Ideal (S4 8 8 8192 8192) .f32) (ix4 b h q k) = Ideal.exp (Soft.score (seen q.val k.val) (scoreR (refArgs V0) b h q k) - μ) := by
  have hs := v125_at V0 hA
  have ht : ∀ i, (res_main_v125 V0 : FVec Ideal (S4 8 8 8192 8192) .f32) i ≠ (⊤ : EReal) := by
    intro i
    have e : i = ix4 (i 0) (i 1) (i 2) (i 3) := by
      funext a
      match a with
      | ⟨0, _⟩ => rfl
      | ⟨1, _⟩ => rfl
      | ⟨2, _⟩ => rfl
      | ⟨3, _⟩ => rfl
    rw [e]
    refine (hs (i 0) (i 1) (i 2) (i 3)).trans_ne ?_
    unfold Soft.score
    split
    · exact EReal.coe_ne_top _
    · exact bot_ne_top (α := EReal)
  have hb : (res_main_v125 V0 : FVec Ideal (S4 8 8 8192 8192) .f32) (ix4 b h q q) ≠ (⊥ : EReal) := by
    refine (hs b h q q).trans_ne ?_
    rw [Soft.score, if_pos (seen_self _)]
    exact EReal.coe_ne_bot _
  obtain ⟨μ, hμ⟩ := exps_of (res_main_v125 V0) b h q q ht hb
  refine ⟨μ, fun k => ?_⟩
  unfold res_main_v132
  exact (hμ k).trans (by rw [hs b h q k])

/-- The attention. -/
theorem att_at (hA : (refArgs V0).Finite) : At3 (A := 8) (B := 8192) (C := 512)
    (shapeCast S8x8192x512 (transpose S8x8192x8x64 [0, 3, 1, 2] (Host.dotGeneral dot_S8x8192x8x64_S8x8x8192x8192_S8x8x64x8192_1_3_3_2_02_01 none (shapeCast S8x8192x8x64 (extractStridedSlice S8x8192x512 ![0, 0, 2048] (res_main_v15 V0) slices_S8x8192x3072_S8x8192x512_0_0_2048) shapeCasts_S8x8192x512_S8x8192x8x64) (Host.divf (res_main_v132 V0) (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduceAdd (res_main_v132 V0) (constant S_ .f32 0x00000000#32) reducesTo_S8x8x8192x8192_S8x8x8192_d3 h_S_))))) transposes_S8x8x64x8192_S8x8192x8x64_0_3_1_2) shapeCasts_S8x8192x8x64_S8x8192x512)
      fun b s e => attS (refArgs V0) b (e / 64) s (e % 64) := by
  intro b s e
  have he : e.val / 64 < 8 := by omega
  refine (mean_of (res_main_v15 V0) _ (v15_at V0) (res_main_v132 V0) b s e).trans ?_
  obtain ⟨μ, hμ⟩ := v132_at V0 hA b ⟨e.val / 64, he⟩ s
  simp only [hμ, pS_coe _ hA]
  refine Eq.trans (Finset.sum_congr rfl fun k _ => mul_comm _ _) ?_
  exact Soft.exp_mean (fun k : Fin 8192 => seen s.val k.val) (fun k => scoreR (refArgs V0) b (e.val / 64) s k.val) (fun k => pR (refArgs V0) b k.val (2048 + (e.val / 64 * 64 + e.val % 64))) s (seen_self _) μ

/-- The heads' outputs through the output weights, onto the input. -/
theorem out_of (x : FVec Ideal (S3 8 8192 1024) .f32) (u v : FVec Ideal (S3 8 8192 512) .f32) (w : FVec Ideal (S3 1 1024 1024) .f32) (fx fu fv : ℕ → ℕ → ℕ → EReal) (k : ℕ → ℕ → EReal)
    (hx : At3 x fx) (hu : At3 u fu) (hv : At3 v fv) (hw : At3 w fun _ => k) : At3 (A := 8) (B := 8192) (C := 1024)
    (addf x (Host.dotGeneral dot_S8x8192x1024_S1024x1024_S8x8192x1024_2_0_01_1_n_n none (concatenate S8x8192x1024 2 [⟨S8x8192x512, u⟩, ⟨S8x8192x512, v⟩] concatenates_S8x8192x512_S8x8192x512_S8x8192x1024_d2) (shapeCast S1024x1024 w shapeCasts_S1x1024x1024_S1024x1024)))
      fun b s d => fx b s d + ∑ e : Fin 1024, (if e.val < 512 then fu b s e else fv b s (e - 512)) * k e d := by
  intro b s d
  pointwise [S1, S2, S3, S4, S8x8192x1024, S8x8192x512, S1024x1024]
  rw [hx b s d]
  simp only [hu b s, hv b s, hw 0 _ d]

theorem v145_at (hA : (refArgs V0).Finite) : At3 (A := 8) (B := 8192) (C := 1024) (res_main_v145 V0) (resS (refArgs V0)) := by
  have hx := argsOf_x (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
  have hw := argsOf_wo (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
  have ha := att_at V0 hA
  have hs := silu_at (res_main_v24 V0) _ (v24_at V0)
  have hg : ∀ (u v : FVec Ideal (S3 8 8192 512) .f32) (f g : ℕ → ℕ → ℕ → EReal), At3 u f → At3 v g → At3 (mulf u v) fun b s e => f b s e * g b s e := by
    intro u v f g hu hv b s e
    show (u (ix3 b s e) * v (ix3 b s e) : EReal) = _
    rw [hu b s e, hv b s e]
  have h := out_of _ _ _ _ _ _ _ _ hx (pool_at V0) (hg _ _ _ _ ha hs) hw
  unfold res_main_v145
  exact h

/-- The reference's result. -/
theorem ref_at (hA : (refArgs V0).Finite) : At3 (A := 8) (B := 8192) (C := 1024)
    (mulf (mulf (res_main_v145 V0) (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf (res_main_v145 V0) (res_main_v145 V0)) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (V0 (Proc.devRef .tc main_arg7)))))
      (outS (refArgs V0)) :=
  rms_at _ _ _ _ (v145_at V0 hA) (argsOf_gOut (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7)))

end Cert.ReferenceIdeal

end
-- ==== Proof.Algebraic.lean ====
/-
  The kernel's and the reference's results are one array.
-/
module

public import proofs.«01_k».proof.Proof.Finite
public import proofs.«01_k».proof.Proof.ValueKernel
public import proofs.«01_k».proof.Proof.ValueRefOut
public import proofs.«01_k».proof.Defs

@[expose] public section

noncomputable section

namespace Cert.Proof

open Idealize.ShloMosaic Idealize.SL.Sem Cert.Spec Cert.Hybrid

theorem at3_ext {α : Type} {A B C : ℕ} {u v : (S3 A B C).Idx → α} {f : ℕ → ℕ → ℕ → α} (hu : At3 u f) (hv : At3 v f) : u = v :=
  funext fun i => (hu.at_ i).trans (hv.at_ i).symm

theorem algebraic_all : @Cert.algebraic_KernelIdeal_ReferenceIdeal_pre_finite_weights Cert.KernelIdeal.Gen.facts Cert.ReferenceIdeal.Gen.facts Cert.Pre_finite_weights.facts_hold := by
  intro m g m' g' hp ha
  have hF : ∀ c, (Cert.KernelIdeal.args_ m c).Finite := fun c => @Cert.Pre_finite_weights.finite_of Cert.Pre_finite_weights.facts_hold _ _ _ _ _ _ _ _ (hp c)
  have hE : ∀ c : Dev Cert.KernelIdeal.nD, Cert.ReferenceIdeal.refArgs (StableHlo.launchContents m' c) = Cert.KernelIdeal.args_ m c := by
    intro c
    obtain ⟨h0, h1, h2, h3, h4, h5, h6, h7⟩ := ha c
    exact (congr (congr (congr (congr (congr (congr (congr (congrArg argsOf h0) h1) h2) h3) h4) h5) h6) h7)
  refine ⟨fun c => Cert.KernelIdeal.result m c, θ_run_mono (Cert.KernelIdeal.run_main (F := Ideal) m g) fun r h c => ?_, θ_run_mono (Cert.ReferenceIdeal.Value.run (F := Ideal) m' g') fun r h c => ?_⟩
  · have a := (h.1 c).2
    exact ⟨(h.1 c).1, a _ (by decide), a _ (by decide), a _ (by decide), a _ (by decide), a _ (by decide), a _ (by decide), a _ (by decide), a _ (by decide)⟩
  · refine ⟨(h c).1.trans ?_, (h c).2⟩
    have hr := Cert.ReferenceIdeal.ref_at (StableHlo.launchContents m' c) (by rw [hE c]; exact hF c)
    rw [hE c] at hr
    exact at3_ext hr (Cert.KernelIdeal.result_at m c (hF c))

end Cert.Proof

end
-- ==== Proof.Mirror.lean ====
/-
  The printed kernel functions are the commands of `Body`.
-/
module

public import proofs.«01_k».proof.Proof.Body
public import proofs.«01_k».proof.Kernel
public import proofs.«01_k».proof.Proof.Gen.Kernel
public import Idealize.ShloMosaic.Lib.Tactic

@[expose] public section

noncomputable section

namespace Cert.Kernel

open Idealize.ShloMosaic Idealize.SL.Sem Cert.Hybrid

variable {F : FTy → Type} [FloatOps F]

/-- The program's constants. -/
def consts : Consts F where
  mask := Scalar.ofBits .f32 0xF149F2CA#32
  log2e := Scalar.ofBits .f32 0x3FB8AA3B#32
  qscale := Scalar.ofBits .f32 0x3E38AA3B#32

theorem prep_eq (i : grid0.Coords) (m : (b : PSlot) → Memref sig .tc .vmem b.sh b.el) (hm : ∀ b, (m b).IsWhole) :
    cc0_prepare_params (F := F) i (m .wIn) (hm .wIn) (m .wOut) (hm .wOut) (m .poolW) (hm .poolW) (m .rel) (hm .rel)
      (m .main) (hm .main) (m .qvt) (hm .qvt) (m .out) (hm .out) (m .pool) (hm .pool) (m .bias) (hm .bias)
      = (prep consts (decide (k0_cond1 i = 1#1))).denote m hm := by
  unfold cc0_prepare_params
  by_cases h : k0_cond1 i = 1#1
  · rw [decide_eq_true h]
    simp only [dif_pos h]
    sl_kernel_rfl
  · rw [decide_eq_false h]
    simp only [dif_neg h]
    sl_kernel_rfl

/-- The test for a sequence's first tile. -/
abbrev isFirst (i : grid1.Coords) : BitVec 1 :=
  Scalar.cmpi .ne (Scalar.extui (Scalar.cmpi .eq (BitVec.ofNat 32 (i 1).val) (0#32)) : BitVec 32) (0#32)

theorem block_eq (i : grid1.Coords) (m : (b : Slot) → Memref sig .tc .vmem b.sh b.el) (hm : ∀ b, (m b).IsWhole) :
    cc1_hybrid_block (F := F) i (m .x) (hm .x) (m .gIn) (hm .gIn) (m .wMain) (hm .wMain) (m .wQvt) (hm .wQvt) (m .poolW) (hm .poolW) (m .poolScale) (hm .poolScale) (m .bias) (hm .bias) (m .wOut) (hm .wOut) (m .gOut) (hm .gOut) (m .out) (hm .out) (m .h) (hm .h) (m .k) (hm .k) (m .ind) (hm .ind) (m .vt) (hm .vt) (m .qt) (hm .qt) (m .gate) (hm .gate) (m .pgate) (hm .pgate) (m .y) (hm .y) (m .pv) (hm .pv) (m .s) (hm .s) (m .m) (hm .m)
      = (block consts (decide (isFirst i = 1#1)) (BitVec.ofNat 32 (i 1).val)).denote m hm := by
  unfold cc1_hybrid_block k1_part103 k1_part2
  by_cases h : isFirst i = 1#1
  · rw [decide_eq_true h]
    simp only [dif_pos h]
    sl_kernel_rfl
  · rw [decide_eq_false h]
    simp only [dif_neg h]
    sl_kernel_rfl

end Cert.Kernel

end
-- ==== Proof.Frames.lean ====
/-
  The frames of the two kernel programs, in the words of the claims.
-/
module

public import proofs.«01_k».proof.Proof.RunIdeal
public import proofs.«01_k».proof.Proof.RunKernel
public import proofs.«01_k».proof.Defs
public import Idealize.ShloMosaic.Lib.StableHlo.RunHlo

@[expose] public section

noncomputable section

namespace Cert.Proof

open Idealize.ShloMosaic Idealize.ShloMosaic.TcCoe Idealize.SL.Sem

theorem frame_Kernel : @Cert.quiescent_Kernel Cert.Kernel.Gen.facts := fun m g _ =>
  θ_run_mono (Cert.Kernel.run_main (F := Bits) m g) fun r h => ⟨fun c => by
    have a := (h.1 c).2
    exact ⟨a _ (by decide), a _ (by decide), a _ (by decide), a _ (by decide), a _ (by decide), a _ (by decide), a _ (by decide), a _ (by decide)⟩, h.2⟩

theorem frame_KernelIdeal : @Cert.quiescent_KernelIdeal Cert.KernelIdeal.Gen.facts := fun m g _ =>
  θ_run_mono (Cert.KernelIdeal.run_main (F := Ideal) m g) fun r h => ⟨fun c => by
    have a := (h.1 c).2
    exact ⟨a _ (by decide), a _ (by decide), a _ (by decide), a _ (by decide), a _ (by decide), a _ (by decide), a _ (by decide), a _ (by decide)⟩, h.2⟩

end Cert.Proof

end
-- ==== Proof.lean ====
/-
  The claims, put together.
-/
module

public import proofs.«01_k».proof.Proof.Algebraic
public import proofs.«01_k».proof.Proof.Frames
public import proofs.«01_k».proof.Proof.Gen.ReferenceIdeal.Run
public import Idealize.ShloMosaic.Lib.Quiescent
public import Idealize.ShloMosaic.Lib.StableHlo.RunHlo

@[expose] public section

noncomputable section

namespace Cert.Proof

open Idealize.ShloMosaic Idealize.SL.Sem

theorem frame_ReferenceIdeal : @Cert.quiescent_ReferenceIdeal Cert.ReferenceIdeal.Gen.facts := fun m g _ =>
  θ_run_mono (Cert.ReferenceIdeal.Value.run (F := Ideal) m g) fun r h => ⟨fun c => (h c).2, sem_eq_zero_of_no_sems (by decide) r.2⟩

theorem preserves_all : Cert.preserves_Kernel_KernelIdeal :=
  ⟨IdealRules.named_const.statement _ "log2e" .f32 0x3FB8AA3B#32 _ rfl, IdealRules.named_const.statement _ "q_scale" .f32 0x3E38AA3B#32 _ rfl,
    IdealRules.named_const.statement _ "mask" .f32 0xF149F2CA#32 _ rfl⟩

theorem claim : Cert.Claim :=
  ⟨Cert.Kernel.Gen.facts, Cert.KernelIdeal.Gen.facts, Cert.ReferenceIdeal.Gen.facts, Cert.Pre_finite_weights.facts_hold, frame_Kernel, frame_KernelIdeal,
    fun m g _ => frame_KernelIdeal m g trivial, frame_ReferenceIdeal, fun m g _ => frame_ReferenceIdeal m g trivial, preserves_all, algebraic_all⟩

end Cert.Proof

end
